-- ==== Defs.lean ====
def Pre_Gather [hPre_winners_in_range : Cert.Pre_winners_in_range.Facts] (m : (ℓ : Loc Cert.Gather.nD Cert.Gather.τ Cert.Gather.sig) → Buf (Elt Bits) ℓ) : Prop :=
  ∀ c : Dev Cert.Gather.nD,
    (Cert.Pre_winners_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_winners_in_range : Cert.Pre_winners_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_winners_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_ColumnsIdeal (m : (ℓ : Loc Cert.ColumnsIdeal.nD Cert.ColumnsIdeal.τ Cert.ColumnsIdeal.sig) → Buf (Elt Ideal) ℓ) : Prop :=
  True

def Pre_ColumnsIdeal_winners_in_range [hPre_winners_in_range : Cert.Pre_winners_in_range.Facts] (m : (ℓ : Loc Cert.ColumnsIdeal.nD Cert.ColumnsIdeal.τ Cert.ColumnsIdeal.sig) → Buf (Elt Ideal) ℓ) : Prop :=
  ∀ c : Dev Cert.ColumnsIdeal.nD,
    (Cert.Pre_winners_in_range.fn (F := Ideal) (m ((c.tc : Thread Cert.ColumnsIdeal.nD Cert.ColumnsIdeal.τ).loc Cert.ColumnsIdeal.main_arg0)) (m ((c.tc : Thread Cert.ColumnsIdeal.nD Cert.ColumnsIdeal.τ).loc Cert.ColumnsIdeal.main_arg1))) = (fun _ => 1#1)

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Gather [hGather : Cert.Gather.Facts] [hPre_winners_in_range : Cert.Pre_winners_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_winners_in_range : Cert.Pre_winners_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_ColumnsIdeal [hColumnsIdeal : Cert.ColumnsIdeal.Facts] : Prop :=
  ∀ (m : (ℓ : Loc Cert.ColumnsIdeal.nD Cert.ColumnsIdeal.τ Cert.ColumnsIdeal.sig) → Buf (Elt Ideal) ℓ) (g : Dev Cert.ColumnsIdeal.nD → PrngReg), Pre_ColumnsIdeal m →
    θ_run (Cert.ColumnsIdeal.defs (F := Ideal)) (onTc (τ := Cert.ColumnsIdeal.τ) (Cert.ColumnsIdeal.main (F := Ideal))) ⟨m, fun _ => 0, g⟩ (fun r => (∀ c : Dev Cert.ColumnsIdeal.nD,
      r.2.mem ((c.tc : Thread Cert.ColumnsIdeal.nD Cert.ColumnsIdeal.τ).loc Cert.ColumnsIdeal.main_arg0) = m ((c.tc : Thread Cert.ColumnsIdeal.nD Cert.ColumnsIdeal.τ).loc Cert.ColumnsIdeal.main_arg0)
      ∧ r.2.mem ((c.tc : Thread Cert.ColumnsIdeal.nD Cert.ColumnsIdeal.τ).loc Cert.ColumnsIdeal.main_arg1) = m ((c.tc : Thread Cert.ColumnsIdeal.nD Cert.ColumnsIdeal.τ).loc Cert.ColumnsIdeal.main_arg1))
      ∧ r.2.sem = fun _ => 0)

def quiescent_ColumnsIdeal_pre_winners_in_range [hColumnsIdeal : Cert.ColumnsIdeal.Facts] [hPre_winners_in_range : Cert.Pre_winners_in_range.Facts] : Prop :=
  ∀ (m : (ℓ : Loc Cert.ColumnsIdeal.nD Cert.ColumnsIdeal.τ Cert.ColumnsIdeal.sig) → Buf (Elt Ideal) ℓ) (g : Dev Cert.ColumnsIdeal.nD → PrngReg), Pre_ColumnsIdeal_winners_in_range m →
    θ_run (Cert.ColumnsIdeal.defs (F := Ideal)) (onTc (τ := Cert.ColumnsIdeal.τ) (Cert.ColumnsIdeal.main (F := Ideal))) ⟨m, fun _ => 0, g⟩ (fun r => (∀ c : Dev Cert.ColumnsIdeal.nD,
      r.2.mem ((c.tc : Thread Cert.ColumnsIdeal.nD Cert.ColumnsIdeal.τ).loc Cert.ColumnsIdeal.main_arg0) = m ((c.tc : Thread Cert.ColumnsIdeal.nD Cert.ColumnsIdeal.τ).loc Cert.ColumnsIdeal.main_arg0)
      ∧ r.2.mem ((c.tc : Thread Cert.ColumnsIdeal.nD Cert.ColumnsIdeal.τ).loc Cert.ColumnsIdeal.main_arg1) = m ((c.tc : Thread Cert.ColumnsIdeal.nD Cert.ColumnsIdeal.τ).loc Cert.ColumnsIdeal.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Gather_GatherIdeal : Prop :=
  True

def algebraic_GatherIdeal_ColumnsIdeal [hGatherIdeal : Cert.GatherIdeal.Facts] [hColumnsIdeal : Cert.ColumnsIdeal.Facts] [hPre_winners_in_range : Cert.Pre_winners_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.ColumnsIdeal.nD Cert.ColumnsIdeal.τ Cert.ColumnsIdeal.sig) → Buf (Elt Ideal) ℓ) (g' : Dev Cert.ColumnsIdeal.nD → PrngReg), Pre_GatherIdeal m →
    (∀ c : Dev Cert.GatherIdeal.nD,
      m' ((c.tc : Thread Cert.ColumnsIdeal.nD Cert.ColumnsIdeal.τ).loc Cert.ColumnsIdeal.main_arg0) = m ((c.tc : Thread Cert.GatherIdeal.nD Cert.GatherIdeal.τ).loc Cert.GatherIdeal.main_arg0)
      ∧ m' ((c.tc : Thread Cert.ColumnsIdeal.nD Cert.ColumnsIdeal.τ).loc Cert.ColumnsIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v5)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v5) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.ColumnsIdeal.defs (F := Ideal)) (onTc (τ := Cert.ColumnsIdeal.τ) (Cert.ColumnsIdeal.main (F := Ideal))) ⟨m', fun _ => 0, g'⟩ (fun r => ∀ c : Dev Cert.ColumnsIdeal.nD,
          r.2.mem ((c.tc : Thread Cert.ColumnsIdeal.nD Cert.ColumnsIdeal.τ).loc Cert.ColumnsIdeal.main_v18) = v0 c
          ∧ r.2.mem ((c.tc : Thread Cert.ColumnsIdeal.nD Cert.ColumnsIdeal.τ).loc Cert.ColumnsIdeal.main_arg0) = m' ((c.tc : Thread Cert.ColumnsIdeal.nD Cert.ColumnsIdeal.τ).loc Cert.ColumnsIdeal.main_arg0)
          ∧ r.2.mem ((c.tc : Thread Cert.ColumnsIdeal.nD Cert.ColumnsIdeal.τ).loc Cert.ColumnsIdeal.main_arg1) = m' ((c.tc : Thread Cert.ColumnsIdeal.nD Cert.ColumnsIdeal.τ).loc Cert.ColumnsIdeal.main_arg1))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hGather : Cert.Gather.Facts) (hGatherIdeal : Cert.GatherIdeal.Facts) (hColumnsIdeal : Cert.ColumnsIdeal.Facts) (hKernelIdeal : Cert.KernelIdeal.Facts) (hReferenceIdeal : Cert.ReferenceIdeal.Facts) (hPre_winners_in_range : Cert.Pre_winners_in_range.Facts),
    quiescent_Gather (hGather := hGather) (hPre_winners_in_range := hPre_winners_in_range)
    ∧ quiescent_GatherIdeal (hGatherIdeal := hGatherIdeal) (hPre_winners_in_range := hPre_winners_in_range)
    ∧ quiescent_ColumnsIdeal (hColumnsIdeal := hColumnsIdeal)
    ∧ quiescent_ColumnsIdeal_pre_winners_in_range (hColumnsIdeal := hColumnsIdeal) (hPre_winners_in_range := hPre_winners_in_range)
    ∧ quiescent_KernelIdeal (hKernelIdeal := hKernelIdeal)
    ∧ quiescent_ReferenceIdeal (hReferenceIdeal := hReferenceIdeal)
    ∧ preserves_Gather_GatherIdeal
    ∧ algebraic_GatherIdeal_ColumnsIdeal (hGatherIdeal := hGatherIdeal) (hColumnsIdeal := hColumnsIdeal) (hPre_winners_in_range := hPre_winners_in_range)
    ∧ algebraic_KernelIdeal_ReferenceIdeal (hKernelIdeal := hKernelIdeal) (hReferenceIdeal := hReferenceIdeal)
-- ==== Pre_winners_in_range.lean ====
abbrev S101x1024 : Shape := ⟨2, ![101, 1024]⟩
abbrev S256 : Shape := ⟨1, ![256]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S101x1024 .f32) (main_arg1 : IVec S256 32) : IVec S256 1 :=
  let main_c : IVec S_ 32 := constantI S_ 32 0#32
  let main_v0 : IVec S256 32 := broadcastInDim S256 ![] bcast_S_S256 main_c
  let main_v1 : IVec S256 1 := cmpi .sge main_arg1 main_v0
  let main_c_0 : IVec S_ 32 := constantI S_ 32 1024#32
  let main_v2 : IVec S256 32 := broadcastInDim S256 ![] bcast_S_S256 main_c_0
  let main_v3 : IVec S256 1 := cmpi .slt main_arg1 main_v2
  let main_v4 : IVec S256 1 := andi main_v1 main_v3
  main_v4
-- ==== Gather.lean ====
abbrev S101x1024 : Shape := ⟨2, ![101, 1024]⟩
abbrev S256 : Shape := ⟨1, ![256]⟩
abbrev S_ : Shape := ⟨0, ![]⟩
abbrev S1024x128 : Shape := ⟨2, ![1024, 128]⟩
abbrev S1024x101 : Shape := ⟨2, ![1024, 101]⟩
abbrev S1 : Shape := ⟨1, ![1]⟩
abbrev S256x128 : Shape := ⟨2, ![256, 128]⟩
abbrev S8 : Shape := ⟨1, ![8]⟩
abbrev S8x128 : Shape := ⟨2, ![8, 128]⟩
abbrev S256x101 : Shape := ⟨2, ![256, 101]⟩

abbrev nBuf : Table → Nat
  | .hbm => 10
  | .local .scVector .vmem => 2
  | _ => 0

abbrev bufTy : (tb : Table) → Fin (nBuf tb) → BufTy
  | .hbm, ⟨0, _⟩ => ⟨S101x1024, .f32⟩
  | .hbm, ⟨1, _⟩ => ⟨S256, .i32⟩
  | .hbm, ⟨2, _⟩ => ⟨S_, .f32⟩
  | .hbm, ⟨3, _⟩ => ⟨S1024x128, .f32⟩
  | .hbm, ⟨4, _⟩ => ⟨S1024x101, .f32⟩
  | .hbm, ⟨5, _⟩ => ⟨S_, .i32⟩
  | .hbm, ⟨6, _⟩ => ⟨S1, .i32⟩
  | .hbm, ⟨7, _⟩ => ⟨S1024x128, .f32⟩
  | .hbm, ⟨8, _⟩ => ⟨S256x128, .f32⟩
  | .hbm, ⟨9, _⟩ => ⟨S256x101, .f32⟩
  | .local .scVector .vmem, ⟨0, _⟩ => ⟨S8, .i32⟩
  | .local .scVector .vmem, ⟨1, _⟩ => ⟨S8x128, .f32⟩
  | _, _ => ⟨S101x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v3_scv : Ref sig .scVector := ⟨.hbm, 7, rfl⟩
abbrev main_arg1_scv : Ref sig .scVector := ⟨.hbm, 1, rfl⟩
abbrev main_v4_scv : Ref sig .scVector := ⟨.hbm, 8, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ColumnsIdeal.lean ====
abbrev S101x1024 : Shape := ⟨2, ![101, 1024]⟩
abbrev S256 : Shape := ⟨1, ![256]⟩
abbrev S_ : Shape := ⟨0, ![]⟩
abbrev S256x1024 : Shape := ⟨2, ![256, 1024]⟩
abbrev S256x1 : Shape := ⟨2, ![256, 1]⟩
abbrev S256x2 : Shape := ⟨2, ![256, 2]⟩
abbrev S1024x101 : Shape := ⟨2, ![1024, 101]⟩
abbrev S256x101 : Shape := ⟨2, ![256, 101]⟩

abbrev nBuf : Space → Nat
  | .hbm => 27
  | .vmem => 0
  | .smem => 0
  | _ => 0

abbrev bufTy : (tb : Table) → Fin (tcTables nBuf tb) → BufTy
  | .hbm, ⟨0, _⟩ => ⟨S101x1024, .f32⟩
  | .hbm, ⟨1, _⟩ => ⟨S256, .i32⟩
  | .hbm, ⟨2, _⟩ => ⟨S_, .f32⟩
  | .hbm, ⟨3, _⟩ => ⟨S256x1024, .f32⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S_, .i32⟩
  | .hbm, ⟨16, _⟩ => ⟨S256, .i32⟩
  | .hbm, ⟨17, _⟩ => ⟨S256, .i32⟩
  | .hbm, ⟨18, _⟩ => ⟨S256, .i32⟩
  | .hbm, ⟨19, _⟩ => ⟨S256x1, .i32⟩
  | .hbm, ⟨20, _⟩ => ⟨S256x1, .i32⟩
  | .hbm, ⟨21, _⟩ => ⟨S256x2, .i32⟩
  | .hbm, ⟨22, _⟩ => ⟨S_, .f32⟩
  | .hbm, ⟨23, _⟩ => ⟨S256, .f32⟩
  | .hbm, ⟨24, _⟩ => ⟨S256x1024, .f32⟩
  | .hbm, ⟨25, _⟩ => ⟨S1024x101, .f32⟩
  | .hbm, ⟨26, _⟩ => ⟨S256x101, .f32⟩
  | _, _ => ⟨S101x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== KernelIdeal.lean ====
abbrev S256x224x224 : Shape := ⟨3, ![256, 224, 224]⟩
abbrev S256 : Shape := ⟨1, ![256]⟩
abbrev S_ : Shape := ⟨0, ![]⟩
abbrev S256x32768 : Shape := ⟨2, ![256, 32768]⟩
abbrev S256x320 : Shape := ⟨2, ![256, 320]⟩
abbrev S256x512 : Shape := ⟨2, ![256, 512]⟩
abbrev S1024x50176 : Shape := ⟨2, ![1024, 50176]⟩
abbrev S101x1024 : Shape := ⟨2, ![101, 1024]⟩
abbrev S1024x512 : Shape := ⟨2, ![1024, 512]⟩
abbrev S1x1024 : Shape := ⟨2, ![1, 1024]⟩
abbrev S256x50176 : Shape := ⟨2, ![256, 50176]⟩
abbrev S64x16x50176 : Shape := ⟨3, ![64, 16, 50176]⟩
abbrev S32x50176 : Shape := ⟨2, ![32, 50176]⟩
abbrev S32 : Shape := ⟨1, ![32]⟩
abbrev S32x1 : Shape := ⟨2, ![32, 1]⟩
abbrev S8x1x128 : Shape := ⟨3, ![8, 1, 128]⟩
abbrev S256x1 : Shape := ⟨2, ![256, 1]⟩
abbrev S1x1x128 : Shape := ⟨3, ![1, 1, 128]⟩
abbrev S6x16x50176 : Shape := ⟨3, ![6, 16, 50176]⟩
abbrev S6 : Shape := ⟨1, ![6]⟩
abbrev S128x50176 : Shape := ⟨2, ![128, 50176]⟩
abbrev S1 : Shape := ⟨1, ![1]⟩
abbrev S1x16x50176 : Shape := ⟨3, ![1, 16, 50176]⟩
abbrev S16x50176 : Shape := ⟨2, ![16, 50176]⟩
abbrev S16 : Shape := ⟨1, ![16]⟩
abbrev S16x1 : Shape := ⟨2, ![16, 1]⟩
abbrev S256x128 : Shape := ⟨2, ![256, 128]⟩
abbrev S1x128 : Shape := ⟨2, ![1, 128]⟩
abbrev S1024x128 : Shape := ⟨2, ![1024, 128]⟩
abbrev S1024x101 : Shape := ⟨2, ![1024, 101]⟩
abbrev S8 : Shape := ⟨1, ![8]⟩
abbrev S8x128 : Shape := ⟨2, ![8, 128]⟩
abbrev S256x101 : Shape := ⟨2, ![256, 101]⟩

abbrev nBuf : Table → Nat
  | .hbm => 25
  | .local .tc .vmem => 12
  | .local .scVector .vmem => 2
  | _ => 0

abbrev bufTy : (tb : Table) → Fin (nBuf tb) → BufTy
  | .hbm, ⟨0, _⟩ => ⟨S256x224x224, .f32⟩
  | .hbm, ⟨1, _⟩ => ⟨S256, .i32⟩
  | .hbm, ⟨2, _⟩ => ⟨S_, .i32⟩
  | .hbm, ⟨3, _⟩ => ⟨S_, .i32⟩
  | .hbm, ⟨4, _⟩ => ⟨S256x32768, .f32⟩
  | .hbm, ⟨5, _⟩ => ⟨S256x320, .f32⟩
  | .hbm, ⟨6, _⟩ => ⟨S256x512, .f32⟩
  | .hbm, ⟨7, _⟩ => ⟨S1024x50176, .f32⟩
  | .hbm, ⟨8, _⟩ => ⟨S101x1024, .f32⟩
  | .hbm, ⟨9, _⟩ => ⟨S1024x512, .f32⟩
  | .hbm, ⟨10, _⟩ => ⟨S1x1024, .f32⟩
  | .hbm, ⟨11, _⟩ => ⟨S256x50176, .f32⟩
  | .hbm, ⟨12, _⟩ => ⟨S64x16x50176, .f32⟩
  | .hbm, ⟨13, _⟩ => ⟨S256x50176, .bf16⟩
  | .hbm, ⟨14, _⟩ => ⟨S8x1x128, .f32⟩
  | .hbm, ⟨15, _⟩ => ⟨S256x1, .i32⟩
  | .hbm, ⟨16, _⟩ => ⟨S256, .i32⟩
  | .hbm, ⟨17, _⟩ => ⟨S_, .f32⟩
  | .hbm, ⟨18, _⟩ => ⟨S1024x128, .f32⟩
  | .hbm, ⟨19, _⟩ => ⟨S1024x101, .f32⟩
  | .hbm, ⟨20, _⟩ => ⟨S_, .i32⟩
  | .hbm, ⟨21, _⟩ => ⟨S1, .i32⟩
  | .hbm, ⟨22, _⟩ => ⟨S1024x128, .f32⟩
  | .hbm, ⟨23, _⟩ => ⟨S256x128, .f32⟩
  | .hbm, ⟨24, _⟩ => ⟨S256x101, .f32⟩
  | .local .tc .vmem, ⟨0, _⟩ => ⟨S32x50176, .f32⟩
  | .local .tc .vmem, ⟨1, _⟩ => ⟨S32x50176, .f32⟩
  | .local .tc .vmem, ⟨2, _⟩ => ⟨S32x50176, .bf16⟩
  | .local .tc .vmem, ⟨3, _⟩ => ⟨S32x50176, .bf16⟩
  | .local .tc .vmem, ⟨4, _⟩ => ⟨S1x1x128, .f32⟩
  | .local .tc .vmem, ⟨5, _⟩ => ⟨S1x1x128, .f32⟩
  | .local .tc .vmem, ⟨6, _⟩ => ⟨S256x1, .i32⟩
  | .local .tc .vmem, ⟨7, _⟩ => ⟨S6x16x50176, .f32⟩
  | .local .tc .vmem, ⟨8, _⟩ => ⟨S256x50176, .bf16⟩
  | .local .tc .vmem, ⟨9, _⟩ => ⟨S128x50176, .bf16⟩
  | .local .tc .vmem, ⟨10, _⟩ => ⟨S256x1, .f32⟩
  | .local .tc .vmem, ⟨11, _⟩ => ⟨S256x1, .i32⟩
  | .local .scVector .vmem, ⟨0, _⟩ => ⟨S8, .i32⟩
  | .local .scVector .vmem, ⟨1, _⟩ => ⟨S8x128, .f32⟩
  | _, _ => ⟨S256x224x224, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v9_scv : Ref sig .scVector := ⟨.hbm, 22, rfl⟩
abbrev main_v5_scv : Ref sig .scVector := ⟨.hbm, 16, rfl⟩
abbrev main_v10_scv : Ref sig .scVector := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_scratch0 : Ref sig .tc := ⟨.vmem, 7, rfl⟩
abbrev cc1_scratch2 : Ref sig .tc := ⟨.vmem, 8, rfl⟩
abbrev cc1_scratch4 : Ref sig .tc := ⟨.vmem, 9, rfl⟩
abbrev cc1_scratch5 : Ref sig .tc := ⟨.vmem, 10, rfl⟩
abbrev cc1_scratch6 : Ref sig .tc := ⟨.vmem, 11, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x50176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x50176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def k1_cond1 (i : grid1.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def k1_off1 (c0_i32_13 : BitVec 32) : Fin 1 → Nat :=
  let c6_i32_14 : BitVec 32 := 6#32
  let v39 : BitVec 32 := Scalar.remsi c0_i32_13 c6_i32_14
  ![v39.toNat]
def k1_off2 (c0_i32_13 : BitVec 32) : Fin 3 → Nat :=
  let c6_i32_14 : BitVec 32 := 6#32
  let v39 : BitVec 32 := Scalar.remsi c0_i32_13 c6_i32_14
  let c0_i32_16 : BitVec 32 := 0#32
  let c0_i32_17 : BitVec 32 := 0#32
  ![v39.toNat, 0, 0]
def k1_off3 (i : grid1.Coords) : Fin 1 → Nat :=
  let arg0 : BitVec 32 := BitVec.ofNat 32 (i 0).val
  let c6_i32 : BitVec 32 := 6#32
  let v5 : BitVec 32 := Scalar.remsi arg0 c6_i32
  ![v5.toNat]
def k1_off4 (i : grid1.Coords) : Fin 3 → Nat :=
  let arg0 : BitVec 32 := BitVec.ofNat 32 (i 0).val
  let c6_i32 : BitVec 32 := 6#32
  let v5 : BitVec 32 := Scalar.remsi arg0 c6_i32
  let c0_i32_2 : BitVec 32 := 0#32
  let c0_i32_3 : BitVec 32 := 0#32
  ![v5.toNat, 0, 0]
def k1_off5 (i : grid1.Coords) : Fin 3 → Nat :=
  let arg0 : BitVec 32 := BitVec.ofNat 32 (i 0).val
  let c0_i32_4 : BitVec 32 := 0#32
  let c0_i32_5 : BitVec 32 := 0#32
  ![arg0.toNat, 0, 0]
def k1_off6 (i : grid1.Coords) : Fin 3 → Nat :=
  let arg0 : BitVec 32 := BitVec.ofNat 32 (i 0).val
  let c6_i32 : BitVec 32 := 6#32
  let v5 : BitVec 32 := Scalar.remsi arg0 c6_i32
  let v12 : Index := Scalar.indexCast v5
  let c0 : Index := 0#32
  let c0_6 : Index := 0#32
  ![v12.toNat, 0, 0]
def k1_off7 (i : grid1.Coords) : Fin 2 → Nat :=
  let arg0 : BitVec 32 := BitVec.ofNat 32 (i 0).val
  let c8_i32 : BitVec 32 := 8#32
  let v0 : BitVec 32 := Scalar.remsi arg0 c8_i32
  let c16_i32 : BitVec 32 := 16#32
  let v26 : BitVec 32 := Scalar.muli v0 c16_i32
  let v27 : Index := Scalar.indexCast v26
  let c0_9 : Index := 0#32
  ![v27.toNat, 0]
def k1_cond2 (i : grid1.Coords) : BitVec 1 :=
  let arg0 : BitVec 32 := BitVec.ofNat 32 (i 0).val
  let c6_i32_10 : BitVec 32 := 6#32
  let v31 : BitVec 32 := Scalar.addi arg0 c6_i32_10
  let c1_i32 : BitVec 32 := 1#32
  let v32 : BitVec 32 := Scalar.subi v31 c1_i32
  let c64_i32 : BitVec 32 := 64#32
  let v33 : BitVec 1 := Scalar.cmpi .slt v32 c64_i32
  let v34 : BitVec 32 := Scalar.extui v33
  let c0_i32_11 : BitVec 32 := 0#32
  let v35 : BitVec 1 := Scalar.cmpi .ne v34 c0_i32_11
  v35

def k1_off8 (i : grid1.Coords) : Fin 1 → Nat :=
  let arg0 : BitVec 32 := BitVec.ofNat 32 (i 0).val
  let c6_i32_13 : BitVec 32 := 6#32
  let v39 : BitVec 32 := Scalar.addi arg0 c6_i32_13
  let c1_i32_14 : BitVec 32 := 1#32
  let v40 : BitVec 32 := Scalar.subi v39 c1_i32_14
  let c6_i32_15 : BitVec 32 := 6#32
  let v41 : BitVec 32 := Scalar.remsi v40 c6_i32_15
  ![v41.toNat]
def k1_off9 (i : grid1.Coords) : Fin 3 → Nat :=
  let arg0 : BitVec 32 := BitVec.ofNat 32 (i 0).val
  let c6_i32_13 : BitVec 32 := 6#32
  let v39 : BitVec 32 := Scalar.addi arg0 c6_i32_13
  let c1_i32_14 : BitVec 32 := 1#32
  let v40 : BitVec 32 := Scalar.subi v39 c1_i32_14
  let c6_i32_15 : BitVec 32 := 6#32
  let v41 : BitVec 32 := Scalar.remsi v40 c6_i32_15
  let c0_i32_16 : BitVec 32 := 0#32
  let c0_i32_17 : BitVec 32 := 0#32
  ![v41.toNat, 0, 0]
def k1_off10 (i : grid1.Coords) : Fin 3 → Nat :=
  let arg0 : BitVec 32 := BitVec.ofNat 32 (i 0).val
  let c6_i32_13 : BitVec 32 := 6#32
  let v39 : BitVec 32 := Scalar.addi arg0 c6_i32_13
  let c1_i32_14 : BitVec 32 := 1#32
  let v40 : BitVec 32 := Scalar.subi v39 c1_i32_14
  let c0_i32_18 : BitVec 32 := 0#32
  let c0_i32_19 : BitVec 32 := 0#32
  ![v40.toNat, 0, 0]
def k1_cond3 (i : grid1.Coords) : BitVec 1 :=
  let arg0 : BitVec 32 := BitVec.ofNat 32 (i 0).val
  let c8_i32 : BitVec 32 := 8#32
  let v0 : BitVec 32 := Scalar.remsi arg0 c8_i32
  let c7_i32 : BitVec 32 := 7#32
  let v36 : BitVec 1 := Scalar.cmpi .eq v0 c7_i32
  let v37 : BitVec 32 := Scalar.extui v36
  let c0_i32_12 : BitVec 32 := 0#32
  let v38 : BitVec 1 := Scalar.cmpi .ne v37 c0_i32_12
  v38

def k1_cond7 (i : grid1.Coords) : BitVec 1 :=
  let arg0 : BitVec 32 := BitVec.ofNat 32 (i 0).val
  let c63_i32 : BitVec 32 := 63#32
  let v71 : BitVec 1 := Scalar.cmpi .eq arg0 c63_i32
  let v72 : BitVec 32 := Scalar.extui v71
  let c0_i32_30 : BitVec 32 := 0#32
  let v73 : BitVec 1 := Scalar.cmpi .ne v72 c0_i32_30
  v73

def cc1_transform_2 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  ![v2.toNat]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S256x224x224 : Shape := ⟨3, ![256, 224, 224]⟩
abbrev S256 : Shape := ⟨1, ![256]⟩
abbrev S_ : Shape := ⟨0, ![]⟩
abbrev S256x32768 : Shape := ⟨2, ![256, 32768]⟩
abbrev S256x320 : Shape := ⟨2, ![256, 320]⟩
abbrev S256x512 : Shape := ⟨2, ![256, 512]⟩
abbrev S1024x50176 : Shape := ⟨2, ![1024, 50176]⟩
abbrev S101x1024 : Shape := ⟨2, ![101, 1024]⟩
abbrev S1024x512 : Shape := ⟨2, ![1024, 512]⟩
abbrev S1x1024 : Shape := ⟨2, ![1, 1024]⟩
abbrev S256x50176 : Shape := ⟨2, ![256, 50176]⟩
abbrev S256x1 : Shape := ⟨2, ![256, 1]⟩
abbrev S1024 : Shape := ⟨1, ![1024]⟩
abbrev S1024x1 : Shape := ⟨2, ![1024, 1]⟩
abbrev S50176x1024 : Shape := ⟨2, ![50176, 1024]⟩
abbrev S256x1024 : Shape := ⟨2, ![256, 1024]⟩
abbrev S256x2 : Shape := ⟨2, ![256, 2]⟩
abbrev S1024x101 : Shape := ⟨2, ![1024, 101]⟩
abbrev S256x101 : Shape := ⟨2, ![256, 101]⟩

abbrev nBuf : Space → Nat
  | .hbm => 71
  | .vmem => 0
  | .smem => 0
  | _ => 0

abbrev bufTy : (tb : Table) → Fin (tcTables nBuf tb) → BufTy
  | .hbm, ⟨0, _⟩ => ⟨S256x224x224, .f32⟩
  | .hbm, ⟨1, _⟩ => ⟨S256, .i32⟩
  | .hbm, ⟨2, _⟩ => ⟨S_, .i32⟩
  | .hbm, ⟨3, _⟩ => ⟨S_, .i32⟩
  | .hbm, ⟨4, _⟩ => ⟨S256x32768, .f32⟩
  | .hbm, ⟨5, _⟩ => ⟨S256x320, .f32⟩
  | .hbm, ⟨6, _⟩ => ⟨S256x512, .f32⟩
  | .hbm, ⟨7, _⟩ => ⟨S1024x50176, .f32⟩
  | .hbm, ⟨8, _⟩ => ⟨S101x1024, .f32⟩
  | .hbm, ⟨9, _⟩ => ⟨S1024x512, .f32⟩
  | .hbm, ⟨10, _⟩ => ⟨S1x1024, .f32⟩
  | .hbm, ⟨11, _⟩ => ⟨S256x50176, .f32⟩
  | .hbm, ⟨12, _⟩ => ⟨S256x50176, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x50176, .f32⟩
  | .hbm, ⟨21, _⟩ => ⟨S256x50176, .f32⟩
  | .hbm, ⟨22, _⟩ => ⟨S1024x50176, .f32⟩
  | .hbm, ⟨23, _⟩ => ⟨S_, .f32⟩
  | .hbm, ⟨24, _⟩ => ⟨S1024, .f32⟩
  | .hbm, ⟨25, _⟩ => ⟨S1024x1, .f32⟩
  | .hbm, ⟨26, _⟩ => ⟨S1024x1, .f32⟩
  | .hbm, ⟨27, _⟩ => ⟨S_, .f32⟩
  | .hbm, ⟨28, _⟩ => ⟨S1024x1, .f32⟩
  | .hbm, ⟨29, _⟩ => ⟨S1024x1, .f32⟩
  | .hbm, ⟨30, _⟩ => ⟨S1024x50176, .f32⟩
  | .hbm, ⟨31, _⟩ => ⟨S1024x50176, .f32⟩
  | .hbm, ⟨32, _⟩ => ⟨S50176x1024, .f32⟩
  | .hbm, ⟨33, _⟩ => ⟨S256x1024, .f32⟩
  | .hbm, ⟨34, _⟩ => ⟨S_, .f32⟩
  | .hbm, ⟨35, _⟩ => ⟨S1x1024, .f32⟩
  | .hbm, ⟨36, _⟩ => ⟨S1x1024, .i1⟩
  | .hbm, ⟨37, _⟩ => ⟨S1x1024, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S256x1024, .i32⟩
  | .hbm, ⟨42, _⟩ => ⟨S256x1024, .f32⟩
  | .hbm, ⟨43, _⟩ => ⟨S256x1024, .i32⟩
  | .hbm, ⟨44, _⟩ => ⟨S256x1, .i32⟩
  | .hbm, ⟨45, _⟩ => ⟨S256, .i32⟩
  | .hbm, ⟨46, _⟩ => ⟨S_, .f32⟩
  | .hbm, ⟨47, _⟩ => ⟨S256x1024, .f32⟩
  | .hbm, ⟨48, _⟩ => ⟨S256, .i32⟩
  | .hbm, ⟨49, _⟩ => ⟨S_, .i32⟩
  | .hbm, ⟨50, _⟩ => ⟨S256, .i32⟩
  | .hbm, ⟨51, _⟩ => ⟨S256, .i1⟩
  | .hbm, ⟨52, _⟩ => ⟨S_, .i32⟩
  | .hbm, ⟨53, _⟩ => ⟨S256, .i32⟩
  | .hbm, ⟨54, _⟩ => ⟨S256, .i32⟩
  | .hbm, ⟨55, _⟩ => ⟨S256, .i32⟩
  | .hbm, ⟨56, _⟩ => ⟨S_, .i32⟩
  | .hbm, ⟨57, _⟩ => ⟨S256, .i32⟩
  | .hbm, ⟨58, _⟩ => ⟨S256, .i1⟩
  | .hbm, ⟨59, _⟩ => ⟨S_, .i32⟩
  | .hbm, ⟨60, _⟩ => ⟨S256, .i32⟩
  | .hbm, ⟨61, _⟩ => ⟨S256, .i32⟩
  | .hbm, ⟨62, _⟩ => ⟨S256, .i32⟩
  | .hbm, ⟨63, _⟩ => ⟨S256x1, .i32⟩
  | .hbm, ⟨64, _⟩ => ⟨S256x1, .i32⟩
  | .hbm, ⟨65, _⟩ => ⟨S256x2, .i32⟩
  | .hbm, ⟨66, _⟩ => ⟨S_, .f32⟩
  | .hbm, ⟨67, _⟩ => ⟨S256, .f32⟩
  | .hbm, ⟨68, _⟩ => ⟨S256x1024, .f32⟩
  | .hbm, ⟨69, _⟩ => ⟨S1024x101, .f32⟩
  | .hbm, ⟨70, _⟩ => ⟨S256x101, .f32⟩
  | _, _ => ⟨S256x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call2_v0 : Ref sig .tc := ⟨.hbm, 41, rfl⟩
abbrev main_call2_v1_0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_v23 : Ref sig .tc := ⟨.hbm, 48, rfl⟩
abbrev main_c : Ref sig .tc := ⟨.hbm, 49, rfl⟩
abbrev main_v24 : Ref sig .tc := ⟨.hbm, 50, rfl⟩
abbrev main_v25 : Ref sig .tc := ⟨.hbm, 51, rfl⟩
abbrev main_c_3 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_4 : Ref sig .tc := ⟨.hbm, 56, rfl⟩
abbrev main_v29 : Ref sig .tc := ⟨.hbm, 57, rfl⟩
abbrev main_v30 : Ref sig .tc := ⟨.hbm, 58, rfl⟩
abbrev main_c_5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_6 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩

abbrev nD : Nat := 1
abbrev τ : Topo := Topo.v7x

variable {F : FTy → Type} [FloatOps F]
-- ==== Proof.GatherTile.lean ====
/-
  ONE TILE OF THE GATHER. The SparseCore call of `gather` runs on 2 SparseCores of 16 tiles. Tile `i` of SparseCore `c`
  owns block `2 i + c` of 32: eight of the 256 winners' column numbers, and the eight rows of the result they fill. It
  copies its eight numbers into its own memory, streams the eight rows of the table they name into a second buffer, and
  copies that buffer out. This module states what a tile is lent and what it gives back (`go`, `td`), with the rows
  given back at their values, `rowsOf`: row `r` of the result is the row of the table named by entry `r` of the list;
  and proves one tile's run (`tile_body`) at a symbolic (SparseCore, tile) pair.

  The table's contents `T`, the list `I` and the result's earlier contents `O` are parameters, per device.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.Pointwise.Index
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

noncomputable section

namespace Cert.Proof.Gather

open Cert.GatherIdeal Cert.GatherIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and their blocks -/

abbrev iLoc (d : Dev nD) : Loc nD τ sig := (SparseCore.T d).loc main_arg1
abbrev tLoc (d : Dev nD) : Loc nD τ sig := (SparseCore.T d).loc main_v3
abbrev oLoc (d : Dev nD) : Loc nD τ sig := (SparseCore.T d).loc main_v4

local notation "iV" => (Memref.whole Cert.GatherIdeal.main_arg1_scv : Memref Cert.GatherIdeal.sig Kind.scVector Space.hbm Cert.GatherIdeal.S256 EltTy.i32)
local notation "tV" => (Memref.whole Cert.GatherIdeal.main_v3_scv : Memref Cert.GatherIdeal.sig Kind.scVector Space.hbm Cert.GatherIdeal.S1024x128 EltTy.f32)
local notation "oV" => (Memref.whole Cert.GatherIdeal.main_v4_scv : Memref Cert.GatherIdeal.sig Kind.scVector Space.hbm Cert.GatherIdeal.S256x128 EltTy.f32)
local notation "sV" => (Memref.whole Cert.GatherIdeal.cc0_scratch0 : Memref Cert.GatherIdeal.sig Kind.scVector Space.vmem Cert.GatherIdeal.S8 EltTy.i32)
local notation "rV" => (Memref.whole Cert.GatherIdeal.cc0_scratch1 : Memref Cert.GatherIdeal.sig Kind.scVector Space.vmem Cert.GatherIdeal.S8x128 EltTy.f32)

theorem idiv : 32 ∣ S256.size 0 := ⟨8, rfl⟩
theorem odiv : 32 ∣ S256x128.size 0 := ⟨8, rfl⟩
/-- Block `b` of 32 of the list, and of the result. -/
abbrev iblk (b : Fin 32) : Rect S256 := Rect.part (s := S256) (a₀ := 0) idiv b
abbrev oblk (b : Fin 32) : Rect S256x128 := Rect.part (s := S256x128) (a₀ := 0) odiv b
abbrev iBlkSet (b : Fin 32) : Finset S256.Idx := ((iV).view.slice (iblk b)).set
abbrev oBlkSet (b : Fin 32) : Finset S256x128.Idx := ((oV).view.slice (oblk b)).set

/-- The block of tile `i` of SparseCore `c`. -/
abbrev blkOf (c : Fin 2) (i : Fin 16) : Fin 32 := ⟨2 * i.val + c.val, by omega⟩

/-- Block `b`'s share of the table: one of the 32 leaves of the full share halved five times. -/
abbrev tq (b : Fin 32) : PosShare TreeShare := ShareLeaves.leaf 5 fullShare b

/-- The rows of the table `T` that the list `I` names: row `r` is row `I r` of the table (taken modulo the 1024 rows,
    which changes nothing where the list names rows). -/
def rowsOf (T : S1024x128.Idx → Elt F .f32) (I : S256.Idx → Elt F .i32) : S256x128.Idx → Elt F .f32 := fun x =>
  T (ix2 (n0 := 1024) (n1 := 128) ⟨(I (ix1 (n0 := 256) (x 0))).toNat % 1024, Nat.mod_lt _ (by decide)⟩ (x 1))

variable (Tb : (d : Dev nD) → Buf (Elt F) (tLoc d)) (Ix : (d : Dev nD) → Buf (Elt F) (iLoc d)) (Ob : (d : Dev nD) → Buf (Elt F) (oLoc d))
variable [FloatOps F]

/-! ## What the handshakes carry -/

/-- What a tile is lent: its block of the list, its share of the table, its block of the result; -/
abbrev go (d : Dev nD) (b : Fin 32) : sProp 𝕄 :=
  iprop((iLoc d ↦[iBlkSet b]{fullShare} Ix d) ∗ (tLoc d ↦{tq b} Tb d) ∗ oLoc d ↦[oBlkSet b]{fullShare} Ob d)
/-- and what it gives back: the same, its block of the result at the rows its numbers name. -/
abbrev td (d : Dev nD) (b : Fin 32) : sProp 𝕄 :=
  iprop((iLoc d ↦[iBlkSet b]{fullShare} Ix d) ∗ (tLoc d ↦{tq b} Tb d) ∗ oLoc d ↦[oBlkSet b]{fullShare} rowsOf (Tb d) (Ix d))

/-- Each SparseCore is handed its tiles' loans together and hands their returns back together. -/
def P : (K (F := F)).Pay (nD := nD) (Val := Elt F) (Name := ℕ) (U := UU) where
  st := fun q d c => match q with
    | 0 => bigSep Finset.univ fun i : Fin 16 => go Tb Ix Ob d (blkOf (Fin.cast nCore_zero c) i)
  dn := fun q d c => match q with
    | 0 => bigSep Finset.univ fun i : Fin 16 => td Tb Ix d (blkOf (Fin.cast nCore_zero c) i)
  go := fun q d c i => match q with
    | 0 => go Tb Ix Ob d (blkOf (Fin.cast nCore_zero c) (Fin.cast nSub_zero i))
  td := fun q d c i => match q with
    | 0 => td Tb Ix d (blkOf (Fin.cast nCore_zero c) (Fin.cast nSub_zero i))
  x := fun _ _ => iprop(emp)

instance P_storable : (P (F := F) Tb Ix Ob).IsStorable where
  st q d c := match q with
    | 0 => (inferInstance : BI.Storable (upEmb : UEmb _ 𝕄) (bigSep Finset.univ fun i : Fin 16 => go Tb Ix Ob d (blkOf (Fin.cast nCore_zero c) i)))
  dn q d c := match q with
    | 0 => (inferInstance : BI.Storable (upEmb : UEmb _ 𝕄) (bigSep Finset.univ fun i : Fin 16 => td Tb Ix d (blkOf (Fin.cast nCore_zero c) i)))
  go q d c i := match q with
    | 0 => (inferInstance : BI.Storable (upEmb : UEmb _ 𝕄) (go Tb Ix Ob d (blkOf (Fin.cast nCore_zero c) (Fin.cast nSub_zero i))))
  td q d c i := match q with
    | 0 => (inferInstance : BI.Storable (upEmb : UEmb _ 𝕄) (td Tb Ix d (blkOf (Fin.cast nCore_zero c) (Fin.cast nSub_zero i))))

/-- What the run asks of the list: every entry names one of the 1024 rows. -/
def InRange : Prop := ∀ (d : Dev nD) (j : S256.Idx), (Ix d j).toNat < 1024

/-! ## The task -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev bL (L : grid0.Coords) : Fin 32 := blkOf (Fin.cast bound_zero (L 0)) (Fin.cast bound_one (L 1))

abbrev irectK (L : grid0.Coords) : Rect S256 := Rect.unit (s := S256) (k0_off1 L) S8.size (k0_off1_inb L)
abbrev orectK (L : grid0.Coords) : Rect S256x128 := Rect.unit (s := S256x128) (k0_off2 L) S8x128.size (k0_off2_inb L)
/-- The tile's block of the list, its block of the result and the whole table, as the task addresses them. -/
abbrev iBlkK (L : grid0.Coords) : Memref sig .scVector .hbm S8 .i32 := (iV).slice (irectK L) (fun _ => rfl)
abbrev oBlkK (L : grid0.Coords) : Memref sig .scVector .hbm S8x128 .f32 := (oV).slice (orectK L) (fun _ => rfl)
abbrev tAllK : Memref sig .scVector .hbm S1024x128 .f32 := (tV).slice (Rect.unit (s := S1024x128) ![0, 0] S1024x128.size inb_S1024x128_S1024x128_0_0) (fun _ => rfl)

omit [FloatOps F] in
theorem irectK_eq : irectK L = iblk (bL L) := by
  have hv : (bL L).val = 2 * (L 1).val + (L 0).val := rfl
  generalize bL L = b at hv ⊢
  unfold irectK iblk Rect.part Rect.block
  congr 1 <;> funext a
  · rw [k0_off1_eq]
    match a with
    | 0 => simp [Shape.partIx, Shape.partSize]; omega
  · match a with
    | 0 => simp [Shape.partSize]
omit [FloatOps F] in
theorem orectK_eq : orectK L = oblk (bL L) := by
  have hv : (bL L).val = 2 * (L 1).val + (L 0).val := rfl
  generalize bL L = b at hv ⊢
  unfold orectK oblk Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

theorem set_iBlkK : (iBlkK L).view.set = iBlkSet (bL L) := by
  show ((iV).view.slice (irectK L)).set = _
  exact irectK_eq L ▸ rfl
theorem set_oBlkK : (oBlkK L).view.set = oBlkSet (bL L) := by
  show ((oV).view.slice (orectK L)).set = _
  exact orectK_eq L ▸ rfl

omit [FloatOps F] in
theorem pts_iBlkK (f : Buf (Elt F) (iLoc d)) :
    ((iBlkK L).view.loc (V d (cV L) (jV L)) ↦[(iBlkK L).view.set]{fullShare} f : sProp 𝕄) = iLoc d ↦[iBlkSet (bL L)]{fullShare} f := by
  rw [set_iBlkK]
omit [FloatOps F] in
theorem pts_oBlkK (f : Buf (Elt F) (oLoc d)) :
    ((oBlkK L).view.loc (V d (cV L) (jV L)) ↦[(oBlkK L).view.set]{fullShare} f : sProp 𝕄) = oLoc d ↦[oBlkSet (bL L)]{fullShare} f := by
  rw [set_oBlkK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The tile's three transfer semaphores: the list's fetch, the row stream, the write-out. -/
abbrev cellA (d : Dev nD) (c : Fin τ.nSC) (i : Fin τ.nSub) : GSem nD τ sig := (V d c i, .dma cc0_scoped0.sem)
abbrev cellB (d : Dev nD) (c : Fin τ.nSC) (i : Fin τ.nSub) : GSem nD τ sig := (V d c i, .dma cc0_scratch2.sem)
abbrev cellC (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cellA d (cV L) (jV L)) 0 ∗ semVal (cellB d (cV L) (jV L)) 0 ∗ semVal (cellC d (cV L) (jV L)) 0
          ∗ bigSep ((((ownCells (V d (cV L) (jV L))).erase (cellA d (cV L) (jV L))).erase (cellB d (cV L) (jV L))).erase (cellC d (cV L) (jV L))) fun g => semVal g 0) := by
  unfold SparseCore.Cfg.ownSems0
  rw [SparseCore.bigSep_erase' ((mem_ownCells (g := cellA d (cV L) (jV L))).mpr ⟨rfl, by
      show (SemLoc.dma cc0_scoped0.sem : SemLoc sig).isScoped .scVector = true; decide⟩),
    SparseCore.bigSep_erase' (Finset.mem_erase.mpr ⟨by simp [cellA, cellB]; decide, (mem_ownCells (g := cellB d (cV L) (jV L))).mpr ⟨rfl, by
      show (SemLoc.dma cc0_scratch2.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d (cV L) (jV L))).mpr ⟨rfl, by show (SemLoc.dma cc0_scoped1.sem : SemLoc sig).isScoped .scVector = true; decide⟩⟩⟩)]

omit [FloatOps F] in
/-- The tile's own buffers are its two scratch buffers, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The numbers the stream reads name rows of the table: they are the tile's block of the list. -/
theorem offs_lt (hI : InRange Ix) (fs : Buf (Elt F) ((V d (cV L) (jV L)).loc cc0_scratch0)) (pay : S8.Idx → Elt F .i32)
    (hpay : pay = (iBlkK L).view.read (Elt F) (Ix d)) :
    ∀ x, ((sV).view.read (Elt F) (View.write (Elt F) (sV).view fs pay Finset.univ) x).toNat < S1024x128.size gathers_S1024x128_S8x128.axis := by
  subst hpay; intro x
  rw [View.write_whole_univ]
  simp only [Memref.view_whole, View.read_whole]
  exact hI d _

theorem tAllK_emb (z : S1024x128.Idx) (a : Fin 2) : (tAllK.view.emb z a).val = (z a).val := by
  show ((Rect.unit (s := S1024x128) ![0, 0] S1024x128.size inb_S1024x128_S1024x128_0_0).emb z a).val = _
  rw [Rect.emb_apply]
  match a with
  | ⟨0, _⟩ => simp [Rect.unit]
  | ⟨1, _⟩ => simp [Rect.unit]
theorem oBlkK_emb (y : S8x128.Idx) (a : Fin 2) : ((oBlkK L).view.emb y a).val = ![8 * (bL L).val, 0] a + (y a).val := by
  show ((orectK L).emb y a).val = _
  rw [Rect.emb_apply]
  have hv : (bL L).val = 2 * (L 1).val + (L 0).val := rfl
  rw [hv]
  match a with
  | ⟨0, _⟩ => simp [Rect.unit, k0_off2_eq]; omega
  | ⟨1, _⟩ => simp [Rect.unit, k0_off2_eq]
theorem iBlkK_emb (y : S8.Idx) : ((iBlkK L).view.emb y 0).val = 8 * (bL L).val + (y 0).val := by
  show ((irectK L).emb y 0).val = _
  rw [Rect.emb_apply]
  have hv : (bL L).val = 2 * (L 1).val + (L 0).val := rfl
  rw [hv]
  simp [Rect.unit, k0_off1_eq]; omega

/-- What the tile's write-out leaves in its block of the result: the rows the list names there. -/
theorem wrote (hI : InRange Ix) (fs : Buf (Elt F) ((V d (cV L) (jV L)).loc cc0_scratch0)) (fr : Buf (Elt F) ((V d (cV L) (jV L)).loc cc0_scratch1))
    (fo : Buf (Elt F) (oLoc d)) (hn) (w : S8x128.Idx → Elt F .f32)
    (hw : w = (rV).view.read (Elt F) (View.write (Elt F) (rV).view fr
          (SparseCore.gatherPayload gathers_S1024x128_S8x128 (tAllK.view.read (Elt F) (Tb d))
            (SparseCore.rows ((sV).view.read (Elt F) (View.write (Elt F) (sV).view fs ((iBlkK L).view.read (Elt F) (Ix d)) Finset.univ)) hn
              (offs_lt Ix d L hI fs _ rfl))) Finset.univ)) :
    ∀ x ∈ (oBlkK L).view.set, (oBlkK L).view.writes (Elt F) fo [⟨Rect.whole S8x128, w⟩] x = rowsOf (Tb d) (Ix d) x := by
  intro x hx
  obtain ⟨y, -, rfl⟩ := Finset.mem_map.mp hx
  refine (cast_eq _ _).symm.trans ((congrFun (View.read_writes_whole (oBlkK L).view fo w) y).trans ?_)
  rw [hw, View.read_write_univ]
  unfold SparseCore.gatherPayload rowsOf
  show Tb d _ = Tb d _
  congr 1
  funext a
  apply Fin.ext
  rw [tAllK_emb]
  match a with
  | ⟨0, _⟩ =>
    show (gathers_S1024x128_S8x128.idx _ y gathers_S1024x128_S8x128.axis).val = _ % 1024
    rw [Shape.Gathers.idx_axis, Nat.mod_eq_of_lt (hI d _)]
    unfold SparseCore.rows
    simp only [View.write_whole_univ, Memref.view_whole, View.read_whole]
    show (Ix d _).toNat = (Ix d _).toNat
    congr 2
    funext b
    obtain rfl : b = (0 : Fin 1) := Subsingleton.elim (α := Fin 1) _ _
    apply Fin.ext
    refine (iBlkK_emb L _).trans ?_
    show _ = ((oBlkK L).view.emb y 0).val
    rw [oBlkK_emb, ← Shape.rowMajor_val_one]
    refine congrArg (8 * (bL L).val + ·) ?_
    show (S8.rowMajor (S8.rowMajor.symm _)).val = (y 0).val
    rw [Equiv.apply_symm_apply]
    rfl
  | ⟨1, _⟩ =>
    show (gathers_S1024x128_S8x128.idx _ y 1).val = ((oBlkK L).view.emb y 1).val
    rw [Shape.Gathers.idx_of_ne _ _ _ _ (by decide), oBlkK_emb]
    simp

set_option maxHeartbeats 4000000 in
/-- One tile's task: the fetch of its numbers and its wait, the row stream and its wait, the write-out and its wait;
    the tile's block of the result is left at the rows its numbers name. -/
theorem tile_body (hF : (K (F := F)).Facts) (hI : InRange Ix) (O : CellTallies nD τ sig (HIx 1)) (W : Waits sig (HIx 1)) (hO : ∀ g, O g none = 0) :
    iprop(levAts (K (F := F)).L (K (F := F)).lev ∗ emp ∗ go Tb Ix Ob d (bL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gk L tV (Memref.isWhole_whole _) iV (Memref.isWhole_whole _) oV (Memref.isWhole_whole _)
            sV (Memref.isWhole_whole _) rV (Memref.isWhole_whole _) cc0_scratch2 cc0_scoped0 cc0_scoped1)
          fun _ => iprop(td Tb Ix d (bL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gk_eq_skeleton]; unfold cc0_gk_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iBlkK (F := F) d L _).symm) $$ Hi
  ihave Ho' := (Entails.of_eq (pts_oBlkK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  -- the row stream: a share of the table, the row buffer and the list's buffer go in, its wait gives them back
  ihave Hts := (pointsTo_split_subset (q := tq (bL L)) (f := Tb d) (S := Finset.univ) (Finset.subset_univ (tAllK).view.set)).1 $$ Ht'
  icases Hts with ⟨Hts, Htr⟩
  have hrs : (rV).view.set = Finset.univ := View.set_whole _
  have hss : (sV).view.set = Finset.univ := View.set_whole _
  ihave Hr2 := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs2 := (Entails.of_eq (show ((sV).view.loc (V d (cV L) (jV L)) ↦{fullShare} View.write (Elt F) (sV).view fs (tile_body.sl.dma0 Ix d L) Finset.univ : sProp 𝕄)
      = (sV).view.loc (V d (cV L) (jV L)) ↦[(sV).view.set]{fullShare} View.write (Elt F) (sV).view fs (tile_body.sl.dma0 Ix d L) Finset.univ
      by rw [hss])) $$ Hs'
  have hN : ∀ h : S1024x128.Gathers 0 S8x128, ∑ j, ((rV).slice (S8x128.rowRect h.axis' j) (S8x128.stride_rowRect h.axis' j)).view.dmaCredit
      = (rV).view.dmaCredit := by decide
  iapply (SparseCore.wp_indirectGatherLocal countersEmb 𝒱₀ (V d (cV L) (jV L)) none (hg := gathers_S1024x128_S8x128) (default : HIx 1)
      (rV).view.dmaCredit (hN _) (by decide) (offs_lt Ix d L hI fs _ rfl)) $$ [Hts Hr2 Hs2 HsemB]
  · isplitl [Hts]; · iexact Hts
    isplitl [Hr2]; · iexact Hr2
    isplitl [Hs2]; · iexact Hs2
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr2, Hts, Hs2⟩, HsemB, HO⟩
  ihave Ht' := (pointsTo_split_subset (q := tq (bL L)) (f := Tb d) (S := Finset.univ) (Finset.subset_univ (tAllK).view.set)).2 $$ [Hts Htr]; · isplitl [Hts] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr2
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs2
  sl_exec
  sl_step
  isplitl [Hi' Ht' Ho']
  · isplitl [Hi']; · iapply (Entails.of_eq (pts_iBlkK (F := F) d L _)); iexact Hi'
    isplitl [Ht']; · iexact Ht'
    iapply (Entails.of_eq (pts_oBlkK (F := F) d L _))
    iapply (Entails.of_eq (pointsTo_congr (wrote Tb Ix d L hI fs fr (Ob d) rfl (tile_body.sl.dma0_1 Tb Ix d L hI fs fr) rfl)))
    iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The launch's obligation for the tiles -/

/-- The grid point of a SparseCore and a tile. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gk (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of both SparseCores runs its task. -/
theorem tileObl (hF : (K (F := F)).Facts) (hI : InRange Ix) : (K (F := F)).TileObl (D (F := F)) 𝒱 (P Tb Ix Ob) v₀ 0 := by
  intro d c i O W hO _ _
  simp only [show (P Tb Ix Ob).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body Tb Ix Ob d (coordsV ⟨_, hci.1⟩ ⟨_, hci.2⟩) hF hI O W hO).trans (wp_mono frame _ _ fun _ => obl_post)

end Tile

/-- A SparseCore's loans are its tiles' loans, its returns theirs. -/
theorem vecSplit : (K (F := F)).VecSplit' (P Tb Ix Ob) 0 := by
  intro d c
  show (bigSep Finset.univ fun i : Fin 16 => go Tb Ix Ob d (blkOf (Fin.cast nCore_zero c) i)) ⊢ |={Set.univ}=> iprop(
      (bigSep Finset.univ fun i : Fin 16 => go Tb Ix Ob d (blkOf (Fin.cast nCore_zero c) i))
      ∗ ((bigSep Finset.univ fun i : Fin 16 => td Tb Ix d (blkOf (Fin.cast nCore_zero c) i))
          -∗ bigSep Finset.univ fun i : Fin 16 => td Tb Ix d (blkOf (Fin.cast nCore_zero c) i)))
  iintro H; imodintro
  isplitl [H]; · iexact H
  iintro H; iexact H

/-! ## The arrays dealt to the 32 blocks and joined again -/

/-- The 2 × 16 tiles are the 32 blocks. -/
def tiles : Fin 2 × Fin 16 ≃ Fin 32 where
  toFun p := blkOf p.1 p.2
  invFun b := (⟨b.val % 2, by omega⟩, ⟨b.val / 2, by omega⟩)
  left_inv p := by ext <;> simp <;> omega
  right_inv b := by ext; simp; omega

theorem iBlkSet_eq (b : Fin 32) : iBlkSet b = (iblk b).set := by
  show ((View.whole (main_arg1_scv : Ref sig .scVector)).slice (iblk b)).set = _
  rw [View.set_slice]; exact Finset.map_refl
theorem oBlkSet_eq (b : Fin 32) : oBlkSet b = (oblk b).set := by
  show ((View.whole (main_v4_scv : Ref sig .scVector)).slice (oblk b)).set = _
  rw [View.set_slice]; exact Finset.map_refl
omit [FloatOps F] in
/-- The list whole is its 32 blocks; -/
theorem list_blocks (d : Dev nD) (f : Buf (Elt F) (iLoc d)) :
    (iLoc d ↦{fullShare} f : sProp 𝕄) = bigSep Finset.univ fun b : Fin 32 => iLoc d ↦[iBlkSet b]{fullShare} f := by
  rw [← pointsTo_biUnion Finset.univ (ℓ := iLoc d) iBlkSet (fun i _ j _ h => by rw [iBlkSet_eq, iBlkSet_eq]; exact Rect.part_disjoint idiv h),
    (Finset.biUnion_congr rfl fun i _ => iBlkSet_eq i).trans (Rect.biUnion_part idiv)]
omit [FloatOps F] in
/-- the result whole is its 32 blocks; -/
theorem result_blocks (d : Dev nD) (f : Buf (Elt F) (oLoc d)) :
    (oLoc d ↦{fullShare} f : sProp 𝕄) = bigSep Finset.univ fun b : Fin 32 => oLoc d ↦[oBlkSet b]{fullShare} f := by
  rw [← pointsTo_biUnion Finset.univ (ℓ := oLoc d) oBlkSet (fun i _ j _ h => by rw [oBlkSet_eq, oBlkSet_eq]; exact Rect.part_disjoint odiv h),
    (Finset.biUnion_congr rfl fun i _ => oBlkSet_eq i).trans (Rect.biUnion_part odiv)]
omit [FloatOps F] in
/-- the table whole is its 32 shares. -/
theorem table_shares (d : Dev nD) (f : Buf (Elt F) (tLoc d)) :
    (tLoc d ↦{fullShare} f : sProp 𝕄) = bigSep Finset.univ fun b : Fin 32 => tLoc d ↦{tq b} f :=
  ShareLeaves.pointsTo_leaves Finset.univ f 5 fullShare

/-- The three arrays whole are what the call's two SparseCores are handed; -/
theorem st_eq (d : Dev nD) :
    (bigSep Finset.univ fun c : Fin ((K (F := F)).nCore 0) => (P Tb Ix Ob).st 0 d c)
      = iprop((iLoc d ↦{fullShare} Ix d) ∗ (tLoc d ↦{fullShare} Tb d) ∗ oLoc d ↦{fullShare} Ob d) := by
  rw [list_blocks, table_shares, result_blocks, ← bigSep_sep', ← bigSep_sep',
    BI.bigSep_univ_equiv tiles, BI.bigSep_univ_prod]
  rfl
/-- and, the result at the rows named, what they hand back. -/
theorem dn_eq (d : Dev nD) :
    (bigSep Finset.univ fun c : Fin ((K (F := F)).nCore 0) => (P Tb Ix Ob).dn 0 d c)
      = iprop((iLoc d ↦{fullShare} Ix d) ∗ (tLoc d ↦{fullShare} Tb d) ∗ oLoc d ↦{fullShare} rowsOf (Tb d) (Ix d)) := by
  rw [list_blocks, table_shares, result_blocks, ← bigSep_sep', ← bigSep_sep',
    BI.bigSep_univ_equiv tiles, BI.bigSep_univ_prod]
  rfl

end Cert.Proof.Gather

end
-- ==== Proof.GatherRun.lean ====
/-
  THE RUN OF `gather`. @main builds the table on the TensorCore (a straight line of host operations), hands the list, the
  table and the result's array to the SparseCore call, and slices what comes back. This module runs that at any float
  instance: from a list whose words all name rows, the program terminates, its arguments are unchanged, every semaphore
  counter reads zero, and each unscoped array ends at `final`, which spells out the host operations around the call's
  value `rowsOf`.
-/
module

public import proofs.«01_k».proof.Proof.GatherTile
public import Idealize.ShloMosaic.Lib.Pipeline.Frame

@[expose] public section

noncomputable section

namespace Cert.Proof.Gather

open Cert.GatherIdeal Cert.GatherIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs unscopedBufs_held sub_ucRefs)
open Idealize.ShloMosaic.StableHlo

variable {F : FTy → Type} [FloatOps F]

local notation "𝕄" => MT nD τ sig (HIx 1) (Elt F) ℕ UU ℕ

/-! ## The host operations around the call -/

/-- The table: zeros with the transpose of `W_y2z` written over columns 0 to 100. -/
def opsBefore : List (HloOp τ sig (Elt F)) :=
  [StableHlo.nullary main_cst (constant S_ .f32 0x00000000#32),
   StableHlo.unary main_cst main_v0 (broadcastInDim S1024x128 ![] bcast_S_S1024x128 : (⟨S_, .f32⟩ : BufTy).Contents (Elt F) → (⟨S1024x128, .f32⟩ : BufTy).Contents (Elt F)),
   StableHlo.unary main_arg0 main_v1 ((transpose S1024x101 [1, 0] · transposes_S101x1024_S1024x101_1_0) : (⟨S101x1024, .f32⟩ : BufTy).Contents (Elt F) → (⟨S1024x101, .f32⟩ : BufTy).Contents (Elt F)),
   StableHlo.nullary main_c (constantI S_ 32 0#32),
   StableHlo.unary main_c main_v2 (broadcastInDim S1 ![] bcast_S_S1 : (⟨S_, .i32⟩ : BufTy).Contents (Elt F) → (⟨S1, .i32⟩ : BufTy).Contents (Elt F)),
   StableHlo.ternary main_v0 main_v2 main_v1 main_v3 ((fun x i u => Host.scatter scatter_S1024x128_S1_S1024x101_01_n_1_0 (fun _ b => b) x i u) : (⟨S1024x128, .f32⟩ : BufTy).Contents (Elt F) → (⟨S1, .i32⟩ : BufTy).Contents (Elt F) → (⟨S1024x101, .f32⟩ : BufTy).Contents (Elt F) → (⟨S1024x128, .f32⟩ : BufTy).Contents (Elt F))]

/-- The result is the first 101 columns of the gathered rows. -/
def opsAfter : List (HloOp τ sig (Elt F)) :=
  [StableHlo.unary main_v4 main_v5 ((extractStridedSlice S256x101 ![0, 0] · slices_S256x128_S256x101_0_0) : (⟨S256x128, .f32⟩ : BufTy).Contents (Elt F) → (⟨S256x101, .f32⟩ : BufTy).Contents (Elt F))]

theorem main_eq (d : Dev nD) : main (F := F) d = (seq opsBefore >>= fun _ => sc.run d 0 >>= fun _ => seq opsAfter >>= fun _ => pure ⟨⟩) := rfl

theorem before_sub : (opsBefore (F := F)).Forall fun op => op.bufs ⊆ StableHlo.tcRefs τ sig :=
  ⟨StableHlo.nullary_bufs_sub .., StableHlo.unary_bufs_sub .., StableHlo.unary_bufs_sub .., StableHlo.nullary_bufs_sub .., StableHlo.unary_bufs_sub .., StableHlo.ternary_bufs_sub ..⟩
theorem before_fresh : (opsBefore (F := F)).Forall fun op => op.fresh = ∅ := ⟨rfl, rfl, rfl, rfl, rfl, rfl⟩
theorem after_sub : (opsAfter (F := F)).Forall fun op => op.bufs ⊆ StableHlo.tcRefs τ sig := StableHlo.unary_bufs_sub ..
theorem after_fresh : (opsAfter (F := F)).Forall fun op => op.fresh = ∅ := rfl

/-- A straight line whose operations name TensorCore arrays only runs within the unscoped ones. -/
theorem within {ops : List (HloOp τ sig (Elt F))} (h : ops.Forall fun op => op.bufs ⊆ StableHlo.tcRefs τ sig) :
    ∀ op ∈ ops, op.bufs ⊆ ucRefs τ sig := fun op ho => sub_ucRefs op (List.forall_iff_forall_mem.mp h op ho)

/-- A TensorCore array as one of the device's. -/
abbrev dv (b : Ref sig .tc) : DevRef τ sig := Proc.devRef .tc b

variable (m : (ℓ : Loc nD τ sig) → Buf (Elt F) ℓ) (ρ : Dev nD → PrngReg)

/-- Every array of device `d` when the call is reached. -/
def V₁ (d : Dev nD) : Valuation τ sig (Elt F) := after opsBefore fun b => m (d, b)

abbrev tbl (d : Dev nD) : Buf (Elt F) (tLoc d) := V₁ m d (dv main_v3)
abbrev lst (d : Dev nD) : Buf (Elt F) (iLoc d) := V₁ m d (dv main_arg1)
abbrev old (d : Dev nD) : Buf (Elt F) (oLoc d) := V₁ m d (dv main_v4)

/-- Every array of device `d` when the call has ended. -/
def V₂ (d : Dev nD) : Valuation τ sig (Elt F) := Function.update (V₁ m d) (dv main_v4) (rowsOf (tbl m d) (lst m d))

/-- Every array of device `d` at the end. -/
def final (d : Dev nD) : Valuation τ sig (Elt F) := after opsAfter (V₂ m d)

/-- The call's three arrays. -/
def callRefs : Finset (DevRef τ sig) := {(dv main_arg1), (dv main_v3), (dv main_v4)}

theorem held_call (d : Dev nD) (W : Valuation τ sig (Elt F)) :
    (held (SparseCore.T d) callRefs W : sProp 𝕄)
      = iprop((iLoc d ↦{fullShare} W (dv main_arg1)) ∗ (tLoc d ↦{fullShare} W (dv main_v3)) ∗ oLoc d ↦{fullShare} W (dv main_v4)) := by
  unfold held callRefs
  rw [SparseCore.bigSep_insert' (by decide), SparseCore.bigSep_insert' (by decide), bigSep_singleton]

theorem callRefs_sub : callRefs ⊆ ucRefs τ sig := by decide

/-- The arrays when the call has ended are those before it, but for the result's. -/
theorem V₂_rest (d : Dev nD) :
    (held (SparseCore.T d) (ucRefs τ sig \ callRefs) (V₁ m d) : sProp 𝕄) = held (SparseCore.T d) (ucRefs τ sig \ callRefs) (V₂ m d) :=
  held_congr _ fun b hb => (Function.update_of_ne (fun e => (Finset.mem_sdiff.mp hb).2 (by rw [e]; decide)) _ _).symm

theorem V₂_list (d : Dev nD) : V₂ m d (dv main_arg1) = lst m d := Function.update_of_ne (by decide) _ _
theorem V₂_table (d : Dev nD) : V₂ m d (dv main_v3) = tbl m d := Function.update_of_ne (by decide) _ _
theorem V₂_result (d : Dev nD) : V₂ m d (dv main_v4) = rowsOf (tbl m d) (lst m d) := Function.update_self _ _ _

/-- What the call is handed, and the rest. -/
theorem split_before (d : Dev nD) :
    (held (d.tc : Thread nD τ) (ucRefs τ sig) (after opsBefore fun b => m (d, b)) : sProp 𝕄)
      = iprop(((iLoc d ↦{fullShare} lst m d) ∗ (tLoc d ↦{fullShare} tbl m d) ∗ oLoc d ↦{fullShare} old m d)
          ∗ held (SparseCore.T d) (ucRefs τ sig \ callRefs) (V₁ m d)) :=
  (held_sub_split (SparseCore.T d) callRefs_sub (V₁ m d)).trans (by rw [held_call])

/-- What it hands back, and the rest. -/
theorem join_after (d : Dev nD) :
    (iprop(((iLoc d ↦{fullShare} lst m d) ∗ (tLoc d ↦{fullShare} tbl m d) ∗ oLoc d ↦{fullShare} rowsOf (tbl m d) (lst m d))
          ∗ held (SparseCore.T d) (ucRefs τ sig \ callRefs) (V₁ m d)) : sProp 𝕄)
      = held (d.tc : Thread nD τ) (ucRefs τ sig) (V₂ m d) := by
  refine Eq.trans ?_ (held_sub_split (SparseCore.T d) callRefs_sub (V₂ m d)).symm
  rw [held_call, V₂_list, V₂_table, V₂_result, V₂_rest]

/-! ## The launch -/

abbrev PP : (K (F := F)).Pay (nD := nD) (Val := Elt F) (Name := ℕ) (U := UU) (N := 1) := P (tbl m) (lst m) (old m)

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), emps]
  iempintro

abbrev FIN (d : Dev nD) : sProp 𝕄 := held (SparseCore.T d) (ucRefs τ sig) (final m d)

set_option backward.isDefEq.respectTransparency.types false in
/-- @main on device `d`: the table's operations, the call, the slice; every unscoped array ends at `final`. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (ucRefs τ sig) (fun b => m (d, b)) from
    unscopedBufs_held d (fun b => m (d, b))]
  iintro ⟨#Hctx, Hst, ⟨Hb, Hheld, Hts, -⟩, -⟩
  iapply (StableHlo.wp_seq 𝒱 none Set.univ d (ucRefs τ sig) _ opsBefore (within before_sub) (List.forall_iff_forall_mem.mp before_fresh) (fun b => m (d, b))) $$ [Hb Hheld]
  · isplitl [Hb] <;> iassumption
  iintro ⟨Hb, Hheld⟩
  ihave Hh := (Entails.of_eq (split_before m d)) $$ Hheld
  icases Hh with ⟨Hc, Hrest⟩
  rw [wp_bind]
  iapply ((K (F := F)).wp_run (D (F := F)) 𝒱 (EH := EH) (P := PP m) κ d 0) $$ [Hst Hc Hrest Hb Hts]
  isplitr; · iexact Hctx
  isplitl [Hst]; · iexact Hst
  isplitl [Hc]
  · rw [st_eq]; iexact Hc
  iintro ⟨Hst, Hdn⟩
  ihave Hdn' := (Entails.of_eq (dn_eq (tbl m) (lst m) (old m) d)) $$ Hdn
  ihave Hheld := (Entails.of_eq (join_after m d)) $$ [Hdn' Hrest]
  · isplitl [Hdn'] <;> iassumption
  iapply (StableHlo.wp_seq 𝒱 none Set.univ d (ucRefs τ sig) _ opsAfter (within after_sub) (List.forall_iff_forall_mem.mp after_fresh) (V₂ m d)) $$ [Hb Hheld]
  · isplitl [Hb] <;> iassumption
  iintro ⟨Hb, Hheld⟩
  rw [wp_pure]
  imodintro
  isplitl [Hst]; · iexact Hst
  isplitl [Hheld]; · iexact Hheld
  isplitl [Hb] <;> iassumption

def fq (d : Dev nD) (s' : Phys nD τ sig (Elt F)) : Prop := ∀ b ∈ ucRefs τ sig, s'.mem.mem (d, b) = final m d b

theorem hfin (d : Dev nD) (s' : Phys nD τ sig (Elt F)) : iprop(FIN m d ∗ SI s') ⊢ (⌜fq m d s'⌝ : sProp 𝕄) := by
  iintro ⟨H, HSI⟩
  iapply (SI_pointsTo_bufs_agree (st := s') (c := d) (qs := fun _ => fullShare) (F := final m d) (ucRefs τ sig)) $$ [H HSI]
  isplitl [HSI]; · iexact HSI
  unfold FIN held; iexact H

/-- Every weakly fair run of `gather` from a list whose words all name rows of the table: it ends, with every unscoped
    array at `final` and every semaphore counter at zero. -/
theorem run_main [∀ e, Nonempty (Elt F e)] (hI : InRange (lst m)) :
    θ_run (Cert.GatherIdeal.defs (F := F)) (Cert.GatherIdeal.threads (F := F)) ⟨m, fun _ => 0, ρ⟩
      fun r => (∀ d : Dev nD, ∀ b ∈ ucRefs τ sig, r.2.mem (d, b) = final m d b) ∧ r.2.sem = fun _ => 0 :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tbl m) (lst m) (old m) facts hI)
    (fun q _ => match q with | 0 => SparseCore.Cfg.VecSplit.of_plain (vecSplit (tbl m) (lst m) (old m)))
    m ρ main (fun _ => iprop(emp)) (FIN m) (u₀ (F := F)) (sep_elim_left.trans (hu₀ m)) (hmain m ρ) (fq m) (hfin m) _ (fun _ h hz => ⟨h, hz⟩)

/-! ## The contents at the end -/

theorem final_arg0 (d : Dev nD) : final m d (dv main_arg0) = m (d, dv main_arg0) := by
  unfold final V₂ V₁ opsAfter opsBefore; after_results <;> rfl
theorem lst_eq (d : Dev nD) : lst m d = m (iLoc d) := by
  unfold lst V₁ opsBefore; after_results <;> rfl
theorem final_arg1 (d : Dev nD) : final m d (dv main_arg1) = m (d, dv main_arg1) := by
  unfold final opsAfter
  rw [show StableHlo.after _ (V₂ m d) (dv main_arg1) = V₂ m d (dv main_arg1) by after_results <;> rfl, V₂_list]
  exact lst_eq m d
theorem tbl_eq (d : Dev nD) : tbl m d = Host.scatter scatter_S1024x128_S1_S1024x101_01_n_1_0 (fun _ b => b)
    (broadcastInDim S1024x128 ![] bcast_S_S1024x128 (constant S_ .f32 0x00000000#32)) (broadcastInDim S1 ![] bcast_S_S1 (constantI S_ 32 0#32))
    (transpose S1024x101 [1, 0] (m (d, dv main_arg0)) transposes_S101x1024_S1024x101_1_0) := by
  unfold tbl V₁ opsBefore; after_results <;> rfl
theorem final_result (d : Dev nD) : final m d (dv main_v5)
    = extractStridedSlice S256x101 ![0, 0] (rowsOf (tbl m d) (lst m d)) slices_S256x128_S256x101_0_0 := by
  unfold final opsAfter
  rw [show StableHlo.after _ (V₂ m d) (dv main_v5) = extractStridedSlice S256x101 ![0, 0] (V₂ m d (dv main_v4)) slices_S256x128_S256x101_0_0 by
    after_results <;> rfl, V₂_result]

/-- The run read at the arguments and the result. -/
theorem run_values [∀ e, Nonempty (Elt F e)] (hI : ∀ d j, (m (iLoc d) j).toNat < 1024) :
    θ_run (Cert.GatherIdeal.defs (F := F)) (Cert.GatherIdeal.threads (F := F)) ⟨m, fun _ => 0, ρ⟩
      fun r => (∀ d : Dev nD, r.2.mem (d, dv main_v5) = extractStridedSlice S256x101 ![0, 0] (rowsOf (tbl m d) (m (iLoc d))) slices_S256x128_S256x101_0_0
        ∧ r.2.mem (d, dv main_arg0) = m (d, dv main_arg0) ∧ r.2.mem (d, dv main_arg1) = m (d, dv main_arg1)) ∧ r.2.sem = fun _ => 0 :=
  (θ_run Cert.GatherIdeal.defs _ _).mono
    (fun _ h => ⟨fun d => ⟨(h.1 d _ (by decide)).trans ((final_result m d).trans (by rw [lst_eq])), (h.1 d _ (by decide)).trans (final_arg0 m d),
      (h.1 d _ (by decide)).trans (final_arg1 m d)⟩, h.2⟩)
    (run_main m ρ fun d j => by rw [lst_eq]; exact hI d j)

end Cert.Proof.Gather

end
-- ==== Proof.Table.lean ====
/-
  THE TABLE AND THE ONE-HOT ROWS, as mathematics: nothing here mentions a program. The kernel looks rows up in a table
  holding the transpose of `W`; the reference multiplies a matrix of one-hot rows by that transpose. Both give, at `(b, z)`,
  `W (z, i b)`, where `i b` is the column number at `b` — provided it is one.
-/
module

public import Idealize.ShloMosaic.Lib.Routing.OpsSet
public import Idealize.ShloMosaic.Lib.Routing.OpsPair
public import Idealize.ShloMosaic.Lib.StackMember
public import Idealize.ShloMosaic.Lib.Pipeline.Value

@[expose] public section

noncomputable section

namespace Cert.Proof.Table

open Idealize.ShloMosaic Idealize.ShloMosaic.ValueIdx Idealize.ShloMosaic.Routing

/-! ## The table: a transpose written over the first columns of zeros -/

/-- The dimension numbers of `x.at[:, :Z].set(u)`: one index word, the window all of `u`. -/
abbrev colsDims (R C Z : ℕ) (wf : ScatterDims.WF (shape2 R C) (shape1 1) (shape2 R Z) [0, 1] [] [1] 0) :
    ScatterDims (shape2 R C) (shape1 1) (shape2 R Z) := ⟨[0, 1], [], [1], 0, wf⟩

theorem lands_cols {R C Z : ℕ} (wf) (idx : IVec (shape1 1) 32) (hidx : ∀ j, idx j = 0#32) (k : (shape2 R Z).Idx) (r : Fin R) (c : Fin C) :
    (colsDims R C Z wf).resultIdx? k idx = some (ix2 r c) ↔ (k 0).val = r.val ∧ (k 1).val = c.val := by
  have h0 : (colsDims R C Z wf).start k idx 0 = 0 := rfl
  have h1 : (colsDims R C Z wf).start k idx 1 = 0 := by
    show (idx _).toInt = 0
    rw [hidx]; rfl
  have w0 : (colsDims R C Z wf).window k 0 = (k 0).val := rfl
  have w1 : (colsDims R C Z wf).window k 1 = (k 1).val := rfl
  rw [resultIdx?_ix2, h0, h1, w0, w1]
  omega

/-- The table at one of the written columns. -/
theorem table_apply {α : Type} {R C Z : ℕ} (wf) (x : (shape2 R C).Idx → α) (idx : IVec (shape1 1) 32) (hidx : ∀ j, idx j = 0#32)
    (u : (shape2 R Z).Idx → α) (r : Fin R) (z : Fin Z) (hz : z.val < C) :
    Host.scatter (colsDims R C Z wf) (fun _ b => b) x idx u (ix2 r ⟨z.val, hz⟩) = u (ix2 r z) := by
  refine scatter_set_hit _ x idx u _ _ (fun k hk => ?_) (ix2 r z) ((lands_cols wf idx hidx _ r _).2 ⟨rfl, rfl⟩)
  have h := (lands_cols wf idx hidx k r _).1 hk
  rw [eq_ix2 k]
  congr 2 <;> exact Fin.ext (by first | exact h.1 | exact h.2)

/-! ## The one-hot rows -/

/-- The dimension numbers of `x.at[rows, columns].set(1)`: an index pair for each of `A` updates. -/
abbrev pairDims (R C A : ℕ) (wf : ScatterDims.WF (shape2 R C) (shape2 A 2) (shape1 A) [] [0, 1] [0, 1] 1) :
    ScatterDims (shape2 R C) (shape2 A 2) (shape1 A) := ⟨[], [0, 1], [0, 1], 1, wf⟩

theorem lands_pair {R C A : ℕ} (wf) (idx : IVec (shape2 A 2) 32) (k : (shape1 A).Idx) (r : Fin R) (c : Fin C) :
    (pairDims R C A wf).resultIdx? k idx = some (ix2 r c)
      ↔ (idx (ix2 (k 0) (0 : Fin 2))).toInt = r.val ∧ (idx (ix2 (k 0) (1 : Fin 2))).toInt = c.val := by
  have hs : ∀ q : Fin 2, (pairDims R C A wf).start k idx q = (idx (ix2 (k 0) q)).toInt := by
    intro q
    fin_cases q <;>
    · show (idx _).toInt = _
      congr 2
      funext b
      fin_cases b <;> rfl
  have hw : ∀ q : Fin 2, (pairDims R C A wf).window k q = 0 := fun q => by fin_cases q <;> rfl
  rw [resultIdx?_ix2, hs, hs, hw, hw]
  omega

/-- Row `a` of a matrix of `x0`s with `v` written at `(a, w a)` for each `a`. -/
theorem pair_apply {α : Type} {A C : ℕ} (wf) (x : (shape2 A C).Idx → α) (x0 v : α) (hx : ∀ j, x j = x0) (idx : IVec (shape2 A 2) 32)
    (w : Fin A → ℕ) (h0 : ∀ a, (idx (ix2 a (0 : Fin 2))).toInt = a.val) (h1 : ∀ a, (idx (ix2 a (1 : Fin 2))).toInt = w a)
    (u : (shape1 A).Idx → α) (hu : ∀ j, u j = v) (a : Fin A) (c : Fin C) :
    Host.scatter (pairDims A C A wf) (fun _ b => b) x idx u (ix2 a c) = if c.val = w a then v else x0 := by
  split
  · next h =>
    exact scatter_set_hit _ x idx u _ _ (fun k _ => hu k) (ix1 a) ((lands_pair wf idx _ a c).2 ⟨h0 a, (h1 a).trans (by rw [h])⟩)
  · next h =>
    refine (scatter_set_miss _ x idx u _ fun k hk => h ?_).trans (hx _)
    have e := (lands_pair wf idx k a c).1 hk
    have ha : (k 0 : Fin A) = a := Fin.ext (by exact_mod_cast (h0 (k 0)).symm.trans e.1)
    have hc := (h1 (k 0)).symm.trans e.2
    rw [ha] at hc
    exact (by exact_mod_cast hc.symm)

/-- A one-hot row times a matrix is the row the one names. -/
theorem onehot_dot {A C Z : ℕ} {φ₁ φ₂ : FTy} (prec : Option ContractPrecision) (O : FVec Ideal (shape2 A C) φ₁) (B : FVec Ideal (shape2 C Z) φ₂)
    (w : Fin A → Fin C) (hO : ∀ a c, O (ix2 a c) = if c = w a then (1 : EReal) else 0) (a : Fin A) (z : Fin Z) :
    Host.dotGeneral (DotDims.plain A C Z) prec O B (ix2 a z) = B (ix2 (w a) z) := by
  rw [StackMember.dotGeneral_plain_apply]
  refine (Finset.sum_eq_single (w a) (fun c _ hc => ?_) (fun h => absurd (Finset.mem_univ _) h)).trans ?_
  · rw [hO, if_neg hc, zero_mul]
  · rw [hO, if_pos rfl, one_mul]

end Cert.Proof.Table

end
-- ==== Proof.GatherValue.lean ====
/-
  THE VALUE OF `gather`, over the reals: where every column number is one of the 1024, entry `(b, z)` of the kernel's result
  and of the reference's is `W_y2z (z, i b)`.
-/
module

public import proofs.«01_k».proof.Proof.GatherRun
public import proofs.«01_k».proof.Proof.Table
public import proofs.«01_k».proof.Proof.Gen.ColumnsIdeal.Run
public import Idealize.ShloMosaic.Lib.ValueLayout
public import Idealize.ShloMosaic.Lib.IdealHost
public import proofs.«01_k».proof.Proof.Gen.Gather
public import proofs.«01_k».proof.Proof.Gen.Pre_winners_in_range

@[expose] public section

noncomputable section

namespace Cert.Proof.Gather

open Idealize.ShloMosaic Idealize.ShloMosaic.Routing Idealize.SL.Sem
open Cert.Proof.Table

/-- Column `i b` of `W`, at `(b, z)`. -/
def picked {α : Type} (W : (shape2 101 1024).Idx → α) (I : (shape1 256).Idx → BitVec 32) : (shape2 256 101).Idx → α :=
  fun j => W (ValueIdx.ix2 (j 1) (⟨(I (ValueIdx.ix1 (j 0))).toNat % 1024, Nat.mod_lt _ (by decide)⟩ : Fin 1024))

section Kernel

open Cert.GatherIdeal Cert.GatherIdeal.Gen

variable {F : FTy → Type} [FloatOps F] (m : (ℓ : Loc nD τ sig) → Buf (Elt F) ℓ)

/-- The kernel's result: at any float instance, it moves the words of `W_y2z` and computes nothing. -/
theorem kernel_value (d : Dev nD) :
    extractStridedSlice S256x101 ![0, 0] (rowsOf (tbl m d) (m (iLoc d))) slices_S256x128_S256x101_0_0
      = picked (m (d, dv main_arg0)) (m (iLoc d)) := by
  rw [tbl_eq]
  funext j
  obtain ⟨b, z, rfl⟩ : ∃ (b : Fin 256) (z : Fin 101), j = ValueIdx.ix2 b z := ⟨j 0, j 1, ValueIdx.eq_ix2 j⟩
  have hz : z.val < 128 := by omega
  refine Eq.trans (b := Host.scatter scatter_S1024x128_S1_S1024x101_01_n_1_0 (fun _ b => b)
    (broadcastInDim S1024x128 ![] bcast_S_S1024x128 (constant S_ .f32 0x00000000#32)) (broadcastInDim S1 ![] bcast_S_S1 (constantI S_ 32 0#32))
    (transpose S1024x101 [1, 0] (m (d, dv main_arg0)) transposes_S101x1024_S1024x101_1_0)
    (ValueIdx.ix2 (⟨(m (iLoc d) (ValueIdx.ix1 b)).toNat % 1024, Nat.mod_lt _ (by decide)⟩ : Fin 1024) (⟨z.val, hz⟩ : Fin 128))) ?_ ?_
  · unfold extractStridedSlice rowsOf
    congr 1
    funext a
    fin_cases a
    · apply Fin.ext
      simp [ValueIdx.ix2, ix2]
      congr 3
    · apply Fin.ext
      simp [ValueIdx.ix2, ix2]
  · refine (table_apply _ _ _ (fun _ => rfl) _ _ z hz).trans ?_
    exact ValueIdx.transpose_ix2_apply _ _ _ _

end Kernel

section Reference

open Cert.ColumnsIdeal Cert.ColumnsIdeal.Gen

/-- A column number that is one of the 1024 is not wrapped. -/
theorem wrap (v : BitVec 32) (h : v.toNat < 1024) (k : BitVec 32) :
    Scalar.select (IntOp.cmpi .slt v 0#32) (IntOp.addi v k) v = v := wrap_of_lt v _ (by omega)

/-- A vector broadcast to one column, at row `a`. -/
theorem column {α : Type} (X : S256.Idx → α) (a : Fin 256) :
    broadcastInDim S256x1 ![0] bcast_S256_S256x1_0 X (ValueIdx.ix2 a (0 : Fin 1)) = X (ValueIdx.ix1 a) := by
  unfold broadcastInDim
  congr 1
  funext b; fin_cases b; rfl

theorem reference_value (W : FVec Ideal S101x1024 .f32) (I : IVec S256 32) (hI : ∀ j, (I j).toNat < 1024) :
    Host.dotGeneral dot_S256x1024_S1024x101_S256x101_1_0_0_1_n_n none
      (Host.scatter scatter_S256x1024_S256x2_S256_n_01_01_1 (fun _ b => b) (broadcastInDim S256x1024 ![] bcast_S_S256x1024 (constant (F := Ideal) S_ .f32 0x00000000#32))
        (concatenate S256x2 1
          [⟨S256x1, broadcastInDim S256x1 ![0] bcast_S256_S256x1_0 (select (cmpi .slt (iotaInDim S256 32 0) (broadcastInDim S256 ![] bcast_S_S256 (constantI S_ 32 0#32)))
              (addi (iotaInDim S256 32 0) (broadcastInDim S256 ![] bcast_S_S256 (constantI S_ 32 256#32))) (iotaInDim S256 32 0))⟩,
           ⟨S256x1, broadcastInDim S256x1 ![0] bcast_S256_S256x1_0 (select (cmpi .slt I (broadcastInDim S256 ![] bcast_S_S256 (constantI S_ 32 0#32)))
              (addi I (broadcastInDim S256 ![] bcast_S_S256 (constantI S_ 32 1024#32))) I)⟩] concatenates_S256x1_S256x1_S256x2_d1)
        (broadcastInDim S256 ![] bcast_S_S256 (constant (F := Ideal) S_ .f32 0x3F800000#32)))
      (transpose S1024x101 [1, 0] W transposes_S101x1024_S1024x101_1_0)
      = picked W I := by
  funext j
  obtain ⟨b, z, rfl⟩ : ∃ (b : Fin 256) (z : Fin 101), j = ValueIdx.ix2 b z := ⟨j 0, j 1, ValueIdx.eq_ix2 j⟩
  refine (onehot_dot none _ _ (fun a => (⟨(I (ValueIdx.ix1 a)).toNat, hI _⟩ : Fin 1024)) (fun a c => ?_) b z).trans ?_
  · refine (pair_apply (x0 := (0 : EReal)) (v := (1 : EReal)) _ _ (fun _ => ?_) _ (fun a => (I (ValueIdx.ix1 a)).toNat) (fun a => ?_) (fun a => ?_) _ (fun _ => ?_) a c).trans ?_
    · exact Ideal.ofBits_zero_f32
    · refine (congrArg BitVec.toInt (concatenate_pair_apply_left (t := S256x2) (s₁ := S256x1) (s₂ := S256x1) 1 _ _ _ _ rfl (ValueIdx.ix2 a (0 : Fin 1)) ?_)).trans ?_
      · intro b; fin_cases b <;> rfl
      · have hv : ∀ a : Fin 256, (Scalar.select (IntOp.cmpi .slt (BitVec.ofNat 32 a.val) 0#32) (IntOp.addi (BitVec.ofNat 32 a.val) 256#32) (BitVec.ofNat 32 a.val)).toInt = a.val := by decide
        exact hv a
    · refine (congrArg BitVec.toInt (concatenate_pair_apply_right (t := S256x2) (s₁ := S256x1) (s₂ := S256x1) 1 _ _ _ _ rfl rfl (ValueIdx.ix2 a (0 : Fin 1)) ?_ ?_)).trans ?_
      · intro b; fin_cases b
        · intro _; rfl
        · intro h; exact absurd rfl h
      · rfl
      · have e : ∀ i, (Scalar.select (IntOp.cmpi .slt (I i) 0#32) (IntOp.addi (I i) 1024#32) (I i)).toInt = (I i).toNat := fun i => by
          rw [wrap _ (hI i)]
          have := hI i
          rw [BitVec.toInt_eq_toNat_cond, if_pos (by omega)]
        rw [column]
        exact e _
    · exact Ideal.ofBits_one_f32
    · simp [Fin.ext_iff]
  · refine (ValueIdx.transpose_ix2_apply _ _ _ _).trans ?_
    unfold picked
    congr 2
    exact Fin.ext (Nat.mod_eq_of_lt (hI _)).symm

end Reference

/-- The precondition at a word: a signed word from 0 to 1023 is its own value. -/
theorem word_of_pre {F : FTy → Type} [FloatOps F] (W : FVec F (shape2 101 1024) .f32) (I : IVec (shape1 256) 32)
    (h : Cert.Pre_winners_in_range.fn (F := F) W I = fun _ => 1#1) (j : (shape1 256).Idx) : (I j).toNat < 1024 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 1024#32) = 1#1 → v.toNat < 1024 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h j
  simp only [Cert.Pre_winners_in_range.fn, andi, cmpi, broadcastInDim, constantI] at e
  exact key _ e

/-! ## The claims -/

/-- `Cert.quiescent_GatherIdeal`. -/
theorem frame_gatherIdeal : Cert.quiescent_GatherIdeal := fun m ρ hpre =>
  (θ_run Cert.GatherIdeal.defs _ _).mono (fun _ h => ⟨fun c => (h.1 c).2, h.2⟩) (run_values (F := Ideal) m ρ fun d => word_of_pre _ _ (hpre d))

/-- `Cert.quiescent_Gather`: the program as printed is the same text, so its run is the same run, at the words. -/
theorem frame_gather : Cert.quiescent_Gather := fun m ρ hpre =>
  (θ_run Cert.GatherIdeal.defs _ _).mono (fun _ h => ⟨fun c => (h.1 c).2, h.2⟩) (run_values (F := Bits) m ρ fun d => word_of_pre _ _ (hpre d))

/-- `Cert.quiescent_ColumnsIdeal`: a straight line of host operations that declares no semaphore. -/
theorem frame_columns : Cert.quiescent_ColumnsIdeal := fun m ρ _ =>
  (θ_run Cert.ColumnsIdeal.defs _ _).mono (fun r h => ⟨fun c => (h c).2, sem_eq_zero_of_no_sems (by decide) r.2⟩)
    (Cert.ColumnsIdeal.Value.run (F := Ideal) m ρ)

theorem frame_columns_pre : Cert.quiescent_ColumnsIdeal_pre_winners_in_range := fun m ρ _ => frame_columns m ρ trivial

/-- `Cert.algebraic_GatherIdeal_ColumnsIdeal`: both end at `picked`. -/
theorem algebraic_gather : Cert.algebraic_GatherIdeal_ColumnsIdeal := fun m ρ m' ρ' hpre hargs =>
  ⟨fun c => picked (m (c, dv Cert.GatherIdeal.main_arg0)) (m (iLoc c)),
    (θ_run Cert.GatherIdeal.defs _ _).mono (fun _ h c => ⟨(h.1 c).1.trans (kernel_value m c), (h.1 c).2⟩)
      (run_values (F := Ideal) m ρ fun d => word_of_pre _ _ (hpre d)),
    (θ_run Cert.ColumnsIdeal.defs _ _).mono (fun _ h c => ⟨(h c).1.trans (by
        rw [(hargs c).1, (hargs c).2]
        exact reference_value _ _ (word_of_pre _ _ (hpre c))), (h c).2⟩)
      (Cert.ColumnsIdeal.Value.run (F := Ideal) m' ρ')⟩

end Cert.Proof.Gather

end
-- ==== Proof.Winner.lean ====
/-
  THE WINNER OF A ROW OF SCORES, as mathematics: nothing here mentions a program. The winner is the first place where the
  scores are greatest. A kernel that keeps the best of the groups read so far, and changes its mind for a strictly greater
  score only, ends at it; so does the head of a stable sort by the negated scores.
-/
module

public import Idealize.ShloMosaic.Lib.SortFacts
public import Idealize.ShloMosaic.PureOps.Ideal.Laws

@[expose] public section

noncomputable section

namespace Cert.Proof.Winner

open Idealize.ShloMosaic

variable {α : Type} [LinearOrder α]

/-- `c` is the first of the first `n` places where `s` is greatest. -/
def FirstMax (s : ℕ → α) (n c : ℕ) : Prop := c < n ∧ (∀ k < n, s k ≤ s c) ∧ ∀ k < c, s k < s c

/-- There is only one such place. -/
theorem FirstMax.unique {s : ℕ → α} {n c c' : ℕ} (h : FirstMax s n c) (h' : FirstMax s n c') : c = c' := by
  rcases lt_trichotomy c c' with hlt | he | hlt
  · exact absurd (h'.2.2 c hlt) (not_lt.mpr (h.2.1 c' h'.1))
  · exact he
  · exact absurd (h.2.2 c' hlt) (not_lt.mpr (h'.2.1 c h.1))

/-- The winner of a group appended to those read so far: the group's only if its score is strictly greater. -/
theorem FirstMax.append {s : ℕ → α} {n n' c c' : ℕ} (h : FirstMax s n c) (h' : FirstMax (fun k => s (n + k)) n' c') :
    FirstMax s (n + n') (if s c < s (n + c') then n + c' else c) := by
  obtain ⟨h1, h2, h3⟩ := h
  obtain ⟨g1, g2, g3⟩ := h'
  have split : ∀ k < n + n', k < n ∨ ∃ j < n', k = n + j := fun k hk => by
    by_cases hn : k < n
    · exact .inl hn
    · exact .inr ⟨k - n, by omega, by omega⟩
  split
  · next hlt =>
    refine ⟨by omega, fun k hk => ?_, fun k hk => ?_⟩
    · rcases split k hk with hn | ⟨j, hj, rfl⟩
      · exact (h2 k hn).trans hlt.le
      · exact g2 j hj
    · rcases split k (by omega) with hn | ⟨j, hj, rfl⟩
      · exact (h2 k hn).trans_lt hlt
      · exact g3 j (by omega)
  · next hnlt =>
    refine ⟨by omega, fun k hk => ?_, h3⟩
    rcases split k hk with hn | ⟨j, hj, rfl⟩
    · exact h2 k hn
    · exact (g2 j hj).trans (not_lt.mp hnlt)

/-- The greatest score itself, as the running maximum keeps it. -/
theorem max_append (s : ℕ → α) (n c c' : ℕ) : max (s (n + c')) (s c) = s (if s c < s (n + c') then n + c' else c) := by
  split
  · next h => exact max_eq_left h.le
  · next h => exact max_eq_right (not_lt.mp h)

/-- A row that is not empty has a winner. -/
theorem exists_firstMax (s : ℕ → α) (n : ℕ) : ∃ c, FirstMax s (n + 1) c := by
  induction n with
  | zero => exact ⟨0, by omega, fun k hk => by rw [show k = 0 by omega], fun k hk => by omega⟩
  | succ n ih =>
    obtain ⟨c, hc⟩ := ih
    exact ⟨_, hc.append (n' := 1) (c' := 0) ⟨by omega, fun k hk => by rw [show k = 0 by omega], fun k hk => by omega⟩⟩

/-! ## The folds of one group -/

/-- A maximum over a group, from below everything, is the winner's score. -/
theorem fold_max_eq {n : ℕ} (f : Fin n → EReal) (c : Fin n) (h : ∀ k, f k ≤ f c) : Finset.univ.fold max ⊥ f = f c :=
  le_antisymm (Finset.fold_max_le _ |>.mpr ⟨bot_le, fun k _ => h k⟩) (Finset.le_fold_max _ |>.mpr (.inr ⟨c, Finset.mem_univ _, le_rfl⟩))

/-- The signed minimum of words is the minimum of the integers they stand for. -/
theorem toInt_minsi (a b : BitVec 32) : (IKind.minsi.op a b).toInt = min a.toInt b.toInt := by
  show (if a.slt b = true then a else b).toInt = _
  rw [BitVec.slt_eq_decide]
  simp only [decide_eq_true_eq]
  split
  · next h => exact (min_eq_left h.le).symm
  · next h => exact (min_eq_right (not_lt.mp h)).symm

/-- A signed minimum over a group is a word `v` of the group that none lies below. -/
theorem fold_minsi_eq {n : ℕ} (f : Fin n → BitVec 32) (b v : BitVec 32) (c : Fin n) (hc : f c = v) (h : ∀ k, v.toInt ≤ (f k).toInt)
    (hb : v.toInt ≤ b.toInt) : Finset.univ.fold IKind.minsi.op b f = v := by
  apply BitVec.eq_of_toInt_eq
  have e : (Finset.univ.fold IKind.minsi.op b f).toInt = Finset.univ.fold min b.toInt (fun k => (f k).toInt) :=
    (Finset.fold_hom (op := IKind.minsi.op) (op' := min) (m := BitVec.toInt) toInt_minsi).symm
  rw [e]
  exact le_antisymm (Finset.fold_min_le _ |>.mpr (.inr ⟨c, Finset.mem_univ _, by rw [hc]⟩)) (Finset.le_fold_min _ |>.mpr ⟨hb, fun k _ => h k⟩)

/-! ## The head of a stable sort -/

/-- The head of a stable sort of positions in order: nothing has a lesser key, and everything before it a greater one. -/
theorem head_stableSort {n : ℕ} (key : Fin n → α) (B : Fin n → Fin n → Bool) (hB : ∀ a b, B a b = true ↔ key a < key b)
    (l : List (Fin n)) (hl : l.Pairwise (· < ·)) : ∀ p t, stableSort B l = p :: t →
      p ∈ l ∧ (∀ x ∈ l, key p ≤ key x) ∧ ∀ x ∈ l, x < p → key p < key x := by
  induction l with
  | nil => intro p t h; cases h
  | cons a l ih =>
    intro p t h
    rw [List.pairwise_cons] at hl
    unfold stableSort at h
    cases hs : stableSort B l with
    | nil =>
      rw [hs] at h
      have hn : l = [] := by
        have := length_stableSort B l
        rw [hs] at this
        exact List.eq_nil_of_length_eq_zero this.symm
      subst hn
      unfold insertBefore at h
      cases h
      refine ⟨List.mem_singleton.mpr rfl, fun x hx => ?_, fun x hx hxa => ?_⟩
      · rw [List.mem_singleton.mp hx]
      · rw [List.mem_singleton.mp hx] at hxa; exact absurd hxa (lt_irrefl _)
    | cons b u =>
      obtain ⟨h1, h2, h3⟩ := ih hl.2 b u hs
      rw [hs] at h
      unfold insertBefore at h
      by_cases hba : B b a = true
      · rw [if_pos hba] at h
        cases h
        have hlt := (hB _ _).mp hba
        refine ⟨List.mem_cons_of_mem _ h1, fun x hx => ?_, fun x hx hxb => ?_⟩
        · rcases List.mem_cons.mp hx with rfl | hx
          · exact hlt.le
          · exact h2 x hx
        · rcases List.mem_cons.mp hx with rfl | hx
          · exact hlt
          · exact h3 x hx hxb
      · rw [if_neg hba] at h
        cases h
        have hle : key a ≤ key b := not_lt.mp fun e => hba ((hB _ _).mpr e)
        refine ⟨List.mem_cons_self, fun x hx => ?_, fun x hx hxa => ?_⟩
        · rcases List.mem_cons.mp hx with rfl | hx
          · exact le_rfl
          · exact hle.trans (h2 x hx)
        · rcases List.mem_cons.mp hx with rfl | hx
          · exact absurd hxa (lt_irrefl _)
          · exact absurd hxa (hl.1 x hx).asymm

/-- The position a stable sort by the negated scores puts first is the winner's. -/
theorem sortedFrom_zero {n : ℕ} (s : ℕ → EReal) (B : Fin n → Fin n → Bool) (hB : ∀ a b, B a b = true ↔ - s a.val < - s b.val) (z : Fin n) (hz : z.val = 0) :
    FirstMax s n (sortedFrom B z).val := by
  have hne : sortPositions n B ≠ [] := fun e => by
    have := length_sortPositions n B
    rw [e] at this
    have := z.isLt
    simp at *
    omega
  obtain ⟨p, t, hpt⟩ := List.exists_cons_of_ne_nil hne
  have hp : sortedFrom B z = p := by
    unfold sortedFrom
    rw [List.get_of_eq hpt]
    simp [hz]
  obtain ⟨-, h2, h3⟩ := head_stableSort (fun a : Fin n => - s a.val) B hB (List.finRange n) (List.pairwise_lt_finRange n) p t hpt
  rw [hp]
  refine ⟨p.isLt, fun k hk => EReal.neg_le_neg_iff.mp (h2 ⟨k, hk⟩ (List.mem_finRange _)), fun k hk => ?_⟩
  exact EReal.neg_lt_neg_iff.mp (h3 ⟨k, hk.trans p.isLt⟩ (List.mem_finRange _) hk)

end Cert.Proof.Winner

end
-- ==== Proof.Scores.lean ====
/-
  THE SCORES, over the reals. A row over its clipped length (`unit`), whether it is written as a product with the reciprocal of
  the length, as a kernel writes it, or as a quotient, as the host does; the factor of an age (`act`); and the score of a row
  against a column (`score`). Then one group of 128 columns: its greatest score, and the column the group's search ends at.
-/
module

public import proofs.«01_k».proof.Proof.Winner
public import Idealize.ShloMosaic.Lib.IdealHost
public import Idealize.ShloMosaic.Lib.ValueIdx
public import Idealize.ShloMosaic.Lib.MatmulPlain
public import Idealize.ShloMosaic.Lib.StackMember
public import Idealize.ShloMosaic.Lib.KernelVsHost
public import Idealize.ShloMosaic.Lib.Pipeline.Value

@[expose] public section

noncomputable section

namespace Cert.Proof.Winner

open Idealize.ShloMosaic Idealize.ShloMosaic.ValueIdx
open scoped BigOperators

/-- The least length a row is divided by. -/
def eps : EReal := Ideal.ofBits .f32 0x2B8CBCCC#32

theorem eps_pos : 0 < eps := by
  unfold eps
  rw [show (0 : EReal) = ((0 : ℝ) : EReal) by norm_cast]
  simp [Ideal.ofBits, Ideal.ieee, -EReal.coe_mul, -EReal.coe_zero, EReal.coe_lt_coe_iff]

/-- A row over its clipped length. -/
def unit {K : Nat} (v : Fin K → EReal) (k : Fin K) : EReal := Ideal.div (v k) (max (Ideal.sqrt (∑ j, v j * v j)) eps)

/-- The factor of an age: one where it is at least one, else zero. -/
def act (a : EReal) : EReal := ((((Ideal.cmp .oge a 1).toNat : ℕ) : ℝ) : EReal)

/-- The score of row `b` of `x` against row `c` of `w`, whose age is `age c`. -/
def score {B C K : Nat} (x : Fin B → Fin K → EReal) (w : Fin C → Fin K → EReal) (age : Fin C → EReal) (b : Fin B) (c : Fin C) : EReal :=
  (∑ k, unit (x b) k * unit (w c) k) * act (age c)

theorem lift_row {R K : Nat} (h : (⟨2, ![R, K]⟩ : Shape).Reduces [1] (⟨1, ![R]⟩ : Shape)) (r : Fin R) (k : Fin K) :
    h.lift (ix1 r) k = ix2 r k := by
  funext c; apply Fin.ext
  fin_cases c <;> rfl

/-- A kernel's column of row values, read at row `r`. -/
theorem column_apply {α : Type} {R : Nat} (x : (⟨1, ![R]⟩ : Shape).Idx → α) (h : (⟨1, ![R]⟩ : Shape).ShapeCasts ⟨2, ![R, 1]⟩) (r : Fin R) (z : Fin 1) :
    shapeCast ⟨2, ![R, 1]⟩ x h (ix2 r z) = x (ix1 r) := by
  refine shapeCast_apply x h _ _ ?_
  rw [Shape.rowMajor_val_one, Shape.rowMajor_val_two]
  show r.val = r.val * 1 + z.val
  omega

/-- A column spread over the row, read at `(r, k)`. -/
theorem spread_apply {α : Type} {R K : Nat} (x : (⟨2, ![R, 1]⟩ : Shape).Idx → α) (h : (⟨2, ![R, 1]⟩ : Shape).Broadcasts ⟨2, ![R, K]⟩) (r : Fin R) (k : Fin K) :
    broadcastTo ⟨2, ![R, K]⟩ x h (ix2 r k) = x (ix2 r 0) := by
  refine broadcastTo_apply x h _ _ fun a => ?_
  fin_cases a
  · show r.val = if R = 1 then 0 else r.val
    split <;> omega
  · rfl

/-- The rows as a kernel normalises them. -/
theorem kernel_rows {R K : Nat} (x : FVec Ideal ⟨2, ![R, K]⟩ .f32) (h1 : (⟨2, ![R, K]⟩ : Shape).Reduces [1] (⟨1, ![R]⟩ : Shape)) (hφ hacc)
    (h2 : (⟨1, ![R]⟩ : Shape).ShapeCasts ⟨2, ![R, 1]⟩) (h3 : (⟨2, ![R, 1]⟩ : Shape).Broadcasts ⟨2, ![R, K]⟩) (h4) (r : Fin R) (k : Fin K) :
    (truncf .bf16 (mulf x (broadcastTo ⟨2, ![R, K]⟩ (divf (broadcast ⟨2, ![R, 1]⟩ (Scalar.ofBits .f32 0x3F800000#32))
      (maximumf (sqrt (shapeCast ⟨2, ![R, 1]⟩ (multiReduction .add [1] ⟨1, ![R]⟩ (mulf x x) 0x00000000#32 h1 hφ hacc) h2))
        (broadcast ⟨2, ![R, 1]⟩ (Scalar.ofBits .f32 0x2B8CBCCC#32)))) h3)) h4 : FVec Ideal ⟨2, ![R, K]⟩ .bf16) (ix2 r k)
      = unit (fun j => x (ix2 r j)) k := by
  rw [truncf_apply, mulf_apply, spread_apply, divf_apply, maximumf_apply]
  show x (ix2 r k) * Ideal.div (Ideal.ofBits .f32 0x3F800000#32) (max (Ideal.sqrt (shapeCast ⟨2, ![R, 1]⟩ _ h2 (ix2 r 0))) eps) = _
  rw [Ideal.ofBits_one_f32, column_apply, Ideal.multiReduction_add_single, Ideal.mul_one_div (ne_of_gt (lt_of_lt_of_le eps_pos (le_max_right _ _)))]
  unfold unit
  congr 3
  refine Finset.sum_congr rfl fun j _ => ?_
  rw [mulf_apply]
  have e := lift_row h1 r j
  exact congrArg (fun i => x i * x i) e

/-- The rows as the host normalises them. -/
theorem host_rows {R K : Nat} (x : FVec Ideal ⟨2, ![R, K]⟩ .f32) (h1' : (⟨2, ![R, K]⟩ : Shape).ReducesTo [1] (⟨1, ![R]⟩ : Shape))
    (h1 : (⟨2, ![R, K]⟩ : Shape).Reduces [1] (⟨1, ![R]⟩ : Shape)) (hu)
    (h2 : (⟨1, ![R]⟩ : Shape).BroadcastsInDim ⟨2, ![R, 1]⟩ ![0]) (h3 : (⟨0, ![]⟩ : Shape).BroadcastsInDim ⟨2, ![R, 1]⟩ ![])
    (h4 : (⟨2, ![R, 1]⟩ : Shape).BroadcastsInDim ⟨2, ![R, K]⟩ ![0, 1]) (r : Fin R) (k : Fin K) :
    Host.divf x (broadcastInDim ⟨2, ![R, K]⟩ ![0, 1] h4 (maximumf (Host.sqrt (broadcastInDim ⟨2, ![R, 1]⟩ ![0] h2
      (Host.reduceAdd (mulf x x) (constant (⟨0, ![]⟩ : Shape) .f32 0x00000000#32) h1' hu))) (broadcastInDim ⟨2, ![R, 1]⟩ ![] h3 (constant (⟨0, ![]⟩ : Shape) .f32 0x2B8CBCCC#32)))) (ix2 r k)
      = unit (fun j => x (ix2 r j)) k := by
  rw [hostDivf_apply]
  rw [broadcastInDim_apply (t := ⟨2, ![R, K]⟩) ![0, 1] h4 _ (ix2 r k) (ix2 r (0 : Fin 1)) (fun a => by
    fin_cases a
    · show r.val = if R = 1 then 0 else r.val
      split <;> omega
    · rfl)]
  rw [maximumf_apply]
  show Ideal.div (x (ix2 r k)) (max (Ideal.sqrt (broadcastInDim (s := ⟨1, ![R]⟩) ⟨2, ![R, 1]⟩ ![0] h2 _ (ix2 r 0))) eps) = _
  rw [broadcastInDim_apply (s := ⟨1, ![R]⟩) (t := ⟨2, ![R, 1]⟩) ![0] h2 _ (ix2 r (0 : Fin 1)) (ix1 r) (fun a => by
    fin_cases a
    show r.val = if R = 1 then 0 else r.val
    split <;> omega)]
  rw [hostReduceAdd_apply, Ideal.hostReduceAdd_single h1' h1]
  show Ideal.div (x (ix2 r k)) (max (Ideal.sqrt (Ideal.ofBits .f32 0x00000000#32 + _)) eps) = _
  rw [Ideal.ofBits_zero_f32, zero_add]
  unfold unit
  congr 3
  refine Finset.sum_congr rfl fun j _ => ?_
  rw [mulf_apply]
  have e := lift_row h1 r j
  exact congrArg (fun i => x i * x i) e

/-! ## One group of columns -/

/-- The greatest of a row's entries, as a kernel takes it. -/
theorem group_max {R K : Nat} (s : FVec Ideal ⟨2, ![R, K]⟩ .f32) (h1 : (⟨2, ![R, K]⟩ : Shape).Reduces [1] (⟨1, ![R]⟩ : Shape)) (hφ hacc) (r : Fin R)
    (c : Fin K) (hc : ∀ k, s (ix2 r k) ≤ s (ix2 r c)) :
    multiReduction .maximumf [1] ⟨1, ![R]⟩ s 0xFF800000#32 h1 hφ hacc (ix1 r) = s (ix2 r c) := by
  rw [Ideal.multiReduction_maximumf_single]
  have hb : (FloatOps.ofBits (F := Ideal) .f32 0xFF800000#32) = (⊥ : EReal) := by
    show Ideal.ofBits .f32 0xFF800000#32 = _
    simp [Ideal.ofBits, Ideal.ieee]
  rw [hb]
  refine Eq.trans ?_ (fold_max_eq (fun k : Fin K => s (ix2 r k)) c hc)
  exact congrArg (Finset.fold max ⊥ · _) (funext fun k => congrArg s (lift_row h1 r k))

/-- The least of a row's words, as a kernel takes it. -/
theorem group_min {R K : Nat} (s : IVec ⟨2, ![R, K]⟩ 32) (h1 : (⟨2, ![R, K]⟩ : Shape).Reduces [1] (⟨1, ![R]⟩ : Shape)) (hacc) (r : Fin R)
    (c : Fin K) (v : BitVec 32) (hv : s (ix2 r c) = v) (hc : ∀ k, v.toInt ≤ (s (ix2 r k)).toInt) (hb : v.toInt ≤ (2147483647#32 : BitVec 32).toInt) :
    multiReductionI .minsi [1] ⟨1, ![R]⟩ s 2147483647#32 h1 hacc (ix1 r) = v := by
  rw [multiReductionI_eq_fold, h1.fold_filter_drop_single]
  refine Eq.trans ?_ (fold_minsi_eq (fun k : Fin K => s (ix2 r k)) 2147483647#32 v c hv hc hb)
  exact congrArg (Finset.fold _ _ · _) (funext fun k => congrArg s (lift_row h1 r k))

end Cert.Proof.Winner

end
-- ==== Proof.WholeBase.lean ====
/-
  THE WHOLE KERNEL AS THE LAUNCH THEOREM SEES IT: its body tables, the ghost state its proof uses — the handshakes'
  rounds of the SparseCore call, the rounds of the two TensorCore pipelines' semaphores, and the counters the kernels'
  own copies ride on — and the three embeddings of that state.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.Pointwise.Index
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, the pipelines' rounds, and the transfers' counters. -/
abbrev UH : Type := URounds (GSem nD τ sig) ℕ
abbrev UP : Type := URounds (GSem nD τ sig) Unit
abbrev UU : Type := UH × (UP × Counters)

/-- The handshakes' rounds; -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- and the pipelines'. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by unfold EH; infer_instance
instance EP_landsIn : (EP : Emb UP (MT nD τ sig (HIx 1) (Elt F) ℕ UU ℕ)).LandsIn (upEmb : UEmb _ (MT nD τ sig (HIx 1) (Elt F) ℕ UU ℕ)) := by unfold EP; infer_instance

/-- The launch's ghost state splits into the handshakes' and the pipelines'. -/
theorem ownU_parts (a : UH) (b : UP) :
    (ownU ((a, (b, 1)) : UU) : sProp (MT nD τ sig (HIx 1) (Elt F) ℕ UU ℕ)) ⊢ iprop(BI.own (EH (F := F) a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

end Cert.Proof.Whole

end
-- ==== Proof.WholeNorm.lean ====
/-
  THE FIRST TENSORCORE CALL. Over eight points of 32 rows it normalises the rows of `x` and rounds them. This module
  gives the call's proof data at any contents of the arrays it is entered with, proves the body's obligation, and states
  what the call leaves in its result's array.
-/
module

public import proofs.«01_k».proof.Proof.WholeBase
public import proofs.«01_k».proof.Proof.Gen.KernelIdeal.Launch
public import proofs.«01_k».proof.Proof.Gen.KernelIdeal.Points
public import Idealize.ShloMosaic.Lib.Pipeline.Value
public import Idealize.ShloMosaic.Lib.Pipeline.RegionArrays
public import Idealize.ShloMosaic.Lib.VecWindow

@[expose] public section

set_option maxRecDepth 16384

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- A TensorCore array as one of the device's. -/
abbrev dv (b : Ref sig .tc) : DevRef τ sig := Proc.devRef .tc b

/-- What the TensorCore owes while a call of its own runs: the SparseCore call's start, still to come. -/
abbrev owedTc (d : Dev nD) : CellTallies nD τ sig (HIx 1) := (K (F := F)).Otc d 0
/-- The waits it may have on record then: none above the lowest level. -/
abbrev lowWaits (d : Dev nD) : Set (SemLoc sig × HIx 1) := {p | (K (F := F)).lev (T d, p.1) p.2 ≤ 0}

/-! ## The proof data -/

/-- Window `w`'s block at point `t`, read off the array's contents at entry. -/
def blk0 (A : Valuation τ sig (Elt F)) (w : Fin cfg0.W) (t : Fin cfg0.N) : ((cfg0.win w).xblock (cfg0.grid.coords t)).Idx → Elt F (cfg0.win w).elt :=
  ((cfg0.win w).blk t).view.read (Elt F) (A (dv (Pipeline.arrRef spec0 w)))

/-- The 32 rows the point reads, normalised. -/
def rows0 (A : Valuation τ sig (Elt F)) (t : Fin cfg0.N) : Vec F S32x50176 .bf16 := k0_pay1 (blk0 A 0 t)

/-- The scoped buffers the call does not touch. -/
def Φ0 (c : Dev nD) : sProp 𝕄 := Pipeline.scopedRest spec0 c

def dat0 (A : Valuation τ sig (Elt F)) (c : Dev nD) : Dat τ (Elt F) (HIx 1) ℕ UU ℕ cfg0 c where
  A w := A (dv (Pipeline.arrRef spec0 w))
  after w t := match w with
    | ⟨0, _⟩ => blk0 A 0 t
    | ⟨1, _⟩ => rows0 A t
  Φ _ := Φ0 c
  q _ := fullShare
  owed _ := owedTc (F := F) c
  recorded _ := lowWaits (F := F) c

theorem before0_in (A : Valuation τ sig (Elt F)) (c : Dev nD) (t : Fin cfg0.N) (d) : (dat0 A c).before 0 t d = blk0 A 0 t := by
  unfold Dat.before; rw [if_pos (fetch0_0 t)]; unfold Dat.fetched Dat.blockOf blk0; dsimp only [dat0]; rfl
theorem after0_in (A : Valuation τ sig (Elt F)) (c : Dev nD) (t : Fin cfg0.N) : (dat0 A c).after 0 t = blk0 A 0 t := by dsimp only [dat0]
theorem after0_out (A : Valuation τ sig (Elt F)) (c : Dev nD) (t : Fin cfg0.N) : (dat0 A c).after 1 t = rows0 A t := by dsimp only [dat0]

/-! ## The body obligation -/

theorem defs0_tc : (defs₀ (F := F)) .tc cfg0.body
    = fun a => cc0__xnorm_body (grid0.coords a.1) (win0_0.stage (a.2 0)) (hstage0_0 ((a.2 0).cast nbuf0_0)) (win0_1.stage (a.2 1)) (hstage0_1 ((a.2 1).cast nbuf0_1)) := rfl
theorem prog0_eq (t : Fin cfg0.N) : (defs₀ (F := F)) .tc cfg0.body (cfg0.bodyArgs t (cfg0.slots t)) = bodyAt0 t := (congrFun defs0_tc _).trans rfl

set_option backward.isDefEq.respectTransparency.types false in
theorem body_obligation0 (A : Valuation τ sig (Elt F)) (c : Dev nD) :
    BodyObligation (dat0 (F := F) A c) (defs₀ (F := F)) 𝒱₀ (none : HIx 1) Set.univ := fun t => by
  rw [bigSep_W0, bigSep_W0]
  dsimp only
  simp only [before0_in, after0_in, after0_out]
  rw [show (dat0 A c).Φ t.castSucc = Φ0 c from rfl, show (dat0 A c).Φ t.succ = Φ0 c from rfl,
    show (dat0 A c).owesAt none t.castSucc = (dat0 A c).owesAt none t.succ from rfl]
  unfold owns
  iintro ⟨HΦ, HW, ⟨%d0, %g0, %hg0, Hx⟩, ⟨%d1, %gO, -, HO⟩⟩
  sl_rw [prog0_eq t]
  sl_unfold [bodyAt0, cc0__xnorm_body]
  sl_exec
  sl_step
  isplitl [HΦ]; · iexact HΦ
  isplitl [HW]; · iexact HW
  isplitl [Hx]
  · iexists g0; isplitr; · ipureintro; exact hg0
    iexact Hx
  iexists _; isplitr
  swap; · iexact HO
  ipureintro
  rw [View.read_writes_full]
  show k0_pay1 ((st0_0 t).view.readAt (Elt F) (Rect.unit (s := S32x50176) ![0, 0] S32x50176.size inb_S32x50176_S32x50176_0_0).toLoadRect g0) = k0_pay1 (blk0 A 0 t)
  rw [← hg0, View.readAt_full]

end Cert.Proof.Whole

end
-- ==== Proof.WholeRing.lean ====
/-
  THE SECOND TENSORCORE CALL'S RING. The call copies the 64 blocks of 16 rows of `W` one after another into a ring of six
  slots, five copies ahead. This module names the blocks, the slots and the slots' semaphores, identifies the body's
  slices with them, and gives the pieces the body holds: a block at home, a slot held, a slot in flight.
-/
module

public import proofs.«01_k».proof.Proof.WholeNorm
public import Idealize.ShloMosaic.Lib.Ring.AtN
public import Idealize.ShloMosaic.Lib.Affine

@[expose] public section

set_option maxRecDepth 16384

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Names for the blocks, the slots and the semaphores -/

abbrev wM : Memref sig .tc .hbm S64x16x50176 .f32 := Memref.whole main_v1
abbrev ringM : Memref sig .tc .vmem S6x16x50176 .f32 := Memref.whole cc1_scratch0

abbrev blkOff (b : Fin 64) : Fin 3 → Nat := ![b.val, 0, 0]
abbrev slotOff (s : Fin 6) : Fin 3 → Nat := ![s.val, 0, 0]
abbrev semOff (s : Fin 6) : Fin 1 → Nat := ![s.val]

theorem blkOff_inb (b : Fin 64) : ∀ a, blkOff b a + S1x16x50176.size a ≤ S64x16x50176.size a := by
  intro a; have := b.isLt
  match a with
  | 0 => show b.val + 1 ≤ 64; omega
  | 1 => exact le_refl 16
  | 2 => exact le_refl 50176
theorem slotOff_inb (s : Fin 6) : ∀ a, slotOff s a + S1x16x50176.size a ≤ S6x16x50176.size a := by
  intro a; have := s.isLt
  match a with
  | 0 => show s.val + 1 ≤ 6; omega
  | 1 => exact le_refl 16
  | 2 => exact le_refl 50176
theorem semOff_inb (s : Fin 6) : ∀ a, semOff s a + S1.size a ≤ S6.size a := by
  intro a; have := s.isLt
  match a with
  | 0 => show s.val + 1 ≤ 6; omega

/-- Block `b` of `W`'s rows, slot `s` of the ring, and slot `s`'s semaphore, as the body slices and squeezes them. -/
def wBlk (b : Fin 64) : Memref sig .tc .hbm S16x50176 .f32 :=
  (wM.slice (Rect.unit (s := S64x16x50176) (blkOff b) S1x16x50176.size (blkOff_inb b)) (fun _ => rfl)).squeeze S16x50176 squeezes_S1x16x50176_S16x50176
def slotM (s : Fin 6) : Memref sig .tc .vmem S16x50176 .f32 :=
  (ringM.slice (Rect.unit (s := S6x16x50176) (slotOff s) S1x16x50176.size (slotOff_inb s)) (fun _ => rfl)).squeeze S16x50176 squeezes_S1x16x50176_S16x50176
def slotSem (s : Fin 6) : DmaSems sig S_ := (cc1_scratch1.slice (Rect.unit (s := S6) (semOff s) S1.size (semOff_inb s))).squeeze S_ squeezes_S1_S_

instance (s : Fin 6) : ClosedOff (slotOff s) := ⟨slotOff s, rfl⟩
instance (b : Fin 64) : ClosedOff (blkOff b) := ⟨blkOff b, rfl⟩

/-! ## The body's offsets in closed form -/

abbrev pt (t : Fin grid1.N) : grid1.Coords := grid1.coords t

theorem off1_eq : ∀ r : Fin 5, k1_off1 (BitVec.ofNat 32 r.val) = semOff (r.castLE (by decide)) := by decide +kernel
theorem off2_eq : ∀ r : Fin 5, k1_off2 (BitVec.ofNat 32 r.val) = slotOff (r.castLE (by decide)) := by decide +kernel
theorem off3_eq : ∀ t : Fin grid1.N, k1_off3 (pt t) = semOff (Ring.sl 6 t.val) := by decide +kernel
theorem off4_eq : ∀ t : Fin grid1.N, k1_off4 (pt t) = slotOff (Ring.sl 6 t.val) := by decide +kernel
theorem off5_eq : ∀ t : Fin grid1.N, k1_off5 (pt t) = blkOff (Ring.bk 64 t.val) := by decide +kernel
theorem off6_eq : ∀ t : Fin grid1.N, k1_off6 (pt t) = slotOff (Ring.sl 6 t.val) := by decide +kernel
theorem off7_eq : ∀ t : Fin grid1.N, k1_off7 (pt t) = ![16 * (t.val % 8), 0] := by decide +kernel
theorem off8_eq : ∀ t : Fin grid1.N, t.val + 5 < 64 → k1_off8 (pt t) = semOff (Ring.sl 6 (t.val + 5)) := by decide +kernel
theorem off9_eq : ∀ t : Fin grid1.N, t.val + 5 < 64 → k1_off9 (pt t) = slotOff (Ring.sl 6 (t.val + 5)) := by decide +kernel
theorem off10_eq : ∀ t : Fin grid1.N, t.val + 5 < 64 → k1_off10 (pt t) = blkOff (Ring.bk 64 (t.val + 5)) := by decide +kernel

theorem cond1_eq : ∀ t : Fin grid1.N, k1_cond1 (pt t) = 1#1 ↔ t.val = 0 := by decide +kernel
theorem cond2_eq : ∀ t : Fin grid1.N, k1_cond2 (pt t) = 1#1 ↔ t.val + 5 < 64 := by decide +kernel
theorem cond3_eq : ∀ t : Fin grid1.N, k1_cond3 (pt t) = 1#1 ↔ t.val % 8 = 7 := by decide +kernel
theorem cond7_eq : ∀ t : Fin grid1.N, k1_cond7 (pt t) = 1#1 ↔ t.val = 63 := by decide +kernel

instance (t : Fin grid1.N) : ClosedOff (k1_off4 (pt t)) := ⟨slotOff (Ring.sl 6 t.val), off4_eq t⟩
instance (t : Fin grid1.N) : ClosedOff (k1_off6 (pt t)) := ⟨slotOff (Ring.sl 6 t.val), off6_eq t⟩
instance (t : Fin grid1.N) : ClosedOff (k1_off7 (pt t)) := ⟨![16 * (t.val % 8), 0], off7_eq t⟩

theorem slotSem_of {off : Fin 1 → Nat} {s : Fin 6} (e : off = semOff s) (hh) :
    (cc1_scratch1.slice (Rect.unit (s := S6) off S1.size hh)).squeeze S_ squeezes_S1_S_ = slotSem s :=
  congrArg (fun A : DmaSems sig S1 => A.squeeze S_ squeezes_S1_S_) (SemArray.slice_unit_congr _ e _ _)
theorem slotM_of {off : Fin 3 → Nat} {s : Fin 6} (e : off = slotOff s) (hh hs) :
    (ringM.slice (Rect.unit (s := S6x16x50176) off S1x16x50176.size hh) hs).squeeze S16x50176 squeezes_S1x16x50176_S16x50176 = slotM s :=
  congrArg (fun M : Memref sig .tc .vmem S1x16x50176 .f32 => M.squeeze S16x50176 squeezes_S1x16x50176_S16x50176) (Memref.slice_unit_congr _ e _ _ _ _)
theorem wBlk_of {off : Fin 3 → Nat} {b : Fin 64} (e : off = blkOff b) (hh hs) :
    (wM.slice (Rect.unit (s := S64x16x50176) off S1x16x50176.size hh) hs).squeeze S16x50176 squeezes_S1x16x50176_S16x50176 = wBlk b :=
  congrArg (fun M : Memref sig .tc .hbm S1x16x50176 .f32 => M.squeeze S16x50176 squeezes_S1x16x50176_S16x50176) (Memref.slice_unit_congr _ e _ _ _ _)

/-- The first point's five slots, semaphores and blocks. -/
@[sl_canon] theorem sem_0 (hh) : (cc1_scratch1.slice (Rect.unit (s := S6) (k1_off1 0#32) S1.size hh)).squeeze S_ squeezes_S1_S_ = slotSem 0 := slotSem_of (off1_eq 0) _
@[sl_canon] theorem sem_1 (hh) : (cc1_scratch1.slice (Rect.unit (s := S6) (k1_off1 1#32) S1.size hh)).squeeze S_ squeezes_S1_S_ = slotSem 1 := slotSem_of (off1_eq 1) _
@[sl_canon] theorem sem_2 (hh) : (cc1_scratch1.slice (Rect.unit (s := S6) (k1_off1 2#32) S1.size hh)).squeeze S_ squeezes_S1_S_ = slotSem 2 := slotSem_of (off1_eq 2) _
@[sl_canon] theorem sem_3 (hh) : (cc1_scratch1.slice (Rect.unit (s := S6) (k1_off1 3#32) S1.size hh)).squeeze S_ squeezes_S1_S_ = slotSem 3 := slotSem_of (off1_eq 3) _
@[sl_canon] theorem sem_4 (hh) : (cc1_scratch1.slice (Rect.unit (s := S6) (k1_off1 4#32) S1.size hh)).squeeze S_ squeezes_S1_S_ = slotSem 4 := slotSem_of (off1_eq 4) _
@[sl_canon] theorem slot_0 (hh hs) : (ringM.slice (Rect.unit (s := S6x16x50176) (k1_off2 0#32) S1x16x50176.size hh) hs).squeeze S16x50176 squeezes_S1x16x50176_S16x50176 = slotM 0 := slotM_of (off2_eq 0) _ _
@[sl_canon] theorem slot_1 (hh hs) : (ringM.slice (Rect.unit (s := S6x16x50176) (k1_off2 1#32) S1x16x50176.size hh) hs).squeeze S16x50176 squeezes_S1x16x50176_S16x50176 = slotM 1 := slotM_of (off2_eq 1) _ _
@[sl_canon] theorem slot_2 (hh hs) : (ringM.slice (Rect.unit (s := S6x16x50176) (k1_off2 2#32) S1x16x50176.size hh) hs).squeeze S16x50176 squeezes_S1x16x50176_S16x50176 = slotM 2 := slotM_of (off2_eq 2) _ _
@[sl_canon] theorem slot_3 (hh hs) : (ringM.slice (Rect.unit (s := S6x16x50176) (k1_off2 3#32) S1x16x50176.size hh) hs).squeeze S16x50176 squeezes_S1x16x50176_S16x50176 = slotM 3 := slotM_of (off2_eq 3) _ _
@[sl_canon] theorem slot_4 (hh hs) : (ringM.slice (Rect.unit (s := S6x16x50176) (k1_off2 4#32) S1x16x50176.size hh) hs).squeeze S16x50176 squeezes_S1x16x50176_S16x50176 = slotM 4 := slotM_of (off2_eq 4) _ _
@[sl_canon] theorem blk_0 (hh hs) : (wM.slice (Rect.unit (s := S64x16x50176) ![0, 0, 0] S1x16x50176.size hh) hs).squeeze S16x50176 squeezes_S1x16x50176_S16x50176 = wBlk 0 := wBlk_of (by decide) _ _
@[sl_canon] theorem blk_1 (hh hs) : (wM.slice (Rect.unit (s := S64x16x50176) ![1, 0, 0] S1x16x50176.size hh) hs).squeeze S16x50176 squeezes_S1x16x50176_S16x50176 = wBlk 1 := wBlk_of (by decide) _ _
@[sl_canon] theorem blk_2 (hh hs) : (wM.slice (Rect.unit (s := S64x16x50176) ![2, 0, 0] S1x16x50176.size hh) hs).squeeze S16x50176 squeezes_S1x16x50176_S16x50176 = wBlk 2 := wBlk_of (by decide) _ _
@[sl_canon] theorem blk_3 (hh hs) : (wM.slice (Rect.unit (s := S64x16x50176) ![3, 0, 0] S1x16x50176.size hh) hs).squeeze S16x50176 squeezes_S1x16x50176_S16x50176 = wBlk 3 := wBlk_of (by decide) _ _
@[sl_canon] theorem blk_4 (hh hs) : (wM.slice (Rect.unit (s := S64x16x50176) ![4, 0, 0] S1x16x50176.size hh) hs).squeeze S16x50176 squeezes_S1x16x50176_S16x50176 = wBlk 4 := wBlk_of (by decide) _ _

/-- The slot, semaphore and block a point waits for, and those it starts. -/
@[sl_canon] theorem sem_wait (t : Fin grid1.N) (hh) : (cc1_scratch1.slice (Rect.unit (s := S6) (k1_off3 (pt t)) S1.size hh)).squeeze S_ squeezes_S1_S_ = slotSem (Ring.sl 6 t.val) := slotSem_of (off3_eq t) _
@[sl_canon] theorem slot_wait (t : Fin grid1.N) (hh hs) : (ringM.slice (Rect.unit (s := S6x16x50176) (k1_off4 (pt t)) S1x16x50176.size hh) hs).squeeze S16x50176 squeezes_S1x16x50176_S16x50176 = slotM (Ring.sl 6 t.val) := slotM_of (off4_eq t) _ _
@[sl_canon] theorem blk_wait (t : Fin grid1.N) (hh hs) : (wM.slice (Rect.unit (s := S64x16x50176) (k1_off5 (pt t)) S1x16x50176.size hh) hs).squeeze S16x50176 squeezes_S1x16x50176_S16x50176 = wBlk (Ring.bk 64 t.val) := wBlk_of (off5_eq t) _ _
@[sl_canon] theorem sem_start (t : Fin grid1.N) (ht : t.val + 5 < 64) (hh) : (cc1_scratch1.slice (Rect.unit (s := S6) (k1_off8 (pt t)) S1.size hh)).squeeze S_ squeezes_S1_S_ = slotSem (Ring.sl 6 (t.val + 5)) := slotSem_of (off8_eq t ht) _
@[sl_canon] theorem slot_start (t : Fin grid1.N) (ht : t.val + 5 < 64) (hh hs) : (ringM.slice (Rect.unit (s := S6x16x50176) (k1_off9 (pt t)) S1x16x50176.size hh) hs).squeeze S16x50176 squeezes_S1x16x50176_S16x50176 = slotM (Ring.sl 6 (t.val + 5)) := slotM_of (off9_eq t ht) _ _
@[sl_canon] theorem blk_start (t : Fin grid1.N) (ht : t.val + 5 < 64) (hh hs) : (wM.slice (Rect.unit (s := S64x16x50176) (k1_off10 (pt t)) S1x16x50176.size hh) hs).squeeze S16x50176 squeezes_S1x16x50176_S16x50176 = wBlk (Ring.bk 64 (t.val + 5)) := wBlk_of (off10_eq t ht) _ _

/-! ## The pieces -/

section Pieces
variable (c : Dev nD) (XW : Buf (Elt F) (wM.view.loc (c : Thread nD τ)))

/-- Slot `s`'s semaphore at zero, slot `s` at contents `f`, and block `b` at home. -/
abbrev cellP (s : Fin 6) : sProp 𝕄 := semVal ((c : Thread nD τ), SemLoc.dma (slotSem s).sem) 0
abbrev slotP (s : Fin 6) (f : Buf (Elt F) ((slotM s).view.loc (c : Thread nD τ))) : sProp 𝕄 :=
  (slotM s).view.loc (c : Thread nD τ) ↦[(slotM s).view.set]{fullShare} f
abbrev homeP (b : Fin 64) : sProp 𝕄 := (wBlk b).view.loc (c : Thread nD τ) ↦[(wBlk b).view.set]{fullShare} XW
/-- What block `b`'s copy leaves in slot `s` over contents `f`. -/
abbrev landed (s : Fin 6) (b : Fin 64) (f : Buf (Elt F) ((slotM s).view.loc (c : Thread nD τ))) : Buf (Elt F) ((slotM s).view.loc (c : Thread nD τ)) :=
  (slotM s).view.writes (Elt F) f [⟨Rect.whole S16x50176, ReadAs.same.apply ((wBlk b).view.read (Elt F) XW)⟩]
/-- Slot `s` in flight with block `b`, started over contents `f`. -/
abbrev flightP (s : Fin 6) (b : Fin 64) (f : Buf (Elt F) ((slotM s).view.loc (c : Thread nD τ))) : sProp 𝕄 :=
  Transfers.Flight countersEmb (c : Thread nD τ) (SemLoc.dma (slotSem s).sem) (none : HIx 1) 100352 iprop(slotP c s (landed c XW s b f) ∗ homeP c XW b)

/-- The ring before point `p`: five copies out, as far as there are blocks; before any is started. -/
abbrev ringAt (p : ℕ) : sProp 𝕄 := Ring.At 5 (cellP c) (slotP c) (homeP c XW) (flightP c XW) p
abbrev ringNew : sProp 𝕄 := Ring.At₀ (cellP c) (slotP c) (homeP c XW)

end Pieces

end Cert.Proof.Whole

end
-- ==== Proof.WholeBody.lean ====
/-
  ONE POINT OF THE SECOND CALL'S LOOP, IN PARTS. The first part waits for the point's block of `W`, normalises its 16 rows and
  packs them beside the group's earlier ones; the second, at a point that closes a group of 128 columns, multiplies the group's
  rows with the normalised `x` and sets or updates the running maximum and its column; the last group also stores the columns.
-/
module

public import proofs.«01_k».proof.Proof.WholeRing

@[expose] public section

set_option maxRecDepth 16384

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev xM : Memref sig .tc .hbm S256x50176 .bf16 := Memref.whole main_v2
abbrev xbM : Memref sig .tc .vmem S256x50176 .bf16 := Memref.whole cc1_scratch2
abbrev rowsM : Memref sig .tc .vmem S128x50176 .bf16 := Memref.whole cc1_scratch4
abbrev maxM : Memref sig .tc .vmem S256x1 .f32 := Memref.whole cc1_scratch5
abbrev idxM : Memref sig .tc .vmem S256x1 .i32 := Memref.whole cc1_scratch6

/-! ## The values -/

/-- A block of 16 rows as the body stores it: each row over its clipped length. -/
def wnorm (v14 : FVec F S16x50176 .f32) : FVec F S16x50176 .bf16 :=
  shapeCast S16x50176 (truncf .bf16 (mulf v14 (broadcastTo S16x50176 (divf (broadcast S16x1 (Scalar.ofBits .f32 0x3F800000#32))
    (maximumf (sqrt (shapeCast S16x1 (multiReduction .add [1] S16 (mulf v14 v14) 0x00000000#32 reduces_S16x50176_S16 (.inl rfl) rfl) shapeCasts_S16_S16x1))
      (broadcast S16x1 (Scalar.ofBits .f32 0x2B8CBCCC#32)))) broadcasts_S16x1_S16x50176)) bitsLt_bf16_f32) shapeCasts_S16x50176_S16x50176

theorem pay8_eq (v13 : Vec F S1x16x50176 .f32) : k1_pay8 v13 = wnorm (shapeCast S16x50176 v13 shapeCasts_S1x16x50176_S16x50176) := rfl

/-- A load of one slot through the whole ring, its unit axis dropped, is the slot read. -/
theorem slot_cast {off : Fin 3 → Nat} {s : Fin 6} (e : off = slotOff s) (h) (g : (slotM s).view.ty.Contents (Elt F)) :
    shapeCast S16x50176 (View.readAt (Elt F) ringM.view (Rect.unit (s := S6x16x50176) off S1x16x50176.size h).toLoadRect g) shapeCasts_S1x16x50176_S16x50176
      = (slotM s).view.read (Elt F) g := by
  subst e; rfl

theorem pay_congr {α β γ δ : Type} (p : α → β → γ → δ) {a a' : α} {b b' : β} {x x' : γ} (ha : a = a') (hb : b = b') (hx : x = x') : p a b x = p a' b' x' := by
  rw [ha, hb, hx]
theorem pay_congr4 {α β γ δ ε : Type} (p : α → β → γ → δ → ε) {a a' : α} {b b' : β} {x x' : γ} {y y' : δ} (ha : a = a') (hb : b = b') (hx : x = x') (hy : y = y') :
    p a b x y = p a' b' x' y' := by
  rw [ha, hb, hx, hy]
theorem pay_congr5 {α β γ δ ε ζ : Type} (p : α → β → γ → δ → ε → ζ) {a a' : α} {b b' : β} {x x' : γ} {y y' : δ} {z z' : ε} (ha : a = a') (hb : b = b') (hx : x = x') (hy : y = y')
    (hz : z = z') : p a b x y z = p a' b' x' y' z' := by
  rw [ha, hb, hx, hy, hz]

section Run
variable (c : Dev nD) (XW : Buf (Elt F) (wM.view.loc (c : Thread nD τ))) (XN : Buf (Elt F) (xM.view.loc (c : Thread nD τ))) (t : Fin grid1.N)
  (arg3 : Memref sig .tc .vmem S1x1x128 .f32) (harg3 : arg3.IsWhole) (arg4 : Memref sig .tc .vmem S256x1 .i32) (harg4 : arg4.IsWhole)

/-- The normalised rows of block `b`. -/
def rowsNorm (b : Fin 64) : FVec F S16x50176 .bf16 := wnorm ((wBlk b).view.read (Elt F) XW)

/-- The point's slot, read after its copy landed, is the block. -/
theorem slot_read (b : Fin 64) (f : Buf (Elt F) ((slotM (Ring.sl 6 t.val)).view.loc (c : Thread nD τ))) (h) :
    k1_pay8 (View.readAt (Elt F) ringM.view (Rect.unit (s := S6x16x50176) (k1_off6 (pt t)) S1x16x50176.size h).toLoadRect (landed c XW (Ring.sl 6 t.val) b f))
      = rowsNorm c XW b := by
  rw [pay8_eq]
  unfold rowsNorm
  exact congrArg wnorm ((slot_cast (off6_eq t) h _).trans (View.read_writes_whole (slotM (Ring.sl 6 t.val)).view f _))

abbrev part3G := k1_part3 (F := F) (pt t) wM (Memref.isWhole_whole main_v1) xM (Memref.isWhole_whole main_v2) arg3 harg3 arg4 harg4 ringM (Memref.isWhole_whole cc1_scratch0) cc1_scratch1
  xbM (Memref.isWhole_whole cc1_scratch2) cc1_scratch3 rowsM (Memref.isWhole_whole cc1_scratch4) maxM (Memref.isWhole_whole cc1_scratch5) idxM (Memref.isWhole_whole cc1_scratch6)

/-- What the first part hands on. -/
abbrev part3Val : Σ' (arg0 : BitVec 32) (v0 : BitVec 32), BitVec 32 :=
  ⟨BitVec.ofNat 32 ((pt t) 0).val, Scalar.remsi (BitVec.ofNat 32 ((pt t) 0).val) 8#32, Scalar.divsi (BitVec.ofNat 32 ((pt t) 0).val) 8#32⟩

/-- The packed rows after the point's 16 rows are stored. -/
abbrev rowsPut (f4 : Buf (Elt F) (rowsM.view.loc (c : Thread nD τ))) : Buf (Elt F) (rowsM.view.loc (c : Thread nD τ)) :=
  rowsM.view.writes (Elt F) f4 [⟨Rect.unit (s := S128x50176) (k1_off7 (pt t)) S16x50176.size (k1_off7_inb (pt t)), rowsNorm c XW (Ring.bk 64 t.val)⟩]

/-- A LATER POINT'S FIRST PART: its block's copy waited, the rows normalised and packed. -/
theorem wait_later (ht : ¬ k1_cond1 (pt t) = 1#1) (O W) (f : Buf (Elt F) ((slotM (Ring.sl 6 t.val)).view.loc (c : Thread nD τ)))
    (f4 : Buf (Elt F) (rowsM.view.loc (c : Thread nD τ))) :
    iprop(Transfers.MayWaits (c : Thread nD τ) (none : HIx 1) O ∗ owes (c : Thread nD τ) O W ∗ flightP c XW (Ring.sl 6 t.val) (Ring.bk 64 t.val) f ∗ rowsM.view.loc (c : Thread nD τ) ↦{fullShare} f4)
      ⊢ wp frame (wpE (defs₀ (F := F)) 𝒱₀ (c : Thread nD τ) none) Set.univ (part3G t arg3 harg3 arg4 harg4)
        (fun r => iprop(⌜r = part3Val t⌝ ∗ owes (c : Thread nD τ) O (insert (SemLoc.dma (slotSem (Ring.sl 6 t.val)).sem, none) W)
          ∗ cellP c (Ring.sl 6 t.val) ∗ (∃ f, slotP c (Ring.sl 6 t.val) f) ∗ homeP c XW (Ring.bk 64 t.val)
          ∗ rowsM.view.loc (c : Thread nD τ) ↦{fullShare} rowsPut c XW t f4)) := by
  iintro ⟨#Hmw, HO, HF, Hr⟩
  sl_unfold [part3G, k1_part3]
  sl_exec
  sl_step
  isplitr; · ipureintro; rfl
  isplitl [HO]; · iexact HO
  isplitl [HF]; · iexact HF
  isplitl [HF_dst]; · iexists _; iexact HF_dst
  isplitl [HF_src]; · iexact HF_src
  rw [show wait_later.sl.v30 c XW t = rowsNorm c XW (Ring.bk 64 t.val) from slot_read c XW t _ _ _]
  iexact Hr

abbrev p0 : Fin grid1.N := ⟨0, by decide⟩
theorem sl6_0 : Ring.sl 6 (p0).val = 0 := Fin.ext (by rfl)
theorem bk64_0 : Ring.bk 64 (p0).val = 0 := Fin.ext (by rfl)

/-- The copy of the normalised `x` in flight. -/
abbrev xFlight (f2 : Buf (Elt F) (xbM.view.loc (c : Thread nD τ))) : sProp 𝕄 :=
  Transfers.Flight countersEmb (c : Thread nD τ) (SemLoc.dma cc1_scratch3.sem) (none : HIx 1) 802816
    iprop((xbM.view.loc (c : Thread nD τ) ↦{fullShare} View.write (Elt F) xbM.view f2 (ReadAs.same.apply (xM.view.read (Elt F) XN)) Finset.univ) ∗ xM.view.loc (c : Thread nD τ) ↦[xM.view.set]{fullShare} XN)

attribute [local sl_canon] sl6_0 bk64_0 in
/-- THE FIRST POINT'S FIRST PART. -/
theorem wait_first (O W) (f0 f1 f2 f3 f5) (fx : Buf (Elt F) (xbM.view.loc (c : Thread nD τ)))
    (f4 : Buf (Elt F) (rowsM.view.loc (c : Thread nD τ))) :
    iprop(Transfers.MayWaits (c : Thread nD τ) (none : HIx 1) O ∗ owes (c : Thread nD τ) O W
       ∗ (semVal ((c : Thread nD τ), SemLoc.dma cc1_scratch3.sem) 0 ∗ (xbM.view.loc (c : Thread nD τ) ↦{fullShare} fx) ∗ xM.view.loc (c : Thread nD τ) ↦[xM.view.set]{fullShare} XN)
       ∗ (cellP c 0 ∗ slotP c 0 f0 ∗ homeP c XW 0) ∗ (cellP c 1 ∗ slotP c 1 f1 ∗ homeP c XW 1) ∗ (cellP c 2 ∗ slotP c 2 f2 ∗ homeP c XW 2) ∗ (cellP c 3 ∗ slotP c 3 f3 ∗ homeP c XW 3) ∗ (cellP c 4 ∗ slotP c 4 f5 ∗ homeP c XW 4)
       ∗ rowsM.view.loc (c : Thread nD τ) ↦{fullShare} f4)
      ⊢ wp frame (wpE (defs₀ (F := F)) 𝒱₀ (c : Thread nD τ) none) Set.univ (part3G p0 arg3 harg3 arg4 harg4)
        (fun r => iprop(⌜r = part3Val p0⌝ ∗ owes (c : Thread nD τ) O (insert (SemLoc.dma (slotSem (Ring.sl 6 p0.val)).sem, none) W)
          ∗ xFlight c XN fx ∗ flightP c XW 1 1 f1 ∗ flightP c XW 2 2 f2 ∗ flightP c XW 3 3 f3 ∗ flightP c XW 4 4 f5
          ∗ cellP c (Ring.sl 6 p0.val) ∗ (∃ f, slotP c (Ring.sl 6 p0.val) f) ∗ homeP c XW (Ring.bk 64 p0.val)
          ∗ rowsM.view.loc (c : Thread nD τ) ↦{fullShare} rowsPut c XW p0 f4)) := by
  have h1 : k1_cond1 (pt p0) = 1#1 := (cond1_eq p0).mpr rfl
  iintro ⟨#Hmw, HO, ⟨Hcx, Hx, HX⟩, ⟨Hc0, Hs0, Hb0⟩, ⟨Hc1, Hs1, Hb1⟩, ⟨Hc2, Hs2, Hb2⟩, ⟨Hc3, Hs3, Hb3⟩, ⟨Hc4, Hs4, Hb4⟩, Hr⟩
  sl_unfold [part3G, k1_part3, k1_part1]
  sl_exec
  sl_step
  isplitr; · ipureintro; rfl
  isplitl [HO]; · iexact HO
  isplitl [Hcx]; · iexact Hcx
  isplitl [Hc1]; · iexact Hc1
  isplitl [Hc2]; · iexact Hc2
  isplitl [Hc3]; · iexact Hc3
  isplitl [Hc4]; · iexact Hc4
  isplitl [Hc0]; · iexact Hc0
  isplitl [Hs0]; · iexists _; iexact Hs0
  isplitl [Hb0]; · iexact Hb0
  rw [show wait_first.sl.v30 c XW = rowsNorm c XW (Ring.bk 64 p0.val) from slot_read c XW p0 _ _ _]
  iexact Hr
/-! ## The group's scores and the running maximum -/

abbrev part2G (arg0 v1 : BitVec 32) := k1_part2 (F := F) (pt t) wM (Memref.isWhole_whole main_v1) xM (Memref.isWhole_whole main_v2) arg3 harg3 arg4 harg4 ringM (Memref.isWhole_whole cc1_scratch0) cc1_scratch1
  xbM (Memref.isWhole_whole cc1_scratch2) cc1_scratch3 rowsM (Memref.isWhole_whole cc1_scratch4) maxM (Memref.isWhole_whole cc1_scratch5) idxM (Memref.isWhole_whole cc1_scratch6) arg0 v1

/-- The first group: `x`'s copy waited, the running maximum and its column set. -/
theorem group_first (arg0 : BitVec 32) (h7 : ¬ k1_cond7 (pt t) = 1#1) (O W) (fx : Buf (Elt F) (xbM.view.loc (c : Thread nD τ)))
    (f4 : Buf (Elt F) (rowsM.view.loc (c : Thread nD τ))) (f5 : Buf (Elt F) (maxM.view.loc (c : Thread nD τ))) (f6 : Buf (Elt F) (idxM.view.loc (c : Thread nD τ)))
    (g3 : Buf (Elt F) (arg3.view.loc (c : Thread nD τ))) :
    iprop(Transfers.MayWaits (c : Thread nD τ) (none : HIx 1) O ∗ owes (c : Thread nD τ) O W ∗ xFlight c XN fx
       ∗ (rowsM.view.loc (c : Thread nD τ) ↦{fullShare} f4) ∗ (arg3.view.loc (c : Thread nD τ) ↦[arg3.view.set]{fullShare} g3)
       ∗ (maxM.view.loc (c : Thread nD τ) ↦{fullShare} f5) ∗ (idxM.view.loc (c : Thread nD τ) ↦{fullShare} f6))
      ⊢ wp frame (wpE (defs₀ (F := F)) 𝒱₀ (c : Thread nD τ) none) Set.univ (part2G t arg3 harg3 arg4 harg4 arg0 0#32)
        (fun _ => iprop(owes (c : Thread nD τ) O (insert (SemLoc.dma cc1_scratch3.sem, none) W)
          ∗ semVal ((c : Thread nD τ), SemLoc.dma cc1_scratch3.sem) 0
          ∗ (∃ f2, ⌜xbM.view.read (Elt F) f2 = xM.view.read (Elt F) XN⌝ ∗ xbM.view.loc (c : Thread nD τ) ↦{fullShare} f2) ∗ (xM.view.loc (c : Thread nD τ) ↦[xM.view.set]{fullShare} XN)
          ∗ (rowsM.view.loc (c : Thread nD τ) ↦{fullShare} f4) ∗ (arg3.view.loc (c : Thread nD τ) ↦[arg3.view.set]{fullShare} g3)
          ∗ (∃ f, ⌜maxM.view.read (Elt F) f = k1_pay4 (xM.view.read (Elt F) XN) (rowsM.view.read (Elt F) f4) (arg3.view.read (Elt F) g3)⌝ ∗ maxM.view.loc (c : Thread nD τ) ↦{fullShare} f)
          ∗ (∃ f, ⌜idxM.view.read (Elt F) f = k1_pay5 0#32 (xM.view.read (Elt F) XN) (rowsM.view.read (Elt F) f4) (arg3.view.read (Elt F) g3)⌝ ∗ idxM.view.loc (c : Thread nD τ) ↦{fullShare} f))) := by
  have h4 : Scalar.cmpi .ne (Scalar.extui (Scalar.cmpi .eq 0#32 0#32)) 0#32 = 1#1 := by decide
  iintro ⟨#Hmw, HO, HX, Hr, Ha, Hm, Hi⟩
  sl_unfold [part2G, k1_part2]
  sl_exec
  sl_step
  isplitl [HO]; · iexact HO
  isplitl [HX]; · iexact HX
  isplitl [HX_dst]
  · iexists _; isplitr; swap
    · iexact HX_dst
    ipureintro; exact View.read_write_univ _ _
  isplitl [HX_src]; · iexact HX_src
  isplitl [Hr]; · iexact Hr
  isplitl [Ha]; · iexact Ha
  isplitl [Hm]
  · iexists _; isplitr; swap
    · iexact Hm
    ipureintro; rw [View.read_writes_full]
    exact pay_congr (k1_pay4 (F := F)) ((View.readAt_full ..).trans (View.read_write_univ _ _)) (View.readAt_full ..) (View.readAt_full ..)
  iexists _; isplitr; swap
  · iexact Hi
  ipureintro; rw [View.read_writes_full]
  exact pay_congr (k1_pay5 (F := F) 0#32) ((View.readAt_full ..).trans (View.read_write_univ _ _)) (View.readAt_full ..) (View.readAt_full ..)

/-- A later group: the running maximum and its column updated. -/
theorem group_next (arg0 v1 : BitVec 32) (h4 : ¬ Scalar.cmpi .ne (Scalar.extui (Scalar.cmpi .eq v1 0#32)) 0#32 = 1#1)
    (h6 : Scalar.cmpi .ne (Scalar.extui (Scalar.cmpi .sgt v1 0#32)) 0#32 = 1#1) (h7 : ¬ k1_cond7 (pt t) = 1#1) (f2 : Buf (Elt F) (xbM.view.loc (c : Thread nD τ)))
    (f4 : Buf (Elt F) (rowsM.view.loc (c : Thread nD τ))) (f5 : Buf (Elt F) (maxM.view.loc (c : Thread nD τ))) (f6 : Buf (Elt F) (idxM.view.loc (c : Thread nD τ)))
    (g3 : Buf (Elt F) (arg3.view.loc (c : Thread nD τ))) :
    (iprop((xbM.view.loc (c : Thread nD τ) ↦{fullShare} f2)
       ∗ (rowsM.view.loc (c : Thread nD τ) ↦{fullShare} f4) ∗ (arg3.view.loc (c : Thread nD τ) ↦[arg3.view.set]{fullShare} g3)
       ∗ (maxM.view.loc (c : Thread nD τ) ↦{fullShare} f5) ∗ (idxM.view.loc (c : Thread nD τ) ↦{fullShare} f6)) : sProp 𝕄)
      ⊢ wp frame (wpE (defs₀ (F := F)) 𝒱₀ (c : Thread nD τ) none) Set.univ (part2G t arg3 harg3 arg4 harg4 arg0 v1)
        (fun _ => iprop((xbM.view.loc (c : Thread nD τ) ↦{fullShare} f2)
          ∗ (rowsM.view.loc (c : Thread nD τ) ↦{fullShare} f4) ∗ (arg3.view.loc (c : Thread nD τ) ↦[arg3.view.set]{fullShare} g3)
          ∗ (∃ f, ⌜maxM.view.read (Elt F) f = k1_pay7 (xbM.view.read (Elt F) f2) (rowsM.view.read (Elt F) f4) (arg3.view.read (Elt F) g3) (maxM.view.read (Elt F) f5)⌝ ∗ maxM.view.loc (c : Thread nD τ) ↦{fullShare} f)
          ∗ (∃ f, ⌜idxM.view.read (Elt F) f = k1_pay6 v1 (xbM.view.read (Elt F) f2) (rowsM.view.read (Elt F) f4) (arg3.view.read (Elt F) g3) (maxM.view.read (Elt F) f5) (idxM.view.read (Elt F) f6)⌝ ∗ idxM.view.loc (c : Thread nD τ) ↦{fullShare} f))) := by
  iintro ⟨Hx, Hr, Ha, Hm, Hi⟩
  sl_unfold [part2G, k1_part2]
  sl_exec
  sl_step
  isplitl [Hx]; · iexact Hx
  isplitl [Hr]; · iexact Hr
  isplitl [Ha]; · iexact Ha
  isplitl [Hm]
  · iexists _; isplitr; swap
    · iexact Hm
    ipureintro; rw [View.read_writes_full]
    exact pay_congr4 (k1_pay7 (F := F)) (View.readAt_full ..) (View.readAt_full ..) (View.readAt_full ..) (View.readAt_full ..)
  iexists _; isplitr; swap
  · iexact Hi
  ipureintro; rw [View.read_writes_full]
  exact pay_congr5 (k1_pay6 (F := F) v1) (View.readAt_full ..) (View.readAt_full ..) (View.readAt_full ..) (View.readAt_full ..) (View.readAt_full ..)

/-- The last group: the same, and the columns stored as the call's result. -/
theorem group_last (arg0 v1 : BitVec 32) (h4 : ¬ Scalar.cmpi .ne (Scalar.extui (Scalar.cmpi .eq v1 0#32)) 0#32 = 1#1)
    (h6 : Scalar.cmpi .ne (Scalar.extui (Scalar.cmpi .sgt v1 0#32)) 0#32 = 1#1) (h7 : k1_cond7 (pt t) = 1#1) (f2 : Buf (Elt F) (xbM.view.loc (c : Thread nD τ)))
    (f4 : Buf (Elt F) (rowsM.view.loc (c : Thread nD τ))) (f5 : Buf (Elt F) (maxM.view.loc (c : Thread nD τ))) (f6 : Buf (Elt F) (idxM.view.loc (c : Thread nD τ)))
    (g3 : Buf (Elt F) (arg3.view.loc (c : Thread nD τ))) (g4 : Buf (Elt F) (arg4.view.loc (c : Thread nD τ))) :
    (iprop((xbM.view.loc (c : Thread nD τ) ↦{fullShare} f2)
       ∗ (rowsM.view.loc (c : Thread nD τ) ↦{fullShare} f4) ∗ (arg3.view.loc (c : Thread nD τ) ↦[arg3.view.set]{fullShare} g3)
       ∗ (maxM.view.loc (c : Thread nD τ) ↦{fullShare} f5) ∗ (idxM.view.loc (c : Thread nD τ) ↦{fullShare} f6) ∗ (arg4.view.loc (c : Thread nD τ) ↦[arg4.view.set]{fullShare} g4)) : sProp 𝕄)
      ⊢ wp frame (wpE (defs₀ (F := F)) 𝒱₀ (c : Thread nD τ) none) Set.univ (part2G t arg3 harg3 arg4 harg4 arg0 v1)
        (fun _ => iprop((xbM.view.loc (c : Thread nD τ) ↦{fullShare} f2)
          ∗ (rowsM.view.loc (c : Thread nD τ) ↦{fullShare} f4) ∗ (arg3.view.loc (c : Thread nD τ) ↦[arg3.view.set]{fullShare} g3)
          ∗ (∃ f, ⌜maxM.view.read (Elt F) f = k1_pay7 (xbM.view.read (Elt F) f2) (rowsM.view.read (Elt F) f4) (arg3.view.read (Elt F) g3) (maxM.view.read (Elt F) f5)⌝ ∗ maxM.view.loc (c : Thread nD τ) ↦{fullShare} f)
          ∗ (∃ f, ⌜idxM.view.read (Elt F) f = k1_pay6 v1 (xbM.view.read (Elt F) f2) (rowsM.view.read (Elt F) f4) (arg3.view.read (Elt F) g3) (maxM.view.read (Elt F) f5) (idxM.view.read (Elt F) f6)⌝ ∗ idxM.view.loc (c : Thread nD τ) ↦{fullShare} f)
          ∗ (∃ f, ⌜arg4.view.read (Elt F) f = k1_pay6 v1 (xbM.view.read (Elt F) f2) (rowsM.view.read (Elt F) f4) (arg3.view.read (Elt F) g3) (maxM.view.read (Elt F) f5) (idxM.view.read (Elt F) f6)⌝ ∗ arg4.view.loc (c : Thread nD τ) ↦[arg4.view.set]{fullShare} f))) := by
  iintro ⟨Hx, Hr, Ha, Hm, Hi, Ho⟩
  sl_unfold [part2G, k1_part2]
  sl_exec
  sl_step
  isplitl [Hx]; · iexact Hx
  isplitl [Hr]; · iexact Hr
  isplitl [Ha]; · iexact Ha
  isplitl [Hm]
  · iexists _; isplitr; swap
    · iexact Hm
    ipureintro; rw [View.read_writes_full]
    exact pay_congr4 (k1_pay7 (F := F)) (View.readAt_full ..) (View.readAt_full ..) (View.readAt_full ..) (View.readAt_full ..)
  isplitl [Hi]
  · iexists _; isplitr; swap
    · iexact Hi
    ipureintro; unfold group_last.sl.Hi_1; rw [View.read_writes_full]
    exact pay_congr5 (k1_pay6 (F := F) v1) (View.readAt_full ..) (View.readAt_full ..) (View.readAt_full ..) (View.readAt_full ..) (View.readAt_full ..)
  iexists _; isplitr; swap
  · iexact Ho
  ipureintro; rw [View.read_writes_full]
  unfold group_last.sl.v74 group_last.sl.Hi_1
  refine (View.readAt_full ..).trans ?_
  rw [View.read_writes_full]
  exact pay_congr5 (k1_pay6 (F := F) v1) (View.readAt_full ..) (View.readAt_full ..) (View.readAt_full ..) (View.readAt_full ..) (View.readAt_full ..)

end Run

end Cert.Proof.Whole

end
-- ==== Proof.WholePoint.lean ====
/-
  ONE POINT OF THE SECOND CALL'S LOOP, ITS PARTS TOGETHER: the body is its first part, then the start of a further copy where
  there is one left to start, then the group's part where the point closes a group. Each of the four cases runs if its parts do.
-/
module

public import proofs.«01_k».proof.Proof.WholeBody

@[expose] public section

set_option maxRecDepth 16384

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Compose
variable (c : Dev nD) (XW : Buf (Elt F) (wM.view.loc (c : Thread nD τ))) (t : Fin grid1.N)
  (arg3 : Memref sig .tc .vmem S1x1x128 .f32) (harg3 : arg3.IsWhole) (arg4 : Memref sig .tc .vmem S256x1 .i32) (harg4 : arg4.IsWhole)

abbrev bodyG := cc1__wmain_body (F := F) (pt t) wM (Memref.isWhole_whole main_v1) xM (Memref.isWhole_whole main_v2) arg3 harg3 arg4 harg4 ringM (Memref.isWhole_whole cc1_scratch0) cc1_scratch1
  xbM (Memref.isWhole_whole cc1_scratch2) cc1_scratch3 rowsM (Memref.isWhole_whole cc1_scratch4) maxM (Memref.isWhole_whole cc1_scratch5) idxM (Memref.isWhole_whole cc1_scratch6)

/-- A point that starts a copy and closes no group. -/
theorem body_start {P M : sProp 𝕄}
    (h3 : P ⊢ wp frame (wpE (defs₀ (F := F)) 𝒱₀ (c : Thread nD τ) none) Set.univ (part3G t arg3 harg3 arg4 harg4) (fun r => iprop(⌜r = part3Val t⌝ ∗ M)))
    (hs : t.val + 5 < 64) (hg : ¬ t.val % 8 = 7) (f : Buf (Elt F) ((slotM (Ring.sl 6 (t.val + 5))).view.loc (c : Thread nD τ))) :
    iprop(P ∗ cellP c (Ring.sl 6 (t.val + 5)) ∗ slotP c (Ring.sl 6 (t.val + 5)) f ∗ homeP c XW (Ring.bk 64 (t.val + 5)))
      ⊢ wp frame (wpE (defs₀ (F := F)) 𝒱₀ (c : Thread nD τ) none) Set.univ (bodyG t arg3 harg3 arg4 harg4)
        (fun _ => iprop(M ∗ flightP c XW (Ring.sl 6 (t.val + 5)) (Ring.bk 64 (t.val + 5)) f)) := by
  have hc2 : k1_cond2 (pt t) = 1#1 := (cond2_eq t).mpr hs
  have hc3 : ¬ k1_cond3 (pt t) = 1#1 := fun h => hg ((cond3_eq t).mp h)
  iintro ⟨HP, Hc, Hs, Hb⟩
  sl_unfold [bodyG, cc1__wmain_body]
  rw [wp_bind]
  iapply (wp_wand_r frame (wpE (defs₀ (F := F)) 𝒱₀ (c : Thread nD τ) none) Set.univ)
  isplitl [HP]
  · iapply h3; iexact HP
  iintro %r ⟨%hr, HM⟩
  subst hr
  sl_exec
  sl_step
  isplitl [HM]; · iexact HM
  iexact Hc

/-- A point that does neither. -/
theorem body_quiet {P M : sProp 𝕄}
    (h3 : P ⊢ wp frame (wpE (defs₀ (F := F)) 𝒱₀ (c : Thread nD τ) none) Set.univ (part3G t arg3 harg3 arg4 harg4) (fun r => iprop(⌜r = part3Val t⌝ ∗ M)))
    (hs : ¬ t.val + 5 < 64) (hg : ¬ t.val % 8 = 7) :
    P ⊢ wp frame (wpE (defs₀ (F := F)) 𝒱₀ (c : Thread nD τ) none) Set.univ (bodyG t arg3 harg3 arg4 harg4) (fun _ => M) := by
  have hc2 : ¬ k1_cond2 (pt t) = 1#1 := fun h => hs ((cond2_eq t).mp h)
  have hc3 : ¬ k1_cond3 (pt t) = 1#1 := fun h => hg ((cond3_eq t).mp h)
  iintro HP
  sl_unfold [bodyG, cc1__wmain_body]
  rw [wp_bind]
  iapply (wp_wand_r frame (wpE (defs₀ (F := F)) 𝒱₀ (c : Thread nD τ) none) Set.univ)
  isplitl [HP]
  · iapply h3; iexact HP
  iintro %r ⟨%hr, HM⟩
  subst hr
  sl_exec
  sl_step
  iexact HM

/-- The copy a point starts: the next block but four into the free slot. -/
theorem start_wp (hs : t.val + 5 < 64) (f : Buf (Elt F) ((slotM (Ring.sl 6 (t.val + 5))).view.loc (c : Thread nD τ))) (hc2 : k1_cond2 (pt t) = 1#1) :
    (iprop(cellP c (Ring.sl 6 (t.val + 5)) ∗ slotP c (Ring.sl 6 (t.val + 5)) f ∗ homeP c XW (Ring.bk 64 (t.val + 5))) : sProp 𝕄)
      ⊢ wp frame (wpE (defs₀ (F := F)) 𝒱₀ (c : Thread nD τ) none) Set.univ
        (Prog.lift (.enqueueDma
          ((wM.slice (Rect.unit (s := S64x16x50176) (k1_off10 (pt t)) S1x16x50176.size (k1_off10_inb (pt t) hc2)) (fun _ => rfl)).squeeze S16x50176 squeezes_S1x16x50176_S16x50176)
          (.here ((ringM.slice (Rect.unit (s := S6x16x50176) (k1_off9 (pt t)) S1x16x50176.size (k1_off9_inb (pt t) hc2)) (fun _ => rfl)).squeeze S16x50176 squeezes_S1x16x50176_S16x50176))
          (.dma ((cc1_scratch1.slice (Rect.unit (s := S6) (k1_off8 (pt t)) S1.size (k1_off8_inb (pt t) hc2))).squeeze S_ squeezes_S1_S_).sem)
          ((View.wordExact_bits rfl).reshape _ _) ((View.wordExact_bits rfl).reshape _ _) ⟨Or.inl rfl, trivial⟩))
        (fun _ => flightP c XW (Ring.sl 6 (t.val + 5)) (Ring.bk 64 (t.val + 5)) f) := by
  iintro ⟨Hc, Hs, Hb⟩
  sl_exec
  sl_step
  iexact Hc

/-- A point that starts a copy and closes a group. -/
theorem body_both {P M Q : sProp 𝕄}
    (h3 : P ⊢ wp frame (wpE (defs₀ (F := F)) 𝒱₀ (c : Thread nD τ) none) Set.univ (part3G t arg3 harg3 arg4 harg4) (fun r => iprop(⌜r = part3Val t⌝ ∗ M)))
    (h2 : M ⊢ wp frame (wpE (defs₀ (F := F)) 𝒱₀ (c : Thread nD τ) none) Set.univ (part2G t arg3 harg3 arg4 harg4 (part3Val t).1 (part3Val t).2.2) (fun _ => Q))
    (hs : t.val + 5 < 64) (hg : t.val % 8 = 7) (f : Buf (Elt F) ((slotM (Ring.sl 6 (t.val + 5))).view.loc (c : Thread nD τ))) :
    iprop(P ∗ cellP c (Ring.sl 6 (t.val + 5)) ∗ slotP c (Ring.sl 6 (t.val + 5)) f ∗ homeP c XW (Ring.bk 64 (t.val + 5)))
      ⊢ wp frame (wpE (defs₀ (F := F)) 𝒱₀ (c : Thread nD τ) none) Set.univ (bodyG t arg3 harg3 arg4 harg4)
        (fun _ => iprop(Q ∗ flightP c XW (Ring.sl 6 (t.val + 5)) (Ring.bk 64 (t.val + 5)) f)) := by
  have hc2 : k1_cond2 (pt t) = 1#1 := (cond2_eq t).mpr hs
  have hc3 : k1_cond3 (pt t) = 1#1 := (cond3_eq t).mpr hg
  iintro ⟨HP, Hc, Hs, Hb⟩
  sl_unfold [bodyG, cc1__wmain_body]
  rw [wp_bind]
  iapply (wp_wand_r frame (wpE (defs₀ (F := F)) 𝒱₀ (c : Thread nD τ) none) Set.univ)
  isplitl [HP]
  · iapply h3; iexact HP
  iintro %r ⟨%hr, HM⟩
  subst hr
  dsimp only
  rw [dif_pos hc2, wp_bind]
  iapply (wp_wand_r frame (wpE (defs₀ (F := F)) 𝒱₀ (c : Thread nD τ) none) Set.univ)
  isplitl [Hc Hs Hb]
  · iapply (start_wp c XW t hs f hc2)
    isplitl [Hc]; · iexact Hc
    isplitl [Hs]; · iexact Hs
    iexact Hb
  iintro %r Hc
  rw [dif_pos hc3, wp_bind]
  iapply (wp_wand_r frame (wpE (defs₀ (F := F)) 𝒱₀ (c : Thread nD τ) none) Set.univ)
  isplitl [HM]
  · iapply h2; iexact HM
  iintro %r HQ
  sl_step
  isplitl [HQ]; · iexact HQ
  iexact Hc

/-- A point that closes a group and starts nothing. -/
theorem body_group {P M Q : sProp 𝕄}
    (h3 : P ⊢ wp frame (wpE (defs₀ (F := F)) 𝒱₀ (c : Thread nD τ) none) Set.univ (part3G t arg3 harg3 arg4 harg4) (fun r => iprop(⌜r = part3Val t⌝ ∗ M)))
    (h2 : M ⊢ wp frame (wpE (defs₀ (F := F)) 𝒱₀ (c : Thread nD τ) none) Set.univ (part2G t arg3 harg3 arg4 harg4 (part3Val t).1 (part3Val t).2.2) (fun _ => Q))
    (hs : ¬ t.val + 5 < 64) (hg : t.val % 8 = 7) :
    P ⊢ wp frame (wpE (defs₀ (F := F)) 𝒱₀ (c : Thread nD τ) none) Set.univ (bodyG t arg3 harg3 arg4 harg4) (fun _ => Q) := by
  have hc2 : ¬ k1_cond2 (pt t) = 1#1 := fun h => hs ((cond2_eq t).mp h)
  have hc3 : k1_cond3 (pt t) = 1#1 := (cond3_eq t).mpr hg
  iintro HP
  sl_unfold [bodyG, cc1__wmain_body]
  rw [wp_bind]
  iapply (wp_wand_r frame (wpE (defs₀ (F := F)) 𝒱₀ (c : Thread nD τ) none) Set.univ)
  isplitl [HP]
  · iapply h3; iexact HP
  iintro %r ⟨%hr, HM⟩
  subst hr
  dsimp only
  rw [dif_neg hc2, dif_pos hc3, wp_bind]
  iapply (wp_wand_r frame (wpE (defs₀ (F := F)) 𝒱₀ (c : Thread nD τ) none) Set.univ)
  isplitl [HM]
  · iapply h2; iexact HM
  iintro %r HQ
  sl_step
  iexact HQ

end Compose

end Cert.Proof.Whole

end
-- ==== Proof.WholeSlots.lean ====
/-
  THE RING'S STATE FROM ONE POINT TO THE NEXT: what a point finds (its block in flight, one slot free), what stays in flight
  through it, and how the next point's state is put together.
-/
module

public import proofs.«01_k».proof.Proof.WholeRing

@[expose] public section

set_option maxRecDepth 16384

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

section Slots
variable {M : Type _} [URA M] (home : Fin 64 → sProp M) {C : Fin 6 → Type} (cell : Fin 6 → sProp M) (slot : (s : Fin 6) → C s → sProp M)
  (flight : (s : Fin 6) → Fin 64 → C s → sProp M)

theorem univ6 : (Finset.univ : Finset (Fin 6)) = [0, 1, 2, 3, 4, 5].toFinset := by decide
theorem nodup6 : ([0, 1, 2, 3, 4, 5] : List (Fin 6)).Nodup := by decide

/-- A slot with its semaphore, both free; a slot in flight with a block; role `j` before point `p`. -/
abbrev freeP (s : Fin 6) : sProp M := Ring.free cell slot s
abbrev flyP (s : Fin 6) (b : Fin 64) : sProp M := Ring.inflight flight s b
abbrev roleP (p : ℕ) (j : Fin 6) : sProp M := Ring.slotAt 5 cell slot flight p j

/-- The four copies that stay out through point `t`. -/
abbrev outP (t : ℕ) : sProp M := iprop(roleP cell slot flight t 1 ∗ roleP cell slot flight t 2 ∗ roleP cell slot flight t 3 ∗ roleP cell slot flight t 4)
/-- The blocks at home through point `t`, one of which the point may start. -/
abbrev homesS (t : ℕ) : sProp M := bigSep ((Ring.homeSet (NB := 64) 5 t).erase (Ring.bk 64 (t + 5))) home
abbrev homesT (t : ℕ) : sProp M := bigSep (Ring.homeSet (NB := 64) 5 t) home

theorem ring_here (t : ℕ) (h : t + 5 < 64) :
    Ring.At 5 cell slot home flight t ⊢ iprop(flyP flight (Ring.sl 6 t) (Ring.bk 64 t) ∗ homesS home t ∗ outP cell slot flight t ∗ freeP cell slot (Ring.sl 6 (t + 5)) ∗ home (Ring.bk 64 (t + 5))) := by
  have e : Ring.At 5 cell slot home flight t = iprop((home (Ring.bk 64 (t + 5)) ∗ homesS home t) ∗ flyP flight (Ring.sl 6 t) (Ring.bk 64 t)
      ∗ roleP cell slot flight t 1 ∗ roleP cell slot flight t 2 ∗ roleP cell slot flight t 3 ∗ roleP cell slot flight t 4 ∗ freeP cell slot (Ring.sl 6 (t + 5))) := by
    rw [roleP, roleP, roleP, roleP, Ring.slotAt_eq_inflight 5 cell slot flight t 1 (t + 1) rfl ⟨by decide, by omega⟩, Ring.slotAt_eq_inflight 5 cell slot flight t 2 (t + 2) rfl ⟨by decide, by omega⟩,
      Ring.slotAt_eq_inflight 5 cell slot flight t 3 (t + 3) rfl ⟨by decide, by omega⟩, Ring.slotAt_eq_inflight 5 cell slot flight t 4 (t + 4) rfl ⟨by decide, by omega⟩,
      Ring.At_here_n home 5 cell slot flight _ univ6 nodup6 t h]; rfl
  rw [e]
  iintro ⟨⟨Hb, Hh⟩, Hf, H1, H2, H3, H4, H5⟩
  isplitl [Hf]; · iexact Hf
  isplitl [Hh]; · iexact Hh
  isplitl [H1 H2 H3 H4]
  · isplitl [H1]; · iexact H1
    isplitl [H2]; · iexact H2
    isplitl [H3]; · iexact H3
    iexact H4
  isplitl [H5]; · iexact H5
  iexact Hb

theorem ring_here_tail (t : ℕ) (h : t < 64) :
    Ring.At 5 cell slot home flight t ⊢ iprop(flyP flight (Ring.sl 6 t) (Ring.bk 64 t) ∗ homesT home t ∗ outP cell slot flight t ∗ freeP cell slot (Ring.sl 6 (t + 5))) := by
  have e : Ring.At 5 cell slot home flight t = iprop(homesT home t ∗ flyP flight (Ring.sl 6 t) (Ring.bk 64 t)
      ∗ roleP cell slot flight t 1 ∗ roleP cell slot flight t 2 ∗ roleP cell slot flight t 3 ∗ roleP cell slot flight t 4 ∗ freeP cell slot (Ring.sl 6 (t + 5))) := by
    rw [Ring.At_here_tail_n home 5 cell slot flight _ univ6 nodup6 rfl (by decide) t h]; rfl
  rw [e]
  iintro ⟨Hh, Hf, H1, H2, H3, H4, H5⟩
  isplitl [Hf]; · iexact Hf
  isplitl [Hh]; · iexact Hh
  isplitl [H1 H2 H3 H4]
  · isplitl [H1]; · iexact H1
    isplitl [H2]; · iexact H2
    isplitl [H3]; · iexact H3
    iexact H4
  iexact H5

theorem ring_next (t : ℕ) (h : t + 5 < 64) :
    iprop(freeP cell slot (Ring.sl 6 t) ∗ home (Ring.bk 64 t) ∗ homesS home t ∗ outP cell slot flight t ∗ flyP flight (Ring.sl 6 (t + 5)) (Ring.bk 64 (t + 5))) ⊢ Ring.At 5 cell slot home flight (t + 1) := by
  have e : Ring.At 5 cell slot home flight (t + 1) = iprop((home (Ring.bk 64 t) ∗ homesS home t)
      ∗ roleP cell slot flight (t + 1) 0 ∗ roleP cell slot flight (t + 1) 1 ∗ roleP cell slot flight (t + 1) 2 ∗ roleP cell slot flight (t + 1) 3 ∗ roleP cell slot flight (t + 1) 4 ∗ freeP cell slot (Ring.sl 6 t)) := by
    rw [Ring.At_next_n home 5 cell slot flight _ univ6 nodup6 rfl t h]; rfl
  rw [e]
  rw [show roleP cell slot flight (t + 1) 0 = roleP cell slot flight t 1 from Ring.slotAt_tail_role_n 5 _ _ _ t 0 1 rfl (by decide),
    show roleP cell slot flight (t + 1) 1 = roleP cell slot flight t 2 from Ring.slotAt_tail_role_n 5 _ _ _ t 1 2 rfl (by decide),
    show roleP cell slot flight (t + 1) 2 = roleP cell slot flight t 3 from Ring.slotAt_tail_role_n 5 _ _ _ t 2 3 rfl (by decide),
    show roleP cell slot flight (t + 1) 3 = roleP cell slot flight t 4 from Ring.slotAt_tail_role_n 5 _ _ _ t 3 4 rfl (by decide),
    show roleP cell slot flight (t + 1) 4 = flyP flight (Ring.sl 6 (t + 5)) (Ring.bk 64 (t + 5)) from
      Ring.slotAt_eq_inflight 5 _ _ _ (t + 1) 4 (t + 5) (by show t + 1 + 4 = t + 5; omega) ⟨by decide, by omega⟩]
  iintro ⟨Hf, Hb, Hh, ⟨H1, H2, H3, H4⟩, H5⟩
  isplitl [Hb Hh]
  · isplitl [Hb]; · iexact Hb
    iexact Hh
  isplitl [H1]; · iexact H1
  isplitl [H2]; · iexact H2
  isplitl [H3]; · iexact H3
  isplitl [H4]; · iexact H4
  isplitl [H5]; · iexact H5
  iexact Hf

theorem ring_next_tail (t : ℕ) (h : 64 ≤ t + 5) (h' : t < 64) :
    iprop(freeP cell slot (Ring.sl 6 t) ∗ home (Ring.bk 64 t) ∗ homesT home t ∗ outP cell slot flight t ∗ freeP cell slot (Ring.sl 6 (t + 5))) ⊢ Ring.At 5 cell slot home flight (t + 1) := by
  have e : Ring.At 5 cell slot home flight (t + 1) = iprop((home (Ring.bk 64 t) ∗ homesT home t)
      ∗ roleP cell slot flight (t + 1) 0 ∗ roleP cell slot flight (t + 1) 1 ∗ roleP cell slot flight (t + 1) 2 ∗ roleP cell slot flight (t + 1) 3 ∗ freeP cell slot (Ring.sl 6 (t + 5)) ∗ freeP cell slot (Ring.sl 6 t)) := by
    rw [Ring.At_next_tail_n home 5 cell slot flight _ univ6 nodup6 rfl t h h']; rfl
  rw [e]
  rw [show roleP cell slot flight (t + 1) 0 = roleP cell slot flight t 1 from Ring.slotAt_tail_role_n 5 _ _ _ t 0 1 rfl (by decide),
    show roleP cell slot flight (t + 1) 1 = roleP cell slot flight t 2 from Ring.slotAt_tail_role_n 5 _ _ _ t 1 2 rfl (by decide),
    show roleP cell slot flight (t + 1) 2 = roleP cell slot flight t 3 from Ring.slotAt_tail_role_n 5 _ _ _ t 2 3 rfl (by decide),
    show roleP cell slot flight (t + 1) 3 = roleP cell slot flight t 4 from Ring.slotAt_tail_role_n 5 _ _ _ t 3 4 rfl (by decide)]
  iintro ⟨Hf, Hb, Hh, ⟨H1, H2, H3, H4⟩, H5⟩
  isplitl [Hb Hh]
  · isplitl [Hb]; · iexact Hb
    iexact Hh
  isplitl [H1]; · iexact H1
  isplitl [H2]; · iexact H2
  isplitl [H3]; · iexact H3
  isplitl [H4]; · iexact H4
  isplitl [H5]; · iexact H5
  iexact Hf

/-- Before the first point: five slots with their blocks to be started, a sixth pair, the other blocks. -/
theorem ring_new :
    Ring.At₀ cell slot home ⊢ iprop((freeP cell slot 0 ∗ home 0) ∗ (freeP cell slot 1 ∗ home 1) ∗ (freeP cell slot 2 ∗ home 2) ∗ (freeP cell slot 3 ∗ home 3)
      ∗ (freeP cell slot 4 ∗ home 4) ∗ homesS home 0 ∗ freeP cell slot (Ring.sl 6 (0 + 5)) ∗ home (Ring.bk 64 (0 + 5))) := by
  have e : Ring.At₀ cell slot home = iprop((home 0 ∗ home 1 ∗ home 2 ∗ home 3 ∗ home 4 ∗ home 5 ∗ homesS home 0)
      ∗ freeP cell slot 0 ∗ freeP cell slot 1 ∗ freeP cell slot 2 ∗ freeP cell slot 3 ∗ freeP cell slot 4 ∗ freeP cell slot 5) := by
    rw [Ring.At₀_eq_n home 5 cell slot _ univ6 nodup6 rfl (by decide)]; rfl
  rw [e]
  iintro ⟨⟨B0, B1, B2, B3, B4, B5, Hh⟩, S0, S1, S2, S3, S4, S5⟩
  isplitl [S0 B0]; · isplitl [S0]; · iexact S0
                     iexact B0
  isplitl [S1 B1]; · isplitl [S1]; · iexact S1
                     iexact B1
  isplitl [S2 B2]; · isplitl [S2]; · iexact S2
                     iexact B2
  isplitl [S3 B3]; · isplitl [S3]; · iexact S3
                     iexact B3
  isplitl [S4 B4]; · isplitl [S4]; · iexact S4
                     iexact B4
  isplitl [Hh]; · iexact Hh
  isplitl [S5]; · iexact S5
  iexact B5

/-- The four copies out after the first point's starts. -/
theorem out_first : iprop(flyP flight 1 1 ∗ flyP flight 2 2 ∗ flyP flight 3 3 ∗ flyP flight 4 4) ⊢ outP cell slot flight 0 := by
  rw [outP, show roleP cell slot flight 0 1 = flyP flight 1 1 from Ring.slotAt_eq_inflight 5 _ _ _ 0 1 1 rfl ⟨by decide, by decide⟩,
    show roleP cell slot flight 0 2 = flyP flight 2 2 from Ring.slotAt_eq_inflight 5 _ _ _ 0 2 2 rfl ⟨by decide, by decide⟩,
    show roleP cell slot flight 0 3 = flyP flight 3 3 from Ring.slotAt_eq_inflight 5 _ _ _ 0 3 3 rfl ⟨by decide, by decide⟩,
    show roleP cell slot flight 0 4 = flyP flight 4 4 from Ring.slotAt_eq_inflight 5 _ _ _ 0 4 4 rfl ⟨by decide, by decide⟩]

end Slots

end Cert.Proof.Whole

end
-- ==== Proof.WholeGrid.lean ====
/-
  THE SECOND CALL, POINT BY POINT: what its loop's state is before point `n`, and that every point takes the state before it to
  the state after it. The state holds the ring of weight blocks, `x`'s copy, the packed rows of the group so far, and the
  running maximum of the scores with its column.
-/
module

public import Idealize.ShloMosaic.Lib.ValueIdxCore
public import proofs.«01_k».proof.Proof.WholePoint
public import proofs.«01_k».proof.Proof.WholeSlots
public import proofs.«01_k».proof.Proof.WholeNorm

@[expose] public section

set_option maxRecDepth 16384

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The values -/

section Values
variable (c : Dev nD) (XW : Buf (Elt F) (wM.view.loc (c : Thread nD τ))) (xv : FVec F S256x50176 .bf16) (age : Fin grid1.N → FVec F S1x1x128 .f32)

/-- The 128 normalised rows of group `g`: row `r` is row `r % 16` of block `8 g + r / 16`. -/
def groupRows (g : ℕ) : FVec F S128x50176 .bf16 := fun y =>
  rowsNorm c XW (Ring.bk 64 (8 * g + (y 0).val / 16)) (ValueIdx.ix2 (n0 := 16) (n1 := 50176) ⟨(y 0).val % 16, Nat.mod_lt _ (by decide)⟩ ⟨(y 1).val, (y 1).isLt⟩)

/-- The point that closes group `g`. -/
def endPt (g : ℕ) : Fin grid1.N := ⟨(8 * g + 7) % 64, Nat.mod_lt _ (by decide)⟩

/-- The running maximum after group `g`, and its column. -/
def runMax : ℕ → FVec F S256x1 .f32
  | 0 => k1_pay4 xv (groupRows c XW 0) (age (endPt 0))
  | g + 1 => k1_pay7 xv (groupRows c XW (g + 1)) (age (endPt (g + 1))) (runMax g)
def runIdx : ℕ → Vec F S256x1 .i32
  | 0 => k1_pay5 0#32 xv (groupRows c XW 0) (age (endPt 0))
  | g + 1 => k1_pay6 (BitVec.ofNat 32 (g + 1)) xv (groupRows c XW (g + 1)) (age (endPt (g + 1))) (runMax c XW xv age g) (runIdx g)

/-- The packed rows hold the group's first blocks, as many as the group has had points. -/
def RowsAt (n : ℕ) (f4 : Buf (Elt F) (rowsM.view.loc (c : Thread nD τ))) : Prop :=
  ∀ y : S128x50176.Idx, (y 0).val < 16 * (n % 8) → rowsM.view.read (Elt F) f4 y = groupRows c XW (n / 8) y

/-- One more block. -/
theorem rowsPut_at (t : Fin grid1.N) (f4) (h : RowsAt c XW t.val f4) (y : S128x50176.Idx) (hy : (y 0).val < 16 * (t.val % 8 + 1)) :
    rowsM.view.read (Elt F) (rowsPut c XW t f4) y = groupRows c XW (t.val / 8) y := by
  by_cases hlt : (y 0).val < 16 * (t.val % 8)
  · exact (View.read_writes_cons_rows_of_not_mem rowsM.view f4 (k1_off7_inb (pt t)) _ [] y (off7_eq t) (W := 16) rfl (.inl hlt)).trans (h y hlt)
  · have e1 : (y 0).val % 16 = (y 0).val - 16 * (t.val % 8) := by omega
    have e2 : 8 * (t.val / 8) + (y 0).val / 16 = t.val := by omega
    refine (View.read_writes_cons_rows_of_mem rowsM.view f4 (k1_off7_inb (pt t)) _ [] y
      (ValueIdx.ix2 (n0 := 16) (n1 := 50176) ⟨(y 0).val % 16, Nat.mod_lt _ (by decide)⟩ ⟨(y 1).val, (y 1).isLt⟩) (off7_eq t) ?_ rfl).trans ?_
    · show (y 0).val = 16 * (t.val % 8) + (y 0).val % 16; omega
    · unfold groupRows; rw [e2]

theorem rowsPut_next (t : Fin grid1.N) (f4) (h : RowsAt c XW t.val f4) : RowsAt c XW (t.val + 1) (rowsPut c XW t f4) := by
  intro y hy
  by_cases h7 : t.val % 8 = 7
  · rw [show (t.val + 1) % 8 = 0 by omega] at hy; omega
  · rw [show (t.val + 1) / 8 = t.val / 8 by omega]
    exact rowsPut_at c XW t f4 h y (by omega)

theorem rowsPut_full (t : Fin grid1.N) (f4) (h : RowsAt c XW t.val f4) (h7 : t.val % 8 = 7) :
    rowsM.view.read (Elt F) (rowsPut c XW t f4) = groupRows c XW (t.val / 8) := by
  funext y
  have := (y 0).isLt
  exact rowsPut_at c XW t f4 h y (by rw [h7]; exact this)

/-- The running maximum and its column are those of the groups closed so far. -/
def RunAt (n : ℕ) (f5 : Buf (Elt F) (maxM.view.loc (c : Thread nD τ))) (f6 : Buf (Elt F) (idxM.view.loc (c : Thread nD τ))) : Prop :=
  8 ≤ n → maxM.view.read (Elt F) f5 = runMax c XW xv age (n / 8 - 1) ∧ idxM.view.read (Elt F) f6 = runIdx c XW xv age (n / 8 - 1)

theorem runAt_keep (n : ℕ) (f5 f6) (h : RunAt c XW xv age n f5 f6) (h7 : ¬ n % 8 = 7) : RunAt c XW xv age (n + 1) f5 f6 := fun h8 => by
  rw [show (n + 1) / 8 = n / 8 by omega]; exact h (by omega)

end Values

/-! ## The state before point `n` -/

section State
variable (c : Dev nD) (XW : Buf (Elt F) (wM.view.loc (c : Thread nD τ))) (XN : Buf (Elt F) (xM.view.loc (c : Thread nD τ))) (age : Fin grid1.N → FVec F S1x1x128 .f32)

abbrev xVal : FVec F S256x50176 .bf16 := xM.view.read (Elt F) XN

def ringS (n : ℕ) : sProp 𝕄 := if n = 0 then ringNew c XW else ringAt c XW n
/-- `x`'s copy: not started, under way until the first group closes, then landed. -/
def xNew : sProp 𝕄 := iprop(semVal ((c : Thread nD τ), SemLoc.dma cc1_scratch3.sem) 0 ∗ (∃ fx : Buf (Elt F) (xbM.view.loc (c : Thread nD τ)), xbM.view.loc (c : Thread nD τ) ↦{fullShare} fx) ∗ xM.view.loc (c : Thread nD τ) ↦[xM.view.set]{fullShare} XN)
def xFly : sProp 𝕄 := iprop(∃ fx : Buf (Elt F) (xbM.view.loc (c : Thread nD τ)), xFlight c XN fx)
def xHere : sProp 𝕄 := iprop(semVal ((c : Thread nD τ), SemLoc.dma cc1_scratch3.sem) 0
  ∗ (∃ f2 : Buf (Elt F) (xbM.view.loc (c : Thread nD τ)), ⌜xbM.view.read (Elt F) f2 = xM.view.read (Elt F) XN⌝ ∗ xbM.view.loc (c : Thread nD τ) ↦{fullShare} f2) ∗ xM.view.loc (c : Thread nD τ) ↦[xM.view.set]{fullShare} XN)
def xS (n : ℕ) : sProp 𝕄 := if n = 0 then xNew c XN else if n < 8 then xFly c XN else xHere c XN
def rowsS (n : ℕ) : sProp 𝕄 := iprop(∃ f4 : Buf (Elt F) (rowsM.view.loc (c : Thread nD τ)), ⌜RowsAt c XW n f4⌝ ∗ rowsM.view.loc (c : Thread nD τ) ↦{fullShare} f4)
def runS (n : ℕ) : sProp 𝕄 := iprop(∃ f5 : Buf (Elt F) (maxM.view.loc (c : Thread nD τ)), ∃ f6 : Buf (Elt F) (idxM.view.loc (c : Thread nD τ)), ⌜RunAt c XW (xVal c XN) age n f5 f6⌝
  ∗ (maxM.view.loc (c : Thread nD τ) ↦{fullShare} f5) ∗ idxM.view.loc (c : Thread nD τ) ↦{fullShare} f6)

def stateS (n : ℕ) : sProp 𝕄 := iprop(ringS c XW n ∗ xS c XN n ∗ rowsS c XW n ∗ runS c XW XN age n)

theorem ringS_zero : (ringS c XW 0 : sProp 𝕄) = ringNew c XW := if_pos rfl
theorem ringS_pos (n : ℕ) (h : n ≠ 0) : (ringS c XW n : sProp 𝕄) = ringAt c XW n := if_neg h
theorem xS_zero : (xS c XN 0 : sProp 𝕄) = xNew c XN := if_pos rfl
theorem xS_fly (n : ℕ) (h : n ≠ 0) (h' : n < 8) : (xS c XN n : sProp 𝕄) = xFly c XN := (if_neg h).trans (if_pos h')
theorem xS_here (n : ℕ) (h' : 8 ≤ n) : (xS c XN n : sProp 𝕄) = xHere c XN := (if_neg (by omega)).trans (if_neg (by omega))
/-- Away from the first point and the first group's end, the copy's state stays. -/
theorem xS_keep (n : ℕ) (h : n ≠ 0) (h' : n ≠ 7) : (xS c XN (n + 1) : sProp 𝕄) = xS c XN n := by
  by_cases h8 : n < 8
  · rw [xS_fly c XN n h h8, xS_fly c XN (n + 1) (by omega) (by omega)]
  · rw [xS_here c XN n (by omega), xS_here c XN (n + 1) (by omega)]

end State

end Cert.Proof.Whole

end
-- ==== Proof.WholeScores.lean ====
/-
  THE SECOND CALL'S ARITHMETIC, over the reals: what its payloads compute at a row of `x`. Where a group's products are the
  scores of its 128 columns, the running maximum and its column after group `g` are the greatest of the first `128 (g + 1)`
  scores and the first column that has it.
-/
module

public import proofs.«01_k».proof.Proof.Scores
public import proofs.«01_k».proof.Proof.WholeGrid

@[expose] public section

set_option maxRecDepth 16384

noncomputable section

namespace Cert.Proof.Whole

open Cert.KernelIdeal Cert.KernelIdeal.Gen
open Idealize.ShloMosaic Idealize.ShloMosaic.TcCoe
open Cert.Proof.Winner
open scoped BigOperators

/-- A comparison of two vectors, read at an index. -/
theorem cmpf_at {t : Shape} {φ : FTy} (p : CmpFPredicate) (x y : FVec Ideal t φ) (i : t.Idx) : cmpf p x y i = Ideal.cmp p (x i) (y i) := rfl

/-- The first call's block: each row over its clipped length. -/
theorem pay1_rows (v : Vec Ideal S32x50176 .f32) (r : Fin 32) (k : Fin 50176) :
    k0_pay1 (F := Ideal) v (ValueIdx.ix2 r k) = unit (fun j => v (ValueIdx.ix2 r j)) k := by
  unfold k0_pay1
  rw [shapeCast_self]
  exact kernel_rows (R := 32) (K := 50176) v reduces_S32x50176_S32 (.inl rfl) rfl shapeCasts_S32_S32x1 broadcasts_S32x1_S32x50176 bitsLt_bf16_f32 r k

/-- The second call's block of 16 rows, likewise. -/
theorem wnorm_rows (v : FVec Ideal S16x50176 .f32) (r : Fin 16) (k : Fin 50176) :
    wnorm v (ValueIdx.ix2 r k) = unit (fun j => v (ValueIdx.ix2 r j)) k := by
  unfold wnorm
  rw [shapeCast_self]
  exact kernel_rows (R := 16) (K := 50176) v reduces_S16x50176_S16 (.inl rfl) rfl shapeCasts_S16_S16x1 broadcasts_S16x1_S16x50176 bitsLt_bf16_f32 r k

/-- A group's products at `(b, c)`: the sum over the row, times the factor of the column's age. -/
theorem products_apply (xv : Vec Ideal S256x50176 .bf16) (w : Vec Ideal S128x50176 .bf16) (a : Vec Ideal S1x1x128 .f32) (b : Fin 256) (c : Fin 128) :
    k1_pay1 (F := Ideal) xv w a (ValueIdx.ix2 b c)
      = (∑ k : Fin 50176, xv (ValueIdx.ix2 b k) * w (ValueIdx.ix2 c k)) * act (a (ValueIdx.ix3 (0 : Fin 1) (0 : Fin 1) c)) := by
  unfold k1_pay1
  rw [ValueIdx.mulf_apply]
  refine congrArg₂ (· * ·) ?_ ?_
  · refine (Ideal.matmul_transposedRhs_apply (M := 256) (K := 50176) (N := 128) none xv w (constant S256x128 .f32 0x00000000#32) b c).trans ?_
    show Ideal.ofBits .f32 0x00000000#32 + _ = _
    rw [Ideal.ofBits_zero_f32, zero_add]
  · rw [sitofp_extui_eq_uitofp]
    refine (broadcastTo_apply _ _ _ (ValueIdx.ix2 (0 : Fin 1) c) fun d => by fin_cases d <;> rfl).trans ?_
    have e : shapeCast S1x128 a shapeCasts_S1x1x128_S1x128 (ValueIdx.ix2 (0 : Fin 1) c) = a (ValueIdx.ix3 (0 : Fin 1) (0 : Fin 1) c) := by
      refine shapeCast_apply a _ _ _ ?_
      rw [Shape.rowMajor_val_three, Shape.rowMajor_val_two]
      rfl
    show ((((Ideal.cmp .oge (shapeCast S1x128 a shapeCasts_S1x1x128_S1x128 (ValueIdx.ix2 (0 : Fin 1) c)) (Ideal.ofBits .f32 0x3F800000#32)).toNat : ℕ) : ℝ) : EReal) = _
    rw [e, Ideal.ofBits_one_f32]
    rfl

section Group
variable (xv : Vec Ideal S256x50176 .bf16) (w : Vec Ideal S128x50176 .bf16) (a : Vec Ideal S1x1x128 .f32) (b : Fin 256) (s : ℕ → EReal) (g : ℕ)
  (hs : ∀ c : Fin 128, k1_pay1 (F := Ideal) xv w a (ValueIdx.ix2 b c) = s (128 * g + c.val))

include hs in
/-- One group at one row: its greatest score. -/
theorem group_score (c : ℕ) (hc : FirstMax (fun k => s (128 * g + k)) 128 c) : k1_pay2 (F := Ideal) xv w a (ValueIdx.ix2 b (0 : Fin 1)) = s (128 * g + c) := by
  unfold k1_pay2
  dsimp only
  rw [column_apply]
  refine (group_max (R := 256) (K := 128) _ reduces_S256x128_S256 (.inl rfl) rfl b ⟨c, hc.1⟩ fun k => ?_).trans (hs ⟨c, hc.1⟩)
  rw [hs, hs]
  exact hc.2.1 k.val k.isLt

include hs in
/-- One group at one row: the first of its columns with that score. -/
theorem group_column (hg : g < 8) (c : ℕ) (hc : FirstMax (fun k => s (128 * g + k)) 128 c) :
    k1_pay3 (F := Ideal) (BitVec.ofNat 32 g) xv w a (ValueIdx.ix2 b (0 : Fin 1)) = BitVec.ofNat 32 (128 * g + c) := by
  have hc1 := hc.1
  have word : ∀ k : Fin 128, IntOp.addi (BitVec.ofNat 32 k.val) (Scalar.muli (BitVec.ofNat 32 g) 128#32) = BitVec.ofNat 32 (128 * g + k.val) := fun k => by
    apply BitVec.eq_of_toNat_eq
    simp [IntOp.addi, Scalar.muli, IntOp.muli, BitVec.toNat_add, BitVec.toNat_mul]
    omega
  have int : ∀ n : ℕ, n < 1024 → (BitVec.ofNat 32 n).toInt = n := fun n hn => by
    rw [BitVec.toInt_eq_toNat_cond, BitVec.toNat_ofNat, Nat.mod_eq_of_lt (by omega), if_pos (by omega)]
  have at_k : ∀ k : Fin 128, (select (cmpf .oeq (k1_pay1 (F := Ideal) xv w a) (broadcastTo S256x128 (k1_pay2 xv w a) broadcasts_S256x1_S256x128))
      (addi (iota .tc S256x128 32 [1] iota_S256x128_d1_w32) (broadcast S256x128 (Scalar.muli (BitVec.ofNat 32 g) 128#32))) (broadcast S256x128 1073741824#32)) (ValueIdx.ix2 b k)
      = if s (128 * g + k.val) = s (128 * g + c) then BitVec.ofNat 32 (128 * g + k.val) else 1073741824#32 := fun k => by
    have e : broadcastTo S256x128 (k1_pay2 (F := Ideal) xv w a) broadcasts_S256x1_S256x128 (ValueIdx.ix2 b k) = s (128 * g + c) :=
      (spread_apply (R := 256) (K := 128) _ _ b k).trans (group_score xv w a b s g hs c hc)
    have i : iota .tc S256x128 32 [1] iota_S256x128_d1_w32 (ValueIdx.ix2 b k) = BitVec.ofNat 32 k.val := by
      unfold iota
      rw [List.foldl_cons, List.foldl_nil, Nat.zero_mul, Nat.zero_add]
    have j : addi (iota .tc S256x128 32 [1] iota_S256x128_d1_w32) (broadcast S256x128 (Scalar.muli (BitVec.ofNat 32 g) 128#32)) (ValueIdx.ix2 b k) = BitVec.ofNat 32 (128 * g + k.val) := by
      rw [← word k, ← i]; rfl
    have l : cmpf .oeq (k1_pay1 (F := Ideal) xv w a) (broadcastTo S256x128 (k1_pay2 xv w a) broadcasts_S256x1_S256x128) (ValueIdx.ix2 b k)
        = Ideal.cmp .oeq (s (128 * g + k.val)) (s (128 * g + c)) := by
      rw [cmpf_at, e, hs]
    rw [ValueIdx.select_apply, j, l]
    show Scalar.select _ _ (1073741824#32) = _
    by_cases h : s (128 * g + k.val) = s (128 * g + c)
    · rw [if_pos h]; simp [Ideal.cmp, h, Scalar.select]
    · rw [if_neg h]; simp [Ideal.cmp, h, Scalar.select]
  unfold k1_pay3
  dsimp only
  rw [column_apply]
  refine group_min (R := 256) (K := 128) _ reduces_S256x128_S256 rfl b ⟨c, hc1⟩ _ ((at_k ⟨c, hc1⟩).trans (if_pos rfl)) (fun k => ?_) ?_
  · rw [at_k, int _ (by omega)]
    split
    · next h =>
      rw [int _ (by omega)]
      have : ¬ k.val < c := fun hlt => absurd h (ne_of_lt (hc.2.2 _ hlt))
      omega
    · rw [show (1073741824#32 : BitVec 32).toInt = 1073741824 by decide]
      omega
  · rw [int _ (by omega), show (2147483647#32 : BitVec 32).toInt = 2147483647 by decide]
    omega

end Group

section Run
variable (d : Dev nD) (XW : Buf (Elt Ideal) (wM.view.loc (d : Thread nD τ))) (xv : FVec Ideal S256x50176 .bf16) (age : Fin grid1.N → FVec Ideal S1x1x128 .f32)
  (b : Fin 256) (s : ℕ → EReal)
  (hs : ∀ g < 8, ∀ c : Fin 128, k1_pay1 (F := Ideal) xv (groupRows d XW g) (age (endPt g)) (ValueIdx.ix2 b c) = s (128 * g + c.val))

include hs in
/-- After group `g`: the greatest of the scores so far, and the first column that has it. -/
theorem run_at (g : ℕ) (hg : g < 8) : ∃ c, FirstMax s (128 * (g + 1)) c ∧ runMax d XW xv age g (ValueIdx.ix2 b (0 : Fin 1)) = s c
    ∧ runIdx d XW xv age g (ValueIdx.ix2 b (0 : Fin 1)) = BitVec.ofNat 32 c := by
  induction g with
  | zero =>
    obtain ⟨c, hc⟩ := exists_firstMax (fun k => s (128 * 0 + k)) 127
    have h1 := group_score xv (groupRows d XW 0) (age (endPt 0)) b s 0 (hs 0 hg) c hc
    have h2 := group_column xv (groupRows d XW 0) (age (endPt 0)) b s 0 (hs 0 hg) hg c hc
    have e : (fun k => s (128 * 0 + k)) = s := funext fun k => by rw [Nat.mul_zero, Nat.zero_add]
    rw [Nat.mul_zero, Nat.zero_add] at h1 h2
    rw [e] at hc
    refine ⟨c, hc, ?_, ?_⟩
    · unfold runMax k1_pay4; rw [shapeCast_self]; exact h1
    · unfold runIdx k1_pay5; rw [shapeCast_self]; exact h2
  | succ g ih =>
    obtain ⟨c, hc, hm, hi⟩ := ih (by omega)
    obtain ⟨c', hc'⟩ := exists_firstMax (fun k => s (128 * (g + 1) + k)) 127
    have h1 := group_score xv (groupRows d XW (g + 1)) (age (endPt (g + 1))) b s (g + 1) (hs (g + 1) hg) c' hc'
    have h2 := group_column xv (groupRows d XW (g + 1)) (age (endPt (g + 1))) b s (g + 1) (hs (g + 1) hg) hg c' hc'
    refine ⟨_, hc.append hc', ?_, ?_⟩
    · unfold runMax k1_pay7; rw [shapeCast_self, ValueIdx.maximumf_apply, h1, hm]
      exact max_append s _ _ _
    · unfold runIdx k1_pay6; rw [shapeCast_self, ValueIdx.select_apply, h2, hi]
      rw [cmpf_at, h1, hm]
      by_cases h : s c < s (128 * (g + 1) + c')
      · rw [if_pos h]; simp [Ideal.cmp, h, Scalar.select]
      · rw [if_neg h]; simp [Ideal.cmp, h, Scalar.select]

end Run

end Cert.Proof.Whole

end
-- ==== Proof.WholeSteps.lean ====
/-
  EVERY POINT OF THE SECOND CALL'S LOOP takes the loop's state before it to the state after it: the first point, a point that
  only moves and normalises a block, a point that closes a group as well, and the last points, which start no further copy.
-/
module

public import proofs.«01_k».proof.Proof.WholeGrid

@[expose] public section

set_option maxRecDepth 16384

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The ring at this call's blocks and slots -/

section Ring
variable (c : Dev nD) (XW : Buf (Elt F) (wM.view.loc (c : Thread nD τ)))

/-- What stays with the ring through point `t`: the other blocks and the four copies that are out. -/
def keepS (t : ℕ) : sProp 𝕄 := iprop(homesS (homeP c XW) t ∗ outP (cellP c) (slotP c) (flightP c XW) t)
/-- The same at a point that starts no copy, with the free slot. -/
def keepT (t : ℕ) : sProp 𝕄 := iprop(homesT (homeP c XW) t ∗ outP (cellP c) (slotP c) (flightP c XW) t ∗ freeP (cellP c) (slotP c) (Ring.sl 6 (t + 5)))
/-- The blocks not among the first six. -/
def keepN : sProp 𝕄 := homesS (homeP c XW) 0

theorem take_block (t : ℕ) (h : t + 5 < 64) :
    ringAt c XW t ⊢ (iprop((∃ f, flightP c XW (Ring.sl 6 t) (Ring.bk 64 t) f) ∗ keepS c XW t
      ∗ cellP c (Ring.sl 6 (t + 5)) ∗ (∃ f, slotP c (Ring.sl 6 (t + 5)) f) ∗ homeP c XW (Ring.bk 64 (t + 5))) : sProp 𝕄) := by
  refine (ring_here (homeP c XW) (cellP c) (slotP c) (flightP c XW) t h).trans ?_
  unfold keepS
  iintro ⟨Hf, Hh, Ho, ⟨Hc, Hs⟩, Hb⟩
  isplitl [Hf]; · iexact Hf
  isplitl [Hh Ho]
  · isplitl [Hh]; · iexact Hh
    iexact Ho
  isplitl [Hc]; · iexact Hc
  isplitl [Hs]; · iexact Hs
  iexact Hb

theorem give_block (t : ℕ) (h : t + 5 < 64) :
    (iprop(cellP c (Ring.sl 6 t) ∗ (∃ f, slotP c (Ring.sl 6 t) f) ∗ homeP c XW (Ring.bk 64 t) ∗ keepS c XW t
      ∗ (∃ f, flightP c XW (Ring.sl 6 (t + 5)) (Ring.bk 64 (t + 5)) f)) : sProp 𝕄) ⊢ ringAt c XW (t + 1) := by
  refine BIBase.Entails.trans ?_ (ring_next (homeP c XW) (cellP c) (slotP c) (flightP c XW) t h)
  unfold keepS
  iintro ⟨Hc, Hs, Hb, ⟨Hh, Ho⟩, Hf⟩
  isplitl [Hc Hs]
  · isplitl [Hc]; · iexact Hc
    iexact Hs
  isplitl [Hb]; · iexact Hb
  isplitl [Hh]; · iexact Hh
  isplitl [Ho]; · iexact Ho
  iexact Hf

theorem take_tail (t : ℕ) (h : t < 64) :
    ringAt c XW t ⊢ (iprop((∃ f, flightP c XW (Ring.sl 6 t) (Ring.bk 64 t) f) ∗ keepT c XW t) : sProp 𝕄) :=
  ring_here_tail (homeP c XW) (cellP c) (slotP c) (flightP c XW) t h

theorem give_tail (t : ℕ) (h : 64 ≤ t + 5) (h' : t < 64) :
    (iprop(cellP c (Ring.sl 6 t) ∗ (∃ f, slotP c (Ring.sl 6 t) f) ∗ homeP c XW (Ring.bk 64 t) ∗ keepT c XW t) : sProp 𝕄) ⊢ ringAt c XW (t + 1) := by
  refine BIBase.Entails.trans ?_ (ring_next_tail (homeP c XW) (cellP c) (slotP c) (flightP c XW) t h h')
  unfold keepT
  iintro ⟨Hc, Hs, Hb, Hk⟩
  isplitl [Hc Hs]
  · isplitl [Hc]; · iexact Hc
    iexact Hs
  isplitl [Hb]; · iexact Hb
  iexact Hk

theorem take_new :
    ringNew c XW ⊢ (iprop((freeP (cellP c) (slotP c) 0 ∗ homeP c XW 0) ∗ (freeP (cellP c) (slotP c) 1 ∗ homeP c XW 1) ∗ (freeP (cellP c) (slotP c) 2 ∗ homeP c XW 2)
      ∗ (freeP (cellP c) (slotP c) 3 ∗ homeP c XW 3) ∗ (freeP (cellP c) (slotP c) 4 ∗ homeP c XW 4) ∗ keepN c XW
      ∗ freeP (cellP c) (slotP c) (Ring.sl 6 (0 + 5)) ∗ homeP c XW (Ring.bk 64 (0 + 5))) : sProp 𝕄) :=
  ring_new (homeP c XW) (cellP c) (slotP c)

theorem keep_first :
    (iprop((∃ f, flightP c XW 1 1 f) ∗ (∃ f, flightP c XW 2 2 f) ∗ (∃ f, flightP c XW 3 3 f) ∗ (∃ f, flightP c XW 4 4 f) ∗ keepN c XW) : sProp 𝕄) ⊢ keepS c XW 0 := by
  unfold keepS keepN
  iintro ⟨H1, H2, H3, H4, Hn⟩
  isplitl [Hn]; · iexact Hn
  iapply (out_first (cellP c) (slotP c) (flightP c XW))
  isplitl [H1]; · iexact H1
  isplitl [H2]; · iexact H2
  isplitl [H3]; · iexact H3
  iexact H4

end Ring

/-! ## The steps -/

/-- The point's group, as the body computes it. -/
theorem group_word : ∀ t : Fin grid1.N, (part3Val t).2.2 = BitVec.ofNat 32 (t.val / 8) := by decide +kernel
theorem group_zero : ∀ g : Fin 8, Scalar.cmpi .ne (Scalar.extui (Scalar.cmpi .eq (BitVec.ofNat 32 g.val) 0#32)) 0#32 = 1#1 ↔ g.val = 0 := by decide +kernel
theorem group_pos : ∀ g : Fin 8, Scalar.cmpi .ne (Scalar.extui (Scalar.cmpi .sgt (BitVec.ofNat 32 g.val) 0#32)) 0#32 = 1#1 ↔ g.val ≠ 0 := by decide +kernel

section Steps
variable (c : Dev nD) (XW : Buf (Elt F) (wM.view.loc (c : Thread nD τ))) (XN : Buf (Elt F) (xM.view.loc (c : Thread nD τ))) (age : Fin grid1.N → FVec F S1x1x128 .f32) (t : Fin grid1.N)
  (arg3 : Memref sig .tc .vmem S1x1x128 .f32) (harg3 : arg3.IsWhole) (arg4 : Memref sig .tc .vmem S256x1 .i32) (harg4 : arg4.IsWhole)
  (g3 : Buf (Elt F) (arg3.view.loc (c : Thread nD τ))) (O : CellTallies nD τ sig (HIx 1)) (W : Finset (SemLoc sig × HIx 1))

/-- What the core owes, with waits recorded since of the lowest level only. -/
def owesMore : sProp 𝕄 := iprop(∃ W' : Finset (SemLoc sig × HIx 1), ⌜∀ p ∈ W', p ∈ W ∨ p.2 = none⌝ ∗ owes (c : Thread nD τ) O W')

theorem owesMore_one (s : SemLoc sig) : (owes (c : Thread nD τ) O (insert (s, none) W) : sProp 𝕄) ⊢ owesMore c O W := by
  unfold owesMore
  iintro H; iexists _; isplitr; swap; · iexact H
  ipureintro; intro p hp
  rcases Finset.mem_insert.mp hp with rfl | h
  · exact .inr rfl
  · exact .inl h

theorem owesMore_two (s s' : SemLoc sig) : (owes (c : Thread nD τ) O (insert (s', none) (insert (s, none) W)) : sProp 𝕄) ⊢ owesMore c O W := by
  unfold owesMore
  iintro H; iexists _; isplitr; swap; · iexact H
  ipureintro; intro p hp
  rcases Finset.mem_insert.mp hp with rfl | h
  · exact .inr rfl
  rcases Finset.mem_insert.mp h with rfl | h
  · exact .inr rfl
  · exact .inl h

/-- A run that leaves `E` alone. -/
theorem framed {α : Type} {p : Prog (TpuEff nD τ sig (Elt F) Λ₀ .tc) α} {P M E : sProp 𝕄} {v : α}
    (h : P ⊢ wp frame (wpE (defs₀ (F := F)) 𝒱₀ (c : Thread nD τ) none) Set.univ p (fun r => iprop(⌜r = v⌝ ∗ M))) :
    iprop(P ∗ E) ⊢ wp frame (wpE (defs₀ (F := F)) 𝒱₀ (c : Thread nD τ) none) Set.univ p (fun r => iprop(⌜r = v⌝ ∗ M ∗ E)) := by
  iintro ⟨HP, HE⟩
  iapply (wp_wand_r frame (wpE (defs₀ (F := F)) 𝒱₀ (c : Thread nD τ) none) Set.univ)
  isplitl [HP]; · iapply h; iexact HP
  iintro %r ⟨%hr, HM⟩
  isplitr; · ipureintro; exact hr
  isplitl [HM]; · iexact HM
  iexact HE

/-- A point past the first that starts a copy and closes no group. -/
theorem step_mid (h0 : t.val ≠ 0) (hs : t.val + 5 < 64) (hg : ¬ t.val % 8 = 7) :
    iprop(Transfers.MayWaits (c : Thread nD τ) (none : HIx 1) O ∗ owes (c : Thread nD τ) O W ∗ stateS c XW XN age t.val)
      ⊢ wp frame (wpE (defs₀ (F := F)) 𝒱₀ (c : Thread nD τ) none) Set.univ (bodyG t arg3 harg3 arg4 harg4)
        (fun _ => iprop(stateS c XW XN age (t.val + 1) ∗ owesMore c O W)) := by
  unfold stateS
  rw [ringS_pos c XW t.val h0, ringS_pos c XW (t.val + 1) (by omega), xS_keep c XN t.val h0 (by omega)]
  iintro ⟨#HM, HO, Hring, Hx, Hrows, Hrun⟩
  unfold rowsS runS
  icases Hrows with ⟨%f4, %h4, Hf4⟩
  icases Hrun with ⟨%f5, %f6, %h56, H5, H6⟩
  ihave Hr := (take_block c XW t.val hs) $$ Hring
  icases Hr with ⟨⟨%f, Hf⟩, Hk, Hc, ⟨%fs, Hs⟩, Hb⟩
  iapply (wp_wand_r frame (wpE (defs₀ (F := F)) 𝒱₀ (c : Thread nD τ) none) Set.univ)
  isplitl [HO Hf Hf4 Hc Hs Hb]
  · iapply (body_start c XW t arg3 harg3 arg4 harg4 (wait_later c XW t arg3 harg3 arg4 harg4 (fun e => h0 ((cond1_eq t).mp e)) O W f f4) hs hg fs)
    isplitl [HO Hf Hf4]
    · isplitr; · iexact HM
      isplitl [HO]; · iexact HO
      isplitl [Hf]; · iexact Hf
      iexact Hf4
    isplitl [Hc]; · iexact Hc
    isplitl [Hs]; · iexact Hs
    iexact Hb
  iintro %_ ⟨⟨HO, Hc, Hs, Hb, Hf4⟩, Hf⟩
  isplitr [HO]
  swap; · iapply (owesMore_one c O W); iexact HO
  isplitl [Hc Hs Hb Hk Hf]
  · iapply (give_block c XW t.val hs)
    isplitl [Hc]; · iexact Hc
    isplitl [Hs]; · iexact Hs
    isplitl [Hb]; · iexact Hb
    isplitl [Hk]; · iexact Hk
    iexists _; iexact Hf
  isplitl [Hx]; · iexact Hx
  isplitl [Hf4]
  · iexists _; isplitr; swap; · iexact Hf4
    ipureintro; exact rowsPut_next c XW t f4 h4
  iexists f5; iexists f6
  isplitr; · ipureintro; exact runAt_keep c XW _ age t.val f5 f6 h56 hg
  isplitl [H5]; · iexact H5
  iexact H6

/-- One of the last points, which starts no copy, closing no group. -/
theorem step_tail (hs : ¬ t.val + 5 < 64) (hg : ¬ t.val % 8 = 7) :
    iprop(Transfers.MayWaits (c : Thread nD τ) (none : HIx 1) O ∗ owes (c : Thread nD τ) O W ∗ stateS c XW XN age t.val)
      ⊢ wp frame (wpE (defs₀ (F := F)) 𝒱₀ (c : Thread nD τ) none) Set.univ (bodyG t arg3 harg3 arg4 harg4)
        (fun _ => iprop(stateS c XW XN age (t.val + 1) ∗ owesMore c O W)) := by
  have h0 : t.val ≠ 0 := by omega
  have hlt : t.val < 64 := t.isLt
  unfold stateS
  rw [ringS_pos c XW t.val h0, ringS_pos c XW (t.val + 1) (by omega), xS_keep c XN t.val h0 (by omega)]
  iintro ⟨#HM, HO, Hring, Hx, Hrows, Hrun⟩
  unfold rowsS runS
  icases Hrows with ⟨%f4, %h4, Hf4⟩
  icases Hrun with ⟨%f5, %f6, %h56, H5, H6⟩
  ihave Hr := (take_tail c XW t.val hlt) $$ Hring
  icases Hr with ⟨⟨%f, Hf⟩, Hk⟩
  iapply (wp_wand_r frame (wpE (defs₀ (F := F)) 𝒱₀ (c : Thread nD τ) none) Set.univ)
  isplitl [HO Hf Hf4]
  · iapply (body_quiet c t arg3 harg3 arg4 harg4 (wait_later c XW t arg3 harg3 arg4 harg4 (fun e => h0 ((cond1_eq t).mp e)) O W f f4) hs hg)
    isplitr; · iexact HM
    isplitl [HO]; · iexact HO
    isplitl [Hf]; · iexact Hf
    iexact Hf4
  iintro %_ ⟨HO, Hc, Hs, Hb, Hf4⟩
  isplitr [HO]
  swap; · iapply (owesMore_one c O W); iexact HO
  isplitl [Hc Hs Hb Hk]
  · iapply (give_tail c XW t.val (by omega) hlt)
    isplitl [Hc]; · iexact Hc
    isplitl [Hs]; · iexact Hs
    isplitl [Hb]; · iexact Hb
    iexact Hk
  isplitl [Hx]; · iexact Hx
  isplitl [Hf4]
  · iexists _; isplitr; swap; · iexact Hf4
    ipureintro; exact rowsPut_next c XW t f4 h4
  iexists f5; iexists f6
  isplitr; · ipureintro; exact runAt_keep c XW _ age t.val f5 f6 h56 hg
  isplitl [H5]; · iexact H5
  iexact H6

/-- The first point. -/
theorem step_zero :
    iprop(Transfers.MayWaits (c : Thread nD τ) (none : HIx 1) O ∗ owes (c : Thread nD τ) O W ∗ stateS c XW XN age 0)
      ⊢ wp frame (wpE (defs₀ (F := F)) 𝒱₀ (c : Thread nD τ) none) Set.univ (bodyG p0 arg3 harg3 arg4 harg4)
        (fun _ => iprop(stateS c XW XN age 1 ∗ owesMore c O W)) := by
  unfold stateS
  rw [ringS_zero, ringS_pos c XW 1 (by decide), xS_zero, xS_fly c XN 1 (by decide) (by decide)]
  iintro ⟨#HM, HO, Hring, Hx, Hrows, Hrun⟩
  unfold rowsS runS xNew
  icases Hx with ⟨Hxc, ⟨%fx, Hxb⟩, Hxm⟩
  icases Hrows with ⟨%f4, %h4, Hf4⟩
  icases Hrun with ⟨%f5, %f6, %h56, H5, H6⟩
  ihave Hr := (take_new c XW) $$ Hring
  icases Hr with ⟨⟨⟨C0, ⟨%g0, S0⟩⟩, B0⟩, ⟨⟨C1, ⟨%g1, S1⟩⟩, B1⟩, ⟨⟨C2, ⟨%g2, S2⟩⟩, B2⟩, ⟨⟨C3, ⟨%g3', S3⟩⟩, B3⟩, ⟨⟨C4, ⟨%g4, S4⟩⟩, B4⟩, Hk, ⟨Hc, ⟨%fs, Hs⟩⟩, Hb⟩
  iapply (wp_wand_r frame (wpE (defs₀ (F := F)) 𝒱₀ (c : Thread nD τ) none) Set.univ)
  isplitl [HO Hxc Hxb Hxm Hf4 Hc Hs Hb C0 S0 B0 C1 S1 B1 C2 S2 B2 C3 S3 B3 C4 S4 B4]
  · iapply (body_start c XW p0 arg3 harg3 arg4 harg4 (wait_first c XW XN arg3 harg3 arg4 harg4 O W g0 g1 g2 g3' g4 fx f4) (by decide) (by decide) fs)
    isplitr [Hc Hs Hb]
    · isplitr; · iexact HM
      isplitl [HO]; · iexact HO
      isplitl [Hxc Hxb Hxm]
      · isplitl [Hxc]; · iexact Hxc
        isplitl [Hxb]; · iexact Hxb
        iexact Hxm
      isplitl [C0 S0 B0]
      · isplitl [C0]; · iexact C0
        isplitl [S0]; · iexact S0
        iexact B0
      isplitl [C1 S1 B1]
      · isplitl [C1]; · iexact C1
        isplitl [S1]; · iexact S1
        iexact B1
      isplitl [C2 S2 B2]
      · isplitl [C2]; · iexact C2
        isplitl [S2]; · iexact S2
        iexact B2
      isplitl [C3 S3 B3]
      · isplitl [C3]; · iexact C3
        isplitl [S3]; · iexact S3
        iexact B3
      isplitl [C4 S4 B4]
      · isplitl [C4]; · iexact C4
        isplitl [S4]; · iexact S4
        iexact B4
      iexact Hf4
    isplitl [Hc]; · iexact Hc
    isplitl [Hs]; · iexact Hs
    iexact Hb
  iintro %_ ⟨⟨HO, Hx, F1, F2, F3, F4, Hc, Hs, Hb, Hf4⟩, Hf⟩
  isplitr [HO]
  swap; · iapply (owesMore_one c O W); iexact HO
  isplitl [Hc Hs Hb Hk Hf F1 F2 F3 F4]
  · iapply (give_block c XW 0 (by decide))
    isplitl [Hc]; · iexact Hc
    isplitl [Hs]; · iexact Hs
    isplitl [Hb]; · iexact Hb
    isplitl [Hk F1 F2 F3 F4]
    · iapply (keep_first c XW)
      isplitl [F1]; · iexists _; iexact F1
      isplitl [F2]; · iexists _; iexact F2
      isplitl [F3]; · iexists _; iexact F3
      isplitl [F4]; · iexists _; iexact F4
      iexact Hk
    iexists _; iexact Hf
  isplitl [Hx]; · unfold xFly; iexists fx; iexact Hx
  isplitl [Hf4]
  · iexists _; isplitr; swap; · iexact Hf4
    ipureintro; exact rowsPut_next c XW p0 f4 h4
  iexists f5; iexists f6
  isplitr; · ipureintro; exact runAt_keep c XW _ age 0 f5 f6 h56 (by decide)
  isplitl [H5]; · iexact H5
  iexact H6

/-- The values a closing point computes are the next of the running maximum and column. -/
theorem endPt_eq (h7 : t.val % 8 = 7) : endPt (t.val / 8) = t := Fin.ext (by show (8 * (t.val / 8) + 7) % 64 = t.val; have : t.val < 64 := t.isLt; omega)

theorem runAt_first (h : t.val = 7) (f4) (h4 : RowsAt c XW t.val f4) (hg3 : arg3.view.read (Elt F) g3 = age t)
    (f5 : Buf (Elt F) (maxM.view.loc (c : Thread nD τ))) (f6 : Buf (Elt F) (idxM.view.loc (c : Thread nD τ)))
    (h5 : maxM.view.read (Elt F) f5 = k1_pay4 (xM.view.read (Elt F) XN) (rowsM.view.read (Elt F) (rowsPut c XW t f4)) (arg3.view.read (Elt F) g3))
    (h6 : idxM.view.read (Elt F) f6 = k1_pay5 0#32 (xM.view.read (Elt F) XN) (rowsM.view.read (Elt F) (rowsPut c XW t f4)) (arg3.view.read (Elt F) g3)) :
    RunAt c XW (xVal c XN) age (t.val + 1) f5 f6 := fun _ => by
  have e : age (endPt 0) = age t := congrArg age (Fin.ext (by rw [h]; rfl))
  rw [h5, h6, rowsPut_full c XW t f4 h4 (by omega), hg3, show t.val / 8 = 0 by omega, show (t.val + 1) / 8 - 1 = 0 by omega, runMax, runIdx, e]
  exact ⟨rfl, rfl⟩

theorem run_next (h7 : t.val % 8 = 7) (h8 : 8 ≤ t.val) (f4) (h4 : RowsAt c XW t.val f4) (hg3 : arg3.view.read (Elt F) g3 = age t)
    (f2 : Buf (Elt F) (xbM.view.loc (c : Thread nD τ))) (h2 : xbM.view.read (Elt F) f2 = xM.view.read (Elt F) XN)
    (f5 : Buf (Elt F) (maxM.view.loc (c : Thread nD τ))) (f6 : Buf (Elt F) (idxM.view.loc (c : Thread nD τ))) (h56 : RunAt c XW (xVal c XN) age t.val f5 f6) :
    k1_pay7 (xbM.view.read (Elt F) f2) (rowsM.view.read (Elt F) (rowsPut c XW t f4)) (arg3.view.read (Elt F) g3) (maxM.view.read (Elt F) f5) = runMax c XW (xVal c XN) age (t.val / 8)
    ∧ k1_pay6 (BitVec.ofNat 32 (t.val / 8)) (xbM.view.read (Elt F) f2) (rowsM.view.read (Elt F) (rowsPut c XW t f4)) (arg3.view.read (Elt F) g3) (maxM.view.read (Elt F) f5) (idxM.view.read (Elt F) f6)
      = runIdx c XW (xVal c XN) age (t.val / 8) := by
  obtain ⟨e5, e6⟩ := h56 h8
  have e : age (endPt (t.val / 8)) = age t := congrArg age (endPt_eq t h7)
  rw [e5, e6, h2, rowsPut_full c XW t f4 h4 h7, hg3, ← e]
  obtain ⟨g, hg⟩ : ∃ g, t.val / 8 = g + 1 := ⟨t.val / 8 - 1, by omega⟩
  rw [hg, Nat.add_sub_cancel]
  exact ⟨rfl, rfl⟩

/-- The point that closes the first group. -/
theorem step_first (h7 : t.val = 7) (hg3 : arg3.view.read (Elt F) g3 = age t) :
    iprop(Transfers.MayWaits (c : Thread nD τ) (none : HIx 1) O ∗ owes (c : Thread nD τ) O W ∗ stateS c XW XN age t.val ∗ arg3.view.loc (c : Thread nD τ) ↦[arg3.view.set]{fullShare} g3)
      ⊢ wp frame (wpE (defs₀ (F := F)) 𝒱₀ (c : Thread nD τ) none) Set.univ (bodyG t arg3 harg3 arg4 harg4)
        (fun _ => iprop(stateS c XW XN age (t.val + 1) ∗ owesMore c O W ∗ arg3.view.loc (c : Thread nD τ) ↦[arg3.view.set]{fullShare} g3)) := by
  have h0 : t.val ≠ 0 := by omega
  have hs : t.val + 5 < 64 := by omega
  have hw : (part3Val t).2.2 = 0#32 := (group_word t).trans (by rw [h7])
  unfold stateS
  rw [ringS_pos c XW t.val h0, ringS_pos c XW (t.val + 1) (by omega), xS_fly c XN t.val h0 (by omega), xS_here c XN (t.val + 1) (by omega)]
  iintro ⟨#HM, HO, ⟨Hring, Hx, Hrows, Hrun⟩, H3⟩
  unfold rowsS runS xFly xHere
  icases Hx with ⟨%fx, Hx⟩
  icases Hrows with ⟨%f4, %h4, Hf4⟩
  icases Hrun with ⟨%f5, %f6, -, H5, H6⟩
  ihave Hr := (take_block c XW t.val hs) $$ Hring
  icases Hr with ⟨⟨%f, Hf⟩, Hk, Hc, ⟨%fs, Hs⟩, Hb⟩
  iapply (wp_wand_r frame (wpE (defs₀ (F := F)) 𝒱₀ (c : Thread nD τ) none) Set.univ)
  isplitl [HO Hf Hf4 Hc Hs Hb Hx H3 H5 H6]
  · iapply (body_both c XW t arg3 harg3 arg4 harg4
      (framed c (E := iprop(Transfers.MayWaits (c : Thread nD τ) (none : HIx 1) O ∗ xFlight c XN fx ∗ (arg3.view.loc (c : Thread nD τ) ↦[arg3.view.set]{fullShare} g3)
        ∗ (maxM.view.loc (c : Thread nD τ) ↦{fullShare} f5) ∗ (idxM.view.loc (c : Thread nD τ) ↦{fullShare} f6)))
        (wait_later c XW t arg3 harg3 arg4 harg4 (fun e => h0 ((cond1_eq t).mp e)) O W f f4))
      (Q := iprop((owes (c : Thread nD τ) O (insert (SemLoc.dma cc1_scratch3.sem, none) (insert (SemLoc.dma (slotSem (Ring.sl 6 t.val)).sem, none) W))
          ∗ semVal ((c : Thread nD τ), SemLoc.dma cc1_scratch3.sem) 0
          ∗ (∃ f2, ⌜xbM.view.read (Elt F) f2 = xM.view.read (Elt F) XN⌝ ∗ xbM.view.loc (c : Thread nD τ) ↦{fullShare} f2) ∗ (xM.view.loc (c : Thread nD τ) ↦[xM.view.set]{fullShare} XN)
          ∗ (rowsM.view.loc (c : Thread nD τ) ↦{fullShare} rowsPut c XW t f4) ∗ (arg3.view.loc (c : Thread nD τ) ↦[arg3.view.set]{fullShare} g3)
          ∗ (∃ f, ⌜maxM.view.read (Elt F) f = k1_pay4 (xM.view.read (Elt F) XN) (rowsM.view.read (Elt F) (rowsPut c XW t f4)) (arg3.view.read (Elt F) g3)⌝ ∗ maxM.view.loc (c : Thread nD τ) ↦{fullShare} f)
          ∗ (∃ f, ⌜idxM.view.read (Elt F) f = k1_pay5 0#32 (xM.view.read (Elt F) XN) (rowsM.view.read (Elt F) (rowsPut c XW t f4)) (arg3.view.read (Elt F) g3)⌝ ∗ idxM.view.loc (c : Thread nD τ) ↦{fullShare} f))
        ∗ cellP c (Ring.sl 6 t.val) ∗ (∃ f, slotP c (Ring.sl 6 t.val) f) ∗ homeP c XW (Ring.bk 64 t.val)))
      (by
        rw [hw]
        iintro ⟨⟨HO, Hc, Hs, Hb, Hf4⟩, #HM, Hx, H3, H5, H6⟩
        iapply (wp_wand_r frame (wpE (defs₀ (F := F)) 𝒱₀ (c : Thread nD τ) none) Set.univ)
        isplitr [Hc Hs Hb]
        · iapply (group_first c XN t arg3 harg3 arg4 harg4 (part3Val t).1 (fun e => by have := (cond7_eq t).mp e; omega) O
            (insert (SemLoc.dma (slotSem (Ring.sl 6 t.val)).sem, none) W) fx (rowsPut c XW t f4) f5 f6 g3)
          isplitr; · iexact HM
          isplitl [HO]; · iexact HO
          isplitl [Hx]; · iexact Hx
          isplitl [Hf4]; · iexact Hf4
          isplitl [H3]; · iexact H3
          isplitl [H5]; · iexact H5
          iexact H6
        iintro %_ HQ
        isplitl [HQ]; · iexact HQ
        isplitl [Hc]; · iexact Hc
        isplitl [Hs]; · iexact Hs
        iexact Hb)
      hs (by omega) fs)
    isplitr [Hc Hs Hb]
    · isplitl [HO Hf Hf4]
      · isplitr; · iexact HM
        isplitl [HO]; · iexact HO
        isplitl [Hf]; · iexact Hf
        iexact Hf4
      isplitr; · iexact HM
      isplitl [Hx]; · iexact Hx
      isplitl [H3]; · iexact H3
      isplitl [H5]; · iexact H5
      iexact H6
    isplitl [Hc]; · iexact Hc
    isplitl [Hs]; · iexact Hs
    iexact Hb
  iintro %_ ⟨⟨⟨HO, Hxc, Hxb, Hxm, Hf4, H3, ⟨%r5, %h5, H5⟩, ⟨%r6, %h6, H6⟩⟩, Hc, Hs, Hb⟩, Hf⟩
  isplitr [HO H3]
  swap
  · isplitl [HO]; · iapply (owesMore_two c O W); iexact HO
    iexact H3
  isplitl [Hc Hs Hb Hk Hf]
  · iapply (give_block c XW t.val hs)
    isplitl [Hc]; · iexact Hc
    isplitl [Hs]; · iexact Hs
    isplitl [Hb]; · iexact Hb
    isplitl [Hk]; · iexact Hk
    iexists _; iexact Hf
  isplitl [Hxc Hxb Hxm]
  · isplitl [Hxc]; · iexact Hxc
    isplitl [Hxb]; · iexact Hxb
    iexact Hxm
  isplitl [Hf4]
  · iexists _; isplitr; swap; · iexact Hf4
    ipureintro; exact rowsPut_next c XW t f4 h4
  iexists r5; iexists r6
  isplitr; · ipureintro; exact runAt_first c XW XN age t arg3 g3 h7 f4 h4 hg3 r5 r6 h5 h6
  isplitl [H5]; · iexact H5
  iexact H6

/-- A point that closes a later group but the last. -/
theorem step_next (h7 : t.val % 8 = 7) (h8 : 8 ≤ t.val) (hs : t.val + 5 < 64) (hg3 : arg3.view.read (Elt F) g3 = age t) :
    iprop(Transfers.MayWaits (c : Thread nD τ) (none : HIx 1) O ∗ owes (c : Thread nD τ) O W ∗ stateS c XW XN age t.val ∗ arg3.view.loc (c : Thread nD τ) ↦[arg3.view.set]{fullShare} g3)
      ⊢ wp frame (wpE (defs₀ (F := F)) 𝒱₀ (c : Thread nD τ) none) Set.univ (bodyG t arg3 harg3 arg4 harg4)
        (fun _ => iprop(stateS c XW XN age (t.val + 1) ∗ owesMore c O W ∗ arg3.view.loc (c : Thread nD τ) ↦[arg3.view.set]{fullShare} g3)) := by
  have h0 : t.val ≠ 0 := by omega
  have hw : (part3Val t).2.2 = BitVec.ofNat 32 (t.val / 8) := group_word t
  unfold stateS
  rw [ringS_pos c XW t.val h0, ringS_pos c XW (t.val + 1) (by omega), xS_here c XN t.val h8, xS_here c XN (t.val + 1) (by omega)]
  iintro ⟨#HM, HO, ⟨Hring, Hx, Hrows, Hrun⟩, H3⟩
  unfold rowsS runS xHere
  icases Hx with ⟨Hxc, ⟨%f2, %h2, Hxb⟩, Hxm⟩
  icases Hrows with ⟨%f4, %h4, Hf4⟩
  icases Hrun with ⟨%f5, %f6, %h56, H5, H6⟩
  obtain ⟨e5, e6⟩ := run_next c XW XN age t arg3 g3 h7 h8 f4 h4 hg3 f2 h2 f5 f6 h56
  ihave Hr := (take_block c XW t.val hs) $$ Hring
  icases Hr with ⟨⟨%f, Hf⟩, Hk, Hc, ⟨%fs, Hs⟩, Hb⟩
  iapply (wp_wand_r frame (wpE (defs₀ (F := F)) 𝒱₀ (c : Thread nD τ) none) Set.univ)
  isplitl [HO Hf Hf4 Hc Hs Hb Hxb H3 H5 H6]
  · iapply (body_both c XW t arg3 harg3 arg4 harg4
      (framed c (E := iprop((xbM.view.loc (c : Thread nD τ) ↦{fullShare} f2) ∗ (arg3.view.loc (c : Thread nD τ) ↦[arg3.view.set]{fullShare} g3)
        ∗ (maxM.view.loc (c : Thread nD τ) ↦{fullShare} f5) ∗ (idxM.view.loc (c : Thread nD τ) ↦{fullShare} f6)))
        (wait_later c XW t arg3 harg3 arg4 harg4 (fun e => h0 ((cond1_eq t).mp e)) O W f f4))
      (Q := iprop(((xbM.view.loc (c : Thread nD τ) ↦{fullShare} f2)
          ∗ (rowsM.view.loc (c : Thread nD τ) ↦{fullShare} rowsPut c XW t f4) ∗ (arg3.view.loc (c : Thread nD τ) ↦[arg3.view.set]{fullShare} g3)
          ∗ (∃ f, ⌜maxM.view.read (Elt F) f = runMax c XW (xVal c XN) age (t.val / 8)⌝ ∗ maxM.view.loc (c : Thread nD τ) ↦{fullShare} f)
          ∗ (∃ f, ⌜idxM.view.read (Elt F) f = runIdx c XW (xVal c XN) age (t.val / 8)⌝ ∗ idxM.view.loc (c : Thread nD τ) ↦{fullShare} f))
        ∗ owes (c : Thread nD τ) O (insert (SemLoc.dma (slotSem (Ring.sl 6 t.val)).sem, none) W)
        ∗ cellP c (Ring.sl 6 t.val) ∗ (∃ f, slotP c (Ring.sl 6 t.val) f) ∗ homeP c XW (Ring.bk 64 t.val)))
      (by
        rw [hw, ← e5, ← e6]
        iintro ⟨⟨HO, Hc, Hs, Hb, Hf4⟩, Hxb, H3, H5, H6⟩
        iapply (wp_wand_r frame (wpE (defs₀ (F := F)) 𝒱₀ (c : Thread nD τ) none) Set.univ)
        isplitr [HO Hc Hs Hb]
        · have hlt : t.val < 64 := t.isLt
          iapply (group_next c t arg3 harg3 arg4 harg4 (part3Val t).1 (BitVec.ofNat 32 (t.val / 8))
            (fun e => by have := (group_zero ⟨t.val / 8, by omega⟩).mp e; simp only at this; omega) ((group_pos ⟨t.val / 8, by omega⟩).mpr (by simp only; omega))
            (fun e => by have := (cond7_eq t).mp e; omega) f2 (rowsPut c XW t f4) f5 f6 g3)
          isplitl [Hxb]; · iexact Hxb
          isplitl [Hf4]; · iexact Hf4
          isplitl [H3]; · iexact H3
          isplitl [H5]; · iexact H5
          iexact H6
        iintro %_ HQ
        isplitl [HQ]; · iexact HQ
        isplitl [HO]; · iexact HO
        isplitl [Hc]; · iexact Hc
        isplitl [Hs]; · iexact Hs
        iexact Hb)
      hs h7 fs)
    isplitr [Hc Hs Hb]
    · isplitl [HO Hf Hf4]
      · isplitr; · iexact HM
        isplitl [HO]; · iexact HO
        isplitl [Hf]; · iexact Hf
        iexact Hf4
      isplitl [Hxb]; · iexact Hxb
      isplitl [H3]; · iexact H3
      isplitl [H5]; · iexact H5
      iexact H6
    isplitl [Hc]; · iexact Hc
    isplitl [Hs]; · iexact Hs
    iexact Hb
  iintro %_ ⟨⟨⟨Hxb, Hf4, H3, ⟨%r5, %h5, H5⟩, ⟨%r6, %h6, H6⟩⟩, HO, Hc, Hs, Hb⟩, Hf⟩
  isplitr [HO H3]
  swap
  · isplitl [HO]; · iapply (owesMore_one c O W); iexact HO
    iexact H3
  isplitl [Hc Hs Hb Hk Hf]
  · iapply (give_block c XW t.val hs)
    isplitl [Hc]; · iexact Hc
    isplitl [Hs]; · iexact Hs
    isplitl [Hb]; · iexact Hb
    isplitl [Hk]; · iexact Hk
    iexists _; iexact Hf
  isplitl [Hxc Hxb Hxm]
  · isplitl [Hxc]; · iexact Hxc
    isplitl [Hxb]
    · iexists f2; isplitr; · ipureintro; exact h2
      iexact Hxb
    iexact Hxm
  isplitl [Hf4]
  · iexists _; isplitr; swap; · iexact Hf4
    ipureintro; exact rowsPut_next c XW t f4 h4
  iexists r5; iexists r6
  isplitr; · ipureintro; intro _; rw [show (t.val + 1) / 8 - 1 = t.val / 8 by omega]; exact ⟨h5, h6⟩
  isplitl [H5]; · iexact H5
  iexact H6

/-- The last point, which also stores the columns. -/
theorem step_last (h63 : t.val = 63) (hg3 : arg3.view.read (Elt F) g3 = age t) (g4 : Buf (Elt F) (arg4.view.loc (c : Thread nD τ))) :
    iprop(Transfers.MayWaits (c : Thread nD τ) (none : HIx 1) O ∗ owes (c : Thread nD τ) O W ∗ stateS c XW XN age t.val ∗ (arg3.view.loc (c : Thread nD τ) ↦[arg3.view.set]{fullShare} g3)
        ∗ arg4.view.loc (c : Thread nD τ) ↦[arg4.view.set]{fullShare} g4)
      ⊢ wp frame (wpE (defs₀ (F := F)) 𝒱₀ (c : Thread nD τ) none) Set.univ (bodyG t arg3 harg3 arg4 harg4)
        (fun _ => iprop(stateS c XW XN age (t.val + 1) ∗ owesMore c O W ∗ (arg3.view.loc (c : Thread nD τ) ↦[arg3.view.set]{fullShare} g3)
          ∗ ∃ g, ⌜arg4.view.read (Elt F) g = runIdx c XW (xVal c XN) age 7⌝ ∗ arg4.view.loc (c : Thread nD τ) ↦[arg4.view.set]{fullShare} g)) := by
  have h0 : t.val ≠ 0 := by omega
  have h8 : 8 ≤ t.val := by omega
  have h7 : t.val % 8 = 7 := by omega
  have hs : ¬ t.val + 5 < 64 := by omega
  have hlt : t.val < 64 := t.isLt
  have hw : (part3Val t).2.2 = BitVec.ofNat 32 (t.val / 8) := group_word t
  unfold stateS
  rw [ringS_pos c XW t.val h0, ringS_pos c XW (t.val + 1) (by omega), xS_here c XN t.val h8, xS_here c XN (t.val + 1) (by omega)]
  iintro ⟨#HM, HO, ⟨Hring, Hx, Hrows, Hrun⟩, H3, H4⟩
  unfold rowsS runS xHere
  icases Hx with ⟨Hxc, ⟨%f2, %h2, Hxb⟩, Hxm⟩
  icases Hrows with ⟨%f4, %h4, Hf4⟩
  icases Hrun with ⟨%f5, %f6, %h56, H5, H6⟩
  obtain ⟨e5, e6⟩ := run_next c XW XN age t arg3 g3 h7 h8 f4 h4 hg3 f2 h2 f5 f6 h56
  ihave Hr := (take_tail c XW t.val hlt) $$ Hring
  icases Hr with ⟨⟨%f, Hf⟩, Hk⟩
  iapply (wp_wand_r frame (wpE (defs₀ (F := F)) 𝒱₀ (c : Thread nD τ) none) Set.univ)
  isplitl [HO Hf Hf4 Hxb H3 H4 H5 H6]
  · iapply (body_group c t arg3 harg3 arg4 harg4
      (framed c (E := iprop((xbM.view.loc (c : Thread nD τ) ↦{fullShare} f2) ∗ (arg3.view.loc (c : Thread nD τ) ↦[arg3.view.set]{fullShare} g3)
        ∗ (maxM.view.loc (c : Thread nD τ) ↦{fullShare} f5) ∗ (idxM.view.loc (c : Thread nD τ) ↦{fullShare} f6) ∗ (arg4.view.loc (c : Thread nD τ) ↦[arg4.view.set]{fullShare} g4)))
        (wait_later c XW t arg3 harg3 arg4 harg4 (fun e => h0 ((cond1_eq t).mp e)) O W f f4))
      (Q := iprop(((xbM.view.loc (c : Thread nD τ) ↦{fullShare} f2)
          ∗ (rowsM.view.loc (c : Thread nD τ) ↦{fullShare} rowsPut c XW t f4) ∗ (arg3.view.loc (c : Thread nD τ) ↦[arg3.view.set]{fullShare} g3)
          ∗ (∃ f, ⌜maxM.view.read (Elt F) f = runMax c XW (xVal c XN) age (t.val / 8)⌝ ∗ maxM.view.loc (c : Thread nD τ) ↦{fullShare} f)
          ∗ (∃ f, ⌜idxM.view.read (Elt F) f = runIdx c XW (xVal c XN) age (t.val / 8)⌝ ∗ idxM.view.loc (c : Thread nD τ) ↦{fullShare} f)
          ∗ (∃ f, ⌜arg4.view.read (Elt F) f = runIdx c XW (xVal c XN) age (t.val / 8)⌝ ∗ arg4.view.loc (c : Thread nD τ) ↦[arg4.view.set]{fullShare} f))
        ∗ owes (c : Thread nD τ) O (insert (SemLoc.dma (slotSem (Ring.sl 6 t.val)).sem, none) W)
        ∗ cellP c (Ring.sl 6 t.val) ∗ (∃ f, slotP c (Ring.sl 6 t.val) f) ∗ homeP c XW (Ring.bk 64 t.val)))
      (by
        rw [hw, ← e5, ← e6]
        iintro ⟨⟨HO, Hc, Hs, Hb, Hf4⟩, Hxb, H3, H5, H6, H4⟩
        iapply (wp_wand_r frame (wpE (defs₀ (F := F)) 𝒱₀ (c : Thread nD τ) none) Set.univ)
        isplitr [HO Hc Hs Hb]
        · iapply (group_last c t arg3 harg3 arg4 harg4 (part3Val t).1 (BitVec.ofNat 32 (t.val / 8))
            (fun e => by have := (group_zero ⟨t.val / 8, by omega⟩).mp e; simp only at this; omega) ((group_pos ⟨t.val / 8, by omega⟩).mpr (by simp only; omega))
            ((cond7_eq t).mpr h63) f2 (rowsPut c XW t f4) f5 f6 g3 g4)
          isplitl [Hxb]; · iexact Hxb
          isplitl [Hf4]; · iexact Hf4
          isplitl [H3]; · iexact H3
          isplitl [H5]; · iexact H5
          isplitl [H6]; · iexact H6
          iexact H4
        iintro %_ HQ
        isplitl [HQ]; · iexact HQ
        isplitl [HO]; · iexact HO
        isplitl [Hc]; · iexact Hc
        isplitl [Hs]; · iexact Hs
        iexact Hb)
      hs h7)
    isplitl [HO Hf Hf4]
    · isplitr; · iexact HM
      isplitl [HO]; · iexact HO
      isplitl [Hf]; · iexact Hf
      iexact Hf4
    isplitl [Hxb]; · iexact Hxb
    isplitl [H3]; · iexact H3
    isplitl [H5]; · iexact H5
    isplitl [H6]; · iexact H6
    iexact H4
  iintro %_ ⟨⟨Hxb, Hf4, H3, ⟨%r5, %h5, H5⟩, ⟨%r6, %h6, H6⟩, ⟨%r4, %h4', H4⟩⟩, HO, Hc, Hs, Hb⟩
  isplitr [HO H3 H4]
  swap
  · isplitl [HO]; · iapply (owesMore_one c O W); iexact HO
    isplitl [H3]; · iexact H3
    iexists r4; isplitr; · ipureintro; rw [h4', h63]
    iexact H4
  isplitl [Hc Hs Hb Hk]
  · iapply (give_tail c XW t.val (by omega) hlt)
    isplitl [Hc]; · iexact Hc
    isplitl [Hs]; · iexact Hs
    isplitl [Hb]; · iexact Hb
    iexact Hk
  isplitl [Hxc Hxb Hxm]
  · isplitl [Hxc]; · iexact Hxc
    isplitl [Hxb]
    · iexists f2; isplitr; · ipureintro; exact h2
      iexact Hxb
    iexact Hxm
  isplitl [Hf4]
  · iexists _; isplitr; swap; · iexact Hf4
    ipureintro; exact rowsPut_next c XW t f4 h4
  iexists r5; iexists r6
  isplitr; · ipureintro; intro _; rw [show (t.val + 1) / 8 - 1 = t.val / 8 by omega]; exact ⟨h5, h6⟩
  isplitl [H5]; · iexact H5
  iexact H6

end Steps

end Cert.Proof.Whole

end
-- ==== Proof.WholeColumns.lean ====
/-
  THE SECOND CALL AS A PIPELINE: its data (what it reads, what every point leaves in its windows' buffers, its loop's state)
  and the body's obligation, by the points' steps.
-/
module

public import proofs.«01_k».proof.Proof.WholeSteps

@[expose] public section

set_option maxRecDepth 16384

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-! ## The proof data -/

/-- Window `w`'s block at point `t`, read off the array's contents at entry. -/
def blk1 (A : Valuation τ sig (Elt F)) (w : Fin cfg1.W) (t : Fin cfg1.N) : ((cfg1.win w).xblock (cfg1.grid.coords t)).Idx → Elt F (cfg1.win w).elt :=
  ((cfg1.win w).blk t).view.read (Elt F) (A (dv (Pipeline.arrRef spec1 w)))

/-- The weights and the normalised `x` at entry; a point's block of ages. -/
abbrev wAt (A : Valuation τ sig (Elt F)) (c : Dev nD) : Buf (Elt F) (wM.view.loc (c : Thread nD τ)) := A (dv main_v1)
abbrev xAt (A : Valuation τ sig (Elt F)) (c : Dev nD) : Buf (Elt F) (xM.view.loc (c : Thread nD τ)) := A (dv main_v2)
def ageAt (A : Valuation τ sig (Elt F)) (t : Fin grid1.N) : FVec F S1x1x128 .f32 := blk1 A 0 t

/-- The columns of the greatest scores. -/
def columnsAt (A : Valuation τ sig (Elt F)) (c : Dev nD) : Vec F S256x1 .i32 := runIdx c (wAt A c) (xVal c (xAt A c)) (ageAt A) 7

/-- The staging buffers of the first call, which this one does not touch. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

def Φ1 (A : Valuation τ sig (Elt F)) (c : Dev nD) (n : ℕ) : sProp 𝕄 :=
  iprop(Transfers.MayWaits (c : Thread nD τ) (none : HIx 1) (owedTc (F := F) c) ∗ stateS c (wAt A c) (xAt A c) (ageAt A) n ∗ rest1 c)

def dat1 (A : Valuation τ sig (Elt F)) (c : Dev nD) : Dat τ (Elt F) (HIx 1) ℕ UU ℕ cfg1 c where
  A w := A (dv (Pipeline.arrRef spec1 w))
  after w t := match w with
    | ⟨0, _⟩ => blk1 A 0 t
    | ⟨1, _⟩ => columnsAt A c
  Φ t := Φ1 A c t.val
  q _ := fullShare
  owed _ := owedTc (F := F) c
  recorded _ := lowWaits (F := F) c

theorem after1_in (A : Valuation τ sig (Elt F)) (c : Dev nD) (t : Fin cfg1.N) : (dat1 A c).after 0 t = blk1 A 0 t := by dsimp only [dat1]
theorem after1_out (A : Valuation τ sig (Elt F)) (c : Dev nD) (t : Fin cfg1.N) : (dat1 A c).after 1 t = columnsAt A c := by dsimp only [dat1]
theorem before1_in (A : Valuation τ sig (Elt F)) (c : Dev nD) (t : Fin cfg1.N) (d) : (dat1 A c).before 0 t d = blk1 A 0 t := by
  rw [Dat.before_in_eq_fetched (dat1 A c) 0 rfl (fun _ => rfl) (fun _ _ _ => rfl) (fun t => ?_) t d]
  · unfold Dat.fetched Dat.blockOf blk1; dsimp only [dat1]; rfl
  · rw [after1_in]; unfold Dat.blockOf blk1; dsimp only [dat1]

/-! ## The body obligation -/

theorem idle1_out : ∀ t : Fin grid1.N, idle1 1 (grid1.coords t) = true ↔ t.val ≠ 63 := by decide +kernel

theorem leaves_in (A : Valuation τ sig (Elt F)) (c : Dev nD) (t : Fin cfg1.N) :
    (dat1 A c).leavesExact 0 t = owns (c : Thread nD τ) (st1_0 t) fullShare (blk1 A 0 t) := rfl
theorem leaves_idle (A : Valuation τ sig (Elt F)) (c : Dev nD) (t : Fin cfg1.N) (h : t.val ≠ 63) :
    (dat1 A c).leavesExact 1 t = iprop(∃ d, owns (c : Thread nD τ) (st1_1 t) fullShare ((dat1 A c).before 1 t d)) :=
  (dat1 A c).leavesExact_idle 1 t ((idle1_out t).mpr h) (by
    have hlt : t.val < 64 := t.isLt
    rw [← Bool.not_eq_true, flush1_1]; omega)
theorem leaves_out (A : Valuation τ sig (Elt F)) (c : Dev nD) (t : Fin cfg1.N) (h : t.val = 63) :
    (dat1 A c).leavesExact 1 t = owns (c : Thread nD τ) (st1_1 t) fullShare (columnsAt A c) := by
  have hi : cfg1.idle 1 (cfg1.grid.coords t) = false := by
    rw [← Bool.not_eq_true]; exact fun e => (idle1_out t).mp e h
  unfold Dat.leavesExact; rw [hi]; rfl

theorem defs1_tc : (defs₀ (F := F)) .tc cfg1.body
    = fun a => bodyG a.1 (win1_0.stage (a.2 0)) (hstage1_0 ((a.2 0).cast nbuf1_0)) (win1_1.stage (a.2 1)) (hstage1_1 ((a.2 1).cast nbuf1_1)) := rfl
theorem prog1_eq (t : Fin cfg1.N) : (defs₀ (F := F)) .tc cfg1.body (cfg1.bodyArgs t (cfg1.slots t))
    = bodyG t (st1_0 t) (hstage1_0 ((cfg1.slots t 0).cast nbuf1_0)) (st1_1 t) (hstage1_1 ((cfg1.slots t 1).cast nbuf1_1)) := (congrFun defs1_tc _).trans rfl

theorem owes_back (A : Valuation τ sig (Elt F)) (c : Dev nD) (t t' : Fin (cfg1.N + 1)) (W : Finset (SemLoc sig × HIx 1)) (hW : ↑W ⊆ (dat1 A c).bound none t) :
    (owesMore (F := F) c (owedTc (F := F) c) W : sProp 𝕄) ⊢ (dat1 A c).owesAt none t' := by
  unfold owesMore Dat.owesAt Pipeline.owesWithin
  iintro ⟨%W', %h, HO⟩
  iexists W'; isplitr
  · ipureintro
    intro p hp
    rcases h p hp with hp' | hp'
    · exact hW hp'
    · refine .inl ?_
      show (K (F := F)).lev (T c, p.1) p.2 ≤ 0
      rw [hp']; exact le_of_eq rfl
  iexact HO

section Pts
variable (A : Valuation τ sig (Elt F)) (c : Dev nD) (t : Fin cfg1.N) (g3 : Buf (Elt F) ((st1_0 t).view.loc (c : Thread nD τ)))
  (O : CellTallies nD τ sig (HIx 1)) (W : Finset (SemLoc sig × HIx 1))

/-- A point but the last, whichever it is. -/
theorem step_idle (h63 : t.val ≠ 63) (hg3 : (st1_0 t).view.read (Elt F) g3 = ageAt A t) :
    iprop(Transfers.MayWaits (c : Thread nD τ) (none : HIx 1) O ∗ owes (c : Thread nD τ) O W ∗ stateS c (wAt A c) (xAt A c) (ageAt A) t.val
        ∗ (st1_0 t).view.loc (c : Thread nD τ) ↦[(st1_0 t).view.set]{fullShare} g3)
      ⊢ wp frame (wpE (defs₀ (F := F)) 𝒱₀ (c : Thread nD τ) none) Set.univ
        (bodyG t (st1_0 t) (hstage1_0 ((cfg1.slots t 0).cast nbuf1_0)) (st1_1 t) (hstage1_1 ((cfg1.slots t 1).cast nbuf1_1)))
        (fun _ => iprop(stateS c (wAt A c) (xAt A c) (ageAt A) (t.val + 1) ∗ owesMore c O W ∗ (st1_0 t).view.loc (c : Thread nD τ) ↦[(st1_0 t).view.set]{fullShare} g3)) := by
  have hlt : t.val < 64 := t.isLt
  have plain (h : iprop(Transfers.MayWaits (c : Thread nD τ) (none : HIx 1) O ∗ owes (c : Thread nD τ) O W ∗ stateS c (wAt A c) (xAt A c) (ageAt A) t.val)
      ⊢ wp frame (wpE (defs₀ (F := F)) 𝒱₀ (c : Thread nD τ) none) Set.univ
        (bodyG t (st1_0 t) (hstage1_0 ((cfg1.slots t 0).cast nbuf1_0)) (st1_1 t) (hstage1_1 ((cfg1.slots t 1).cast nbuf1_1)))
        (fun _ => iprop(stateS c (wAt A c) (xAt A c) (ageAt A) (t.val + 1) ∗ owesMore c O W))) :
      iprop(Transfers.MayWaits (c : Thread nD τ) (none : HIx 1) O ∗ owes (c : Thread nD τ) O W ∗ stateS c (wAt A c) (xAt A c) (ageAt A) t.val
        ∗ (st1_0 t).view.loc (c : Thread nD τ) ↦[(st1_0 t).view.set]{fullShare} g3)
      ⊢ wp frame (wpE (defs₀ (F := F)) 𝒱₀ (c : Thread nD τ) none) Set.univ
        (bodyG t (st1_0 t) (hstage1_0 ((cfg1.slots t 0).cast nbuf1_0)) (st1_1 t) (hstage1_1 ((cfg1.slots t 1).cast nbuf1_1)))
        (fun _ => iprop(stateS c (wAt A c) (xAt A c) (ageAt A) (t.val + 1) ∗ owesMore c O W ∗ (st1_0 t).view.loc (c : Thread nD τ) ↦[(st1_0 t).view.set]{fullShare} g3)) := by
    iintro ⟨HM, HO, HS, H3⟩
    iapply (wp_wand_r frame (wpE (defs₀ (F := F)) 𝒱₀ (c : Thread nD τ) none) Set.univ)
    isplitl [HM HO HS]
    · iapply h
      isplitl [HM]; · iexact HM
      isplitl [HO]; · iexact HO
      iexact HS
    iintro %_ ⟨HS, HO⟩
    isplitl [HS]; · iexact HS
    isplitl [HO]; · iexact HO
    iexact H3
  by_cases h0 : t.val = 0
  · obtain rfl : t = p0 := Fin.ext h0
    exact plain (step_zero c _ _ _ _ _ _ _ O W)
  by_cases hg : t.val % 8 = 7
  · by_cases h7 : t.val = 7
    · exact step_first c _ _ _ t _ _ _ _ g3 O W h7 hg3
    · exact step_next c _ _ _ t _ _ _ _ g3 O W hg (by omega) (by omega) hg3
  by_cases hs : t.val + 5 < 64
  · exact plain (step_mid c _ _ _ t _ _ _ _ O W h0 hs hg)
  · exact plain (step_tail c _ _ _ t _ _ _ _ O W hs hg)

end Pts

set_option backward.isDefEq.respectTransparency.types false in
theorem body_obligation1 (A : Valuation τ sig (Elt F)) (c : Dev nD) :
    BodyObligation (dat1 (F := F) A c) (defs₀ (F := F)) 𝒱₀ (none : HIx 1) Set.univ := fun t => by
  rw [bigSep_W1, bigSep_W1]
  dsimp only
  show _ ⊢ wp _ _ _ _ fun _ => iprop((dat1 A c).Φ t.succ ∗ (dat1 A c).owesAt none t.succ ∗ (dat1 A c).leavesExact 0 t ∗ (dat1 A c).leavesExact 1 t)
  rw [prog1_eq t, leaves_in]
  simp only [before1_in]
  rw [show (dat1 A c).Φ t.castSucc = Φ1 A c t.val from rfl, show (dat1 A c).Φ t.succ = Φ1 A c (t.val + 1) from rfl]
  unfold Φ1
  by_cases h63 : t.val = 63
  · rw [leaves_out A c t h63]
    unfold owns
    iintro ⟨⟨#HM, HS, HR⟩, ⟨%W, %hW, HO⟩, ⟨%d0, %g3, %hg3, H3⟩, ⟨%d1, %g4, -, H4⟩⟩
    iapply (wp_wand_r frame (wpE (defs₀ (F := F)) 𝒱₀ (c : Thread nD τ) none) Set.univ)
    isplitr [HR]
    · iapply (step_last c (wAt A c) (xAt A c) (ageAt A) t (st1_0 t) (hstage1_0 ((cfg1.slots t 0).cast nbuf1_0)) (st1_1 t) (hstage1_1 ((cfg1.slots t 1).cast nbuf1_1)) g3 (owedTc (F := F) c) W h63 hg3 g4)
      isplitr; · iexact HM
      isplitl [HO]; · iexact HO
      isplitl [HS]; · iexact HS
      isplitl [H3]; · iexact H3
      iexact H4
    iintro %_ ⟨HS, HO, H3, ⟨%g, %hg, H4⟩⟩
    isplitl [HS HR]
    · isplitr; · iexact HM
      isplitl [HS]; · iexact HS
      iexact HR
    isplitl [HO]; · iapply (owes_back A c t.castSucc t.succ W hW); iexact HO
    isplitl [H3]
    · iexists g3; isplitr; · ipureintro; exact hg3
      iexact H3
    iexists g; isplitr; · ipureintro; exact hg
    iexact H4
  · rw [leaves_idle A c t h63]
    unfold owns
    iintro ⟨⟨#HM, HS, HR⟩, ⟨%W, %hW, HO⟩, ⟨%d0, %g3, %hg3, H3⟩, H4⟩
    iapply (wp_wand_r frame (wpE (defs₀ (F := F)) 𝒱₀ (c : Thread nD τ) none) Set.univ)
    isplitr [HR H4]
    · iapply (step_idle A c t g3 (owedTc (F := F) c) W h63 hg3)
      isplitr; · iexact HM
      isplitl [HO]; · iexact HO
      isplitl [HS]; · iexact HS
      iexact H3
    iintro %_ ⟨HS, HO, H3⟩
    isplitl [HS HR]
    · isplitr; · iexact HM
      isplitl [HS]; · iexact HS
      iexact HR
    isplitl [HO]; · iapply (owes_back A c t.castSucc t.succ W hW); iexact HO
    isplitl [H3]
    · iexists g3; isplitr; · ipureintro; exact hg3
      iexact H3
    iexact H4

end Cert.Proof.Whole

end
-- ==== Proof.WholeRegions.lean ====
/-
  THE TWO TENSORCORE CALLS AS REGIONS OF @main: what each is entered from and what it leaves. The first takes the array of
  `x`'s rows and leaves their normalised array; the second takes the weights, the normalised rows and the ages, cuts the
  weights into their 64 blocks and the ring into its six slots, and at the end puts them together again.
-/
module

public import proofs.«01_k».proof.Proof.WholeColumns
public import Idealize.ShloMosaic.Lib.Pipeline.RegionArrays

@[expose] public section

set_option maxRecDepth 16384

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation ucRefs arrRefs)
open Idealize.ShloMosaic.StableHlo (held)

variable {F : FTy → Type} [FloatOps F]

local notation "𝕄" => MT nD τ sig (HIx 1) (Elt F) ℕ UU ℕ

/-- Neither call has a table fetched before it. -/
abbrev adm (p : Fin 2) : (pcfgs (F := F) p).Adm := (cfgs p).toPCfg_adm

/-- Both calls' proof data, at what device `c`'s arrays hold when each is entered. -/
def pdats (A0 A1 : Dev nD → Valuation τ sig (Elt F)) : (p : Fin 2) → (c : Dev nD) →
    Dat τ (Elt F) (HIx 1) ℕ UU ℕ (Pipeline.pin (pcfgs (F := F)) adm p) c
  | 0 => fun c => dat0 (A0 c) c
  | 1 => fun c => dat1 (A1 c) c

/-! ## What the TensorCore owes -/

/-- What it owes, with no wait on record above the lowest level. -/
def OW (c : Dev nD) : sProp 𝕄 := iprop(∃ W, ⌜(K (F := F)).WBelow (T c) W 0⌝ ∗ owes (T c) (owedTc (F := F) c) W)

theorem owedTc_none (c : Dev nD) (g : GSem nD τ sig) : owedTc (F := F) c g none = 0 := by
  unfold owedTc SparseCore.Cfg.Otc
  have add : ∀ O O' : CellTallies nD τ sig (HIx 1), O g none = 0 → O' g none = 0 → (O + O') g none = 0 := fun O O' h h' => by
    show O g none + O' g none = 0; rw [h, h']
  refine Finset.sum_induction _ (fun O : CellTallies nD τ sig (HIx 1) => O g none = 0) add rfl fun q _ => ?_
  dsimp only
  split
  · refine Finset.sum_induction _ (fun O : CellTallies nD τ sig (HIx 1) => O g none = 0) add rfl fun k _ => ?_
    rw [tallyAt_apply, if_neg fun h => nomatch h.2]
  · rfl

/-- It may wait on any semaphore's lowest index meanwhile. -/
theorem may_all (c : Dev nD) : (levAts (K (F := F)).L (K (F := F)).lev : sProp 𝕄) ⊢ Transfers.MayWaits (c : Thread nD τ) (none : HIx 1) (owedTc (F := F) c) :=
  (K (F := F)).mayWaits_none (owedTc_none c)

variable (A0 A1 : Dev nD → Valuation τ sig (Elt F))

theorem OW_in0 (A : Valuation τ sig (Elt F)) (c : Dev nD) : (OW c : sProp 𝕄) ⊢ (dat0 A c).owesAt none 0 := by
  unfold OW Dat.owesAt Pipeline.owesWithin
  iintro ⟨%W, %h, HO⟩
  iexists W; isplitr
  · ipureintro; exact fun p hp => .inl (h p hp)
  iexact HO
theorem OW_in1 (A : Valuation τ sig (Elt F)) (c : Dev nD) : (OW c : sProp 𝕄) ⊢ (dat1 A c).owesAt none 0 := by
  unfold OW Dat.owesAt Pipeline.owesWithin
  iintro ⟨%W, %h, HO⟩
  iexists W; isplitr
  · ipureintro; exact fun p hp => .inl (h p hp)
  iexact HO
theorem OW_out0 (A : Valuation τ sig (Elt F)) (c : Dev nD) : (dat0 A c).owesAt none (Fin.last _) ⊢ (OW c : sProp 𝕄) := by
  unfold OW Dat.owesAt Pipeline.owesWithin
  iintro ⟨%W, %h, HO⟩
  iexists W; isplitr
  · ipureintro
    intro p hp
    rcases h hp with hp' | ⟨w, s, rfl⟩
    · exact hp'
    · exact le_of_eq rfl
  iexact HO
theorem OW_out1 (A : Valuation τ sig (Elt F)) (c : Dev nD) : (dat1 A c).owesAt none (Fin.last _) ⊢ (OW c : sProp 𝕄) := by
  unfold OW Dat.owesAt Pipeline.owesWithin
  iintro ⟨%W, %h, HO⟩
  iexists W; isplitr
  · ipureintro
    intro p hp
    rcases h hp with hp' | ⟨w, s, rfl⟩
    · exact hp'
    · exact le_of_eq rfl
  iexact HO

/-! ## The first call -/

/-- What device `c`'s arrays hold after the first call; -/
def left0 (A : Valuation τ sig (Elt F)) (c : Dev nD) : Valuation τ sig (Elt F) := Function.update A (dv main_v2) ((dat0 A c).arrAt 1 cfg0.N)
/-- after the second. -/
def left1 (A : Valuation τ sig (Elt F)) (c : Dev nD) : Valuation τ sig (Elt F) := Function.update A (dv main_v4) ((dat1 A c).arrAt 1 cfg1.N)

theorem arrays0 (A W : Valuation τ sig (Elt F)) (c : Dev nD) (G) (hG : ∀ w, G w = W (dv (Pipeline.arrRef spec0 w))) :
    ((dat0 A c).arrays G : sProp 𝕄) = held (c.tc : Thread nD τ) (arrRefs spec0) W :=
  Pipeline.arrays_held (pcfgs (F := F)) adm (pdats (fun _ => A) (fun _ => A)) 0 launch0.toP c (fun w => by unfold Dat.share; split <;> rfl) G W hG
theorem arrays1 (A W : Valuation τ sig (Elt F)) (c : Dev nD) (G) (hG : ∀ w, G w = W (dv (Pipeline.arrRef spec1 w))) :
    ((dat1 A c).arrays G : sProp 𝕄) = held (c.tc : Thread nD τ) (arrRefs spec1) W :=
  Pipeline.arrays_held (pcfgs (F := F)) adm (pdats (fun _ => A) (fun _ => A)) 1 launch1.toP c (fun w => by unfold Dat.share; split <;> rfl) G W hG

theorem left0_self (A : Valuation τ sig (Elt F)) (c : Dev nD) : left0 A c (dv main_v2) = (dat0 A c).arrAt 1 cfg0.N := by
  unfold left0; exact Function.update_self _ _ _
theorem left0_rest (A : Valuation τ sig (Elt F)) (c : Dev nD) (b : DevRef τ sig) (h : b ≠ dv main_v2) : left0 A c b = A b := by
  unfold left0; exact Function.update_of_ne h _ _
theorem left1_self (A : Valuation τ sig (Elt F)) (c : Dev nD) : left1 A c (dv main_v4) = (dat1 A c).arrAt 1 cfg1.N := by
  unfold left1; exact Function.update_self _ _ _
theorem left1_rest (A : Valuation τ sig (Elt F)) (c : Dev nD) (b : DevRef τ sig) (h : b ≠ dv main_v4) : left1 A c b = A b := by
  unfold left1; exact Function.update_of_ne h _ _
theorem left0_at (A : Valuation τ sig (Elt F)) (c : Dev nD) (w : Fin cfg0.W) : (dat0 A c).arrAt w cfg0.N = left0 A c (dv (Pipeline.arrRef spec0 w)) := by
  match w with
  | ⟨0, _⟩ => exact (Dat.arrAt_in (dat0 A c) 0 rfl _).trans (left0_rest A c (dv main_v0) (by decide)).symm
  | ⟨1, _⟩ => exact (left0_self A c).symm
theorem left1_at (A : Valuation τ sig (Elt F)) (c : Dev nD) (w : Fin cfg1.W) : (dat1 A c).arrAt w cfg1.N = left1 A c (dv (Pipeline.arrRef spec1 w)) := by
  match w with
  | ⟨0, _⟩ => exact (Dat.arrAt_in (dat1 A c) 0 rfl _).trans (left1_rest A c (dv main_v3) (by decide)).symm
  | ⟨1, _⟩ => exact (left1_self A c).symm

theorem enter0 (A : Valuation τ sig (Elt F)) (c : Dev nD) : ((dat0 A c).arrays ((dat0 A c).arrAt · 0) : sProp 𝕄) = held (c.tc : Thread nD τ) (arrRefs spec0) A :=
  arrays0 A A c _ fun w => rfl
theorem leave0 (A : Valuation τ sig (Elt F)) (c : Dev nD) : ((dat0 A c).arrays ((dat0 A c).arrAt · cfg0.N) : sProp 𝕄) = held (c.tc : Thread nD τ) (arrRefs spec0) (left0 A c) :=
  arrays0 A (left0 A c) c _ (left0_at A c)
theorem enter1 (A : Valuation τ sig (Elt F)) (c : Dev nD) : ((dat1 A c).arrays ((dat1 A c).arrAt · 0) : sProp 𝕄) = held (c.tc : Thread nD τ) (arrRefs spec1) A :=
  arrays1 A A c _ fun w => rfl
theorem leave1 (A : Valuation τ sig (Elt F)) (c : Dev nD) : ((dat1 A c).arrays ((dat1 A c).arrAt · cfg1.N) : sProp 𝕄) = held (c.tc : Thread nD τ) (arrRefs spec1) (left1 A c) :=
  arrays1 A (left1 A c) c _ (left1_at A c)

/-- The first call as a region: its two arrays, and what the TensorCore owes. -/
def region0 : Pipeline.RegionSeg (pcfgs (F := F)) adm (pdats A0 A1) (none : HIx 1) (defs₀ (F := F)) 𝒱₀ (K (F := F)).L (K (F := F)).lev 0 where
  win := winFacts0.to₀
  block_pos := block_pos0
  stage_whole := stage_whole0
  K := PEmpty
  osem k := k.elim
  ho := Pipeline.OwnSemFacts.none _
  hbody c := (body_obligation0 (A0 c) c).loose
  hwaits c := Pipeline.cellsWaits_intro (Pipeline.pin (pcfgs (F := F)) adm) (pdats A0 A1) none 0 c fun w s t => (K (F := F)).mayWait_none _ (owedTc_none c)
  pre c := iprop(held (c.tc : Thread nD τ) (arrRefs spec0) (A0 c) ∗ OW c)
  post c := iprop(held (c.tc : Thread nD τ) (arrRefs spec0) (left0 (A0 c) c) ∗ OW c)
  X _ := iprop(emp)
  Y _ := iprop(emp)
  Z _ := iprop(emp)
  hentry c := by
    rw [Pipeline.prefHeld_of_none _ rfl]
    iintro ⟨⟨Ha, HO⟩, -, -⟩
    imodintro
    isplitl [Ha]; · iapply (Entails.of_eq (enter0 (A0 c) c).symm); iexact Ha
    isplitr; · iempintro
    isplitl [HO]; · iapply (OW_in0 (A0 c) c); iexact HO
    isplitr <;> iempintro
  hin c := by
    show _ ⊢ Φ0 c
    unfold Φ0
    iintro ⟨-, -, Hr⟩
    iexact Hr
  hout c := by
    rw [Pipeline.ownSems0_none]
    show Φ0 c ⊢ _
    unfold Φ0
    iintro Hr
    isplitr; · iempintro
    isplitr; · iempintro
    iexact Hr
  hexit c := by
    iintro ⟨Ha, HO, -, -⟩
    imodintro
    isplitl [Ha]; · iapply (Entails.of_eq (leave0 (A0 c) c)); iexact Ha
    iapply (OW_out0 (A0 c) c); iexact HO

/-! ## The weights block by block, the ring slot by slot -/

/-- Block `b`'s elements: those at leading index `b`; slot `s`'s likewise. -/
def blkSet (b : Fin 64) : Finset S64x16x50176.Idx := (Rect.unit (s := S64x16x50176) (blkOff b) S1x16x50176.size (blkOff_inb b)).set
def slotSet (s : Fin 6) : Finset S6x16x50176.Idx := (Rect.unit (s := S6x16x50176) (slotOff s) S1x16x50176.size (slotOff_inb s)).set

theorem wBlk_set (b : Fin 64) : (wBlk b).view.set = blkSet b := by unfold wBlk; exact (View.set_reshape _ _).trans (View.set_slice_whole _ _)
theorem slotM_set (s : Fin 6) : (slotM s).view.set = slotSet s := by unfold slotM; exact (View.set_reshape _ _).trans (View.set_slice_whole _ _)

theorem mem_blkSet (b : Fin 64) (y : S64x16x50176.Idx) : y ∈ blkSet b ↔ (y 0).val = b.val := by
  unfold blkSet
  rw [Rect.mem_set_unit]
  have h1 : (y 1).val < 16 := (y 1).isLt
  have h2 : (y 2).val < 50176 := (y 2).isLt
  constructor
  · intro H; have a0 : b.val ≤ (y 0).val ∧ (y 0).val < b.val + 1 := H 0; omega
  · intro H a
    match a with
    | 0 => show b.val ≤ (y 0).val ∧ (y 0).val < b.val + 1; omega
    | 1 => show 0 ≤ (y 1).val ∧ (y 1).val < 0 + 16; omega
    | 2 => show 0 ≤ (y 2).val ∧ (y 2).val < 0 + 50176; omega
theorem mem_slotSet (s : Fin 6) (y : S6x16x50176.Idx) : y ∈ slotSet s ↔ (y 0).val = s.val := by
  unfold slotSet
  rw [Rect.mem_set_unit]
  have h1 : (y 1).val < 16 := (y 1).isLt
  have h2 : (y 2).val < 50176 := (y 2).isLt
  constructor
  · intro H; have a0 : s.val ≤ (y 0).val ∧ (y 0).val < s.val + 1 := H 0; omega
  · intro H a
    match a with
    | 0 => show s.val ≤ (y 0).val ∧ (y 0).val < s.val + 1; omega
    | 1 => show 0 ≤ (y 1).val ∧ (y 1).val < 0 + 16; omega
    | 2 => show 0 ≤ (y 2).val ∧ (y 2).val < 0 + 50176; omega

theorem blkSet_disjoint : ∀ b b' : Fin 64, b ≠ b' → Disjoint (blkSet b) (blkSet b') := fun b b' hne => by
  rw [Finset.disjoint_left]; intro y hy hy'; rw [mem_blkSet] at hy hy'; exact hne (Fin.ext (by omega))
theorem slotSet_disjoint : ∀ s s' : Fin 6, s ≠ s' → Disjoint (slotSet s) (slotSet s') := fun s s' hne => by
  rw [Finset.disjoint_left]; intro y hy hy'; rw [mem_slotSet] at hy hy'; exact hne (Fin.ext (by omega))
theorem blkSet_cover : Finset.univ.biUnion blkSet = Finset.univ := by
  refine Finset.eq_univ_of_forall fun y => ?_
  rw [Finset.mem_biUnion]; exact ⟨(y 0).cast rfl, Finset.mem_univ _, (mem_blkSet _ _).mpr rfl⟩
theorem slotSet_cover : Finset.univ.biUnion slotSet = Finset.univ := by
  refine Finset.eq_univ_of_forall fun y => ?_
  rw [Finset.mem_biUnion]; exact ⟨(y 0).cast rfl, Finset.mem_univ _, (mem_slotSet _ _).mpr rfl⟩

/-- The weights held whole are their blocks at home. -/
theorem weights_blocks (c : Dev nD) (f : Buf (Elt F) (wM.view.loc (c : Thread nD τ))) :
    ((wM.view.loc (c : Thread nD τ)) ↦{fullShare} f : sProp 𝕄) = bigSep Finset.univ (homeP c f) := by
  refine (Ring.pointsTo_blocks (ℓ := wM.view.loc (c : Thread nD τ)) blkSet blkSet_disjoint blkSet_cover f).trans (bigSep_congr fun b _ => ?_)
  show ((wM.view.loc (c : Thread nD τ)) ↦[blkSet b]{fullShare} f : sProp 𝕄) = _
  rw [← wBlk_set]; rfl

theorem slot_any (c : Dev nD) (s : Fin 6) :
    (iprop(∃ f, slotP c s f) : sProp 𝕄) = iprop(∃ f : Buf (Elt F) (ringM.view.loc (c : Thread nD τ)), (ringM.view.loc (c : Thread nD τ)) ↦[slotSet s]{fullShare} f) := by
  rw [← slotM_set]; rfl

/-- The ring held whole at any contents is its slots, each at any contents; -/
theorem ring_slots (c : Dev nD) (f : Buf (Elt F) (ringM.view.loc (c : Thread nD τ))) :
    ((ringM.view.loc (c : Thread nD τ)) ↦{fullShare} f : sProp 𝕄) ⊢ bigSep Finset.univ fun s => iprop(∃ f, slotP c s f) := by
  refine (Entails.of_eq (Ring.pointsTo_blocks (ℓ := ringM.view.loc (c : Thread nD τ)) slotSet slotSet_disjoint slotSet_cover f)).trans (BI.bigSep_mono fun s _ => ?_)
  rw [slot_any]
  have h : ((ringM.view.loc (c : Thread nD τ)) ↦[slotSet s]{fullShare} f : sProp 𝕄)
      ⊢ iprop(∃ f : Buf (Elt F) (ringM.view.loc (c : Thread nD τ)), (ringM.view.loc (c : Thread nD τ)) ↦[slotSet s]{fullShare} f) := by
    iintro H; iexists f; iexact H
  exact h
/-- and back. -/
theorem slots_ring (c : Dev nD) :
    (bigSep Finset.univ fun s => iprop(∃ f, slotP c s f)) ⊢ (iprop(∃ f : Buf (Elt F) (ringM.view.loc (c : Thread nD τ)), (ringM.view.loc (c : Thread nD τ)) ↦{fullShare} f) : sProp 𝕄) := by
  have f₀ : Buf (Elt F) (ringM.view.loc (c : Thread nD τ)) := (constant S6x16x50176 .f32 0x00000000#32 : FVec F S6x16x50176 .f32)
  rw [bigSep_congr fun s _ => slot_any c s]
  exact Ring.pointsTo_blocks_join_exists (ℓ := ringM.view.loc (c : Thread nD τ)) slotSet slotSet_disjoint slotSet_cover f₀

/-! ## The second call's semaphores, and its state at either end -/

/-- The second call's own semaphores: a slot's each, and `x`'s copy's. -/
def osem1 : Fin 6 ⊕ Unit → SemLoc sig
  | .inl s => .dma (slotSem s).sem
  | .inr _ => .dma cc1_scratch3.sem

theorem own1 (c : Dev nD) : (Pipeline.ownSems0 osem1 c : sProp 𝕄)
    = iprop((bigSep Finset.univ (cellP c)) ∗ semVal ((c : Thread nD τ), SemLoc.dma cc1_scratch3.sem) 0) := by
  unfold Pipeline.ownSems0
  rw [bigSep_univ_sum, bigSep_univ_of_subsingleton ()]
  rfl

/-- The two arrays the call copies from. -/
def copied : Finset (DevRef τ sig) := {dv main_v1, dv main_v2}

theorem held_copied (c : Dev nD) (A : Valuation τ sig (Elt F)) : (held (c.tc : Thread nD τ) copied A : sProp 𝕄)
    = iprop(((wM.view.loc (c : Thread nD τ)) ↦{fullShare} wAt A c) ∗ (xM.view.loc (c : Thread nD τ)) ↦{fullShare} xAt A c) := by
  unfold held copied
  rw [SparseCore.bigSep_insert' (by decide), bigSep_singleton]

theorem x_whole (c : Dev nD) (f : Buf (Elt F) (xM.view.loc (c : Thread nD τ))) :
    ((xM.view.loc (c : Thread nD τ)) ↦{fullShare} f : sProp 𝕄) = (xM.view.loc (c : Thread nD τ)) ↦[xM.view.set]{fullShare} f := by
  rw [View.set_whole]

theorem free_split (c : Dev nD) : (bigSep Finset.univ (Ring.free (cellP c) (slotP c)) : sProp 𝕄)
    = iprop((bigSep Finset.univ (cellP c)) ∗ (bigSep Finset.univ fun s => iprop(∃ f, slotP c s f))) := bigSep_sep' _ _ _

theorem ownSems1 : Pipeline.OwnSemFacts spec1 osem1 := by decide

/-- What the call is entered with is its state before the first point; -/
theorem enter_state (A : Valuation τ sig (Elt F)) (c : Dev nD) :
    (iprop((Transfers.MayWaits (c : Thread nD τ) (none : HIx 1) (owedTc (F := F) c) ∗ held (c.tc : Thread nD τ) copied A ∗ Pipeline.ownSems0 osem1 c) ∗ Pipeline.scopedRest spec1 c) : sProp 𝕄)
      ⊢ Φ1 A c 0 := by
  rw [held_copied, own1, scopedRest1_eq, weights_blocks, x_whole]
  unfold Φ1 stateS
  rw [ringS_zero, xS_zero]
  unfold xNew rowsS runS rest1 ringNew Ring.At₀
  rw [free_split]
  iintro ⟨⟨HM, ⟨HW, HX⟩, HC, Hx⟩, H0, H1, H2, H3, ⟨%fr, Hr⟩, H5, ⟨%f4, H6⟩, ⟨%f5, H7⟩, ⟨%f6, H8⟩⟩
  isplitl [HM]; · iexact HM
  isplitr [H0 H1 H2 H3]
  · isplitl [HW HC Hr]
    · isplitl [HW]; · iexact HW
      isplitl [HC]; · iexact HC
      iapply (ring_slots c fr); iexact Hr
    isplitl [Hx H5 HX]
    · isplitl [Hx]; · iexact Hx
      isplitl [H5]; · iexact H5
      iexact HX
    isplitl [H6]
    · iexists f4; isplitr
      · ipureintro; exact fun y hy => absurd hy (Nat.not_lt_zero _)
      iexact H6
    iexists f5; iexists f6; isplitr
    · ipureintro; exact fun h => absurd h (by decide)
    isplitl [H7]; · iexact H7
    iexact H8
  isplitl [H0]; · iexact H0
  isplitl [H1]; · iexact H1
  isplitl [H2]; · iexact H2
  iexact H3

/-- and its state after the last gives it back. -/
theorem leave_state (A : Valuation τ sig (Elt F)) (c : Dev nD) :
    Φ1 A c 64 ⊢ (iprop(held (c.tc : Thread nD τ) copied A ∗ Pipeline.ownSems0 osem1 c ∗ Pipeline.scopedRest spec1 c) : sProp 𝕄) := by
  rw [held_copied, own1, scopedRest1_eq, weights_blocks, x_whole]
  unfold Φ1 stateS
  rw [ringS_pos c _ 64 (by decide), xS_here c _ 64 (by decide)]
  unfold xHere rowsS runS rest1 ringAt
  rw [Ring.At_past_eq_free _ _ _ _ _ 64 (le_refl 64)]
  rw [free_split]
  iintro ⟨-, ⟨⟨HW, HC, Hr⟩, ⟨Hx, ⟨%f2, -, H5⟩, HX⟩, ⟨%f4, -, H6⟩, ⟨%f5, %f6, -, H7, H8⟩⟩, H0, H1, H2, H3⟩
  isplitl [HW HX]
  · isplitl [HW]; · iexact HW
    iexact HX
  isplitl [HC Hx]
  · isplitl [HC]; · iexact HC
    iexact Hx
  isplitl [H0]; · iexact H0
  isplitl [H1]; · iexact H1
  isplitl [H2]; · iexact H2
  isplitl [H3]; · iexact H3
  isplitl [Hr]; · iapply (slots_ring c); iexact Hr
  isplitl [H5]; · iexists f2; iexact H5
  isplitl [H6]; · iexists f4; iexact H6
  isplitl [H7]; · iexists f5; iexact H7
  iexists f6; iexact H8

/-- The second call as a region: its windows' two arrays, the two it copies from, and what the TensorCore owes. -/
def region1 : Pipeline.RegionSeg (pcfgs (F := F)) adm (pdats A0 A1) (none : HIx 1) (defs₀ (F := F)) 𝒱₀ (K (F := F)).L (K (F := F)).lev 1 where
  win := winFacts1.to₀
  block_pos := block_pos1
  stage_whole := stage_whole1
  K := Fin 6 ⊕ Unit
  osem := osem1
  ho := ownSems1
  hbody c := (body_obligation1 (A1 c) c).loose
  hwaits c := Pipeline.cellsWaits_intro (Pipeline.pin (pcfgs (F := F)) adm) (pdats A0 A1) none 1 c fun w s t => (K (F := F)).mayWait_none _ (owedTc_none c)
  pre c := iprop(held (c.tc : Thread nD τ) (arrRefs spec1) (A1 c) ∗ held (c.tc : Thread nD τ) copied (A1 c) ∗ OW c)
  post c := iprop(held (c.tc : Thread nD τ) (arrRefs spec1) (left1 (A1 c) c) ∗ held (c.tc : Thread nD τ) copied (A1 c) ∗ OW c)
  X c := iprop(Transfers.MayWaits (c : Thread nD τ) (none : HIx 1) (owedTc (F := F) c) ∗ held (c.tc : Thread nD τ) copied (A1 c) ∗ Pipeline.ownSems0 osem1 c)
  Y c := held (c.tc : Thread nD τ) copied (A1 c)
  Z _ := iprop(emp)
  hentry c := by
    rw [Pipeline.prefHeld_of_none _ rfl]
    iintro ⟨⟨Ha, Hc, HO⟩, Hs, HL⟩
    ihave HM := (may_all c) $$ HL
    imodintro
    isplitl [Ha]; · iapply (Entails.of_eq (enter1 (A1 c) c).symm); iexact Ha
    isplitr; · iempintro
    isplitl [HO]; · iapply (OW_in1 (A1 c) c); iexact HO
    isplitl [HM Hc Hs]
    · isplitl [HM]; · iexact HM
      isplitl [Hc]; · iexact Hc
      iexact Hs
    iempintro
  hin c := by
    show _ ⊢ Φ1 (A1 c) c 0
    rw [Pipeline.prefHeld_of_none _ rfl]
    iintro ⟨HX, -, Hr⟩
    iapply (enter_state (A1 c) c)
    isplitl [HX]; · iexact HX
    iexact Hr
  hout c := leave_state (A1 c) c
  hexit c := by
    iintro ⟨Ha, HO, Hc, -⟩
    imodintro
    isplitl [Ha]; · iapply (Entails.of_eq (leave1 (A1 c) c)); iexact Ha
    isplitl [Hc]; · iexact Hc
    iapply (OW_out1 (A1 c) c); iexact HO

end Cert.Proof.Whole

end
-- ==== Proof.WholeTile.lean ====
/-
  ONE TILE OF THE GATHER. The SparseCore call of the whole kernel runs on 2 SparseCores of 16 tiles. Tile `i` of SparseCore `c`
  owns block `2 i + c` of 32: eight of the 256 winners' column numbers, and the eight rows of the result they fill. It
  copies its eight numbers into its own memory, streams the eight rows of the table they name into a second buffer, and
  copies that buffer out. This module states what a tile is lent and what it gives back (`go`, `td`), with the rows
  given back at their values, `rowsOf`: row `r` of the result is the row of the table named by entry `r` of the list;
  and proves one tile's run (`tile_body`) at a symbolic (SparseCore, tile) pair.

  The table's contents `T`, the list `I` and the result's earlier contents `O` are parameters, per device.
-/
module

public import proofs.«01_k».proof.Proof.WholeBase

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays and their blocks -/

abbrev iLoc (d : Dev nD) : Loc nD τ sig := (SparseCore.T d).loc main_v5
abbrev tLoc (d : Dev nD) : Loc nD τ sig := (SparseCore.T d).loc main_v9
abbrev oLoc (d : Dev nD) : Loc nD τ sig := (SparseCore.T d).loc main_v10

local notation "iV" => (Memref.whole Cert.KernelIdeal.main_v5_scv : Memref Cert.KernelIdeal.sig Kind.scVector Space.hbm Cert.KernelIdeal.S256 EltTy.i32)
local notation "tV" => (Memref.whole Cert.KernelIdeal.main_v9_scv : Memref Cert.KernelIdeal.sig Kind.scVector Space.hbm Cert.KernelIdeal.S1024x128 EltTy.f32)
local notation "oV" => (Memref.whole Cert.KernelIdeal.main_v10_scv : Memref Cert.KernelIdeal.sig Kind.scVector Space.hbm Cert.KernelIdeal.S256x128 EltTy.f32)
local notation "sV" => (Memref.whole Cert.KernelIdeal.cc2_scratch0 : Memref Cert.KernelIdeal.sig Kind.scVector Space.vmem Cert.KernelIdeal.S8 EltTy.i32)
local notation "rV" => (Memref.whole Cert.KernelIdeal.cc2_scratch1 : Memref Cert.KernelIdeal.sig Kind.scVector Space.vmem Cert.KernelIdeal.S8x128 EltTy.f32)

theorem idiv : 32 ∣ S256.size 0 := ⟨8, rfl⟩
theorem odiv : 32 ∣ S256x128.size 0 := ⟨8, rfl⟩
/-- Block `b` of 32 of the list, and of the result. -/
abbrev iblk (b : Fin 32) : Rect S256 := Rect.part (s := S256) (a₀ := 0) idiv b
abbrev oblk (b : Fin 32) : Rect S256x128 := Rect.part (s := S256x128) (a₀ := 0) odiv b
abbrev iBlkSet (b : Fin 32) : Finset S256.Idx := ((iV).view.slice (iblk b)).set
abbrev oBlkSet (b : Fin 32) : Finset S256x128.Idx := ((oV).view.slice (oblk b)).set

/-- The block of tile `i` of SparseCore `c`. -/
abbrev blkOf (c : Fin 2) (i : Fin 16) : Fin 32 := ⟨2 * i.val + c.val, by omega⟩

/-- Block `b`'s share of the table: one of the 32 leaves of the full share halved five times. -/
abbrev tq (b : Fin 32) : PosShare TreeShare := ShareLeaves.leaf 5 fullShare b

/-- The rows of the table `T` that the list `I` names: row `r` is row `I r` of the table (taken modulo the 1024 rows,
    which changes nothing where the list names rows). -/
def rowsOf (T : S1024x128.Idx → Elt F .f32) (I : S256.Idx → Elt F .i32) : S256x128.Idx → Elt F .f32 := fun x =>
  T (ix2 (n0 := 1024) (n1 := 128) ⟨(I (ix1 (n0 := 256) (x 0))).toNat % 1024, Nat.mod_lt _ (by decide)⟩ (x 1))

variable (Tb : (d : Dev nD) → Buf (Elt F) (tLoc d)) (Ix : (d : Dev nD) → Buf (Elt F) (iLoc d)) (Ob : (d : Dev nD) → Buf (Elt F) (oLoc d))
variable [FloatOps F]

/-! ## What the handshakes carry -/

/-- What a tile is lent: its block of the list, its share of the table, its block of the result; -/
abbrev go (d : Dev nD) (b : Fin 32) : sProp 𝕄 :=
  iprop((iLoc d ↦[iBlkSet b]{fullShare} Ix d) ∗ (tLoc d ↦{tq b} Tb d) ∗ oLoc d ↦[oBlkSet b]{fullShare} Ob d)
/-- and what it gives back: the same, its block of the result at the rows its numbers name. -/
abbrev td (d : Dev nD) (b : Fin 32) : sProp 𝕄 :=
  iprop((iLoc d ↦[iBlkSet b]{fullShare} Ix d) ∗ (tLoc d ↦{tq b} Tb d) ∗ oLoc d ↦[oBlkSet b]{fullShare} rowsOf (Tb d) (Ix d))

/-- Each SparseCore is handed its tiles' loans together and hands their returns back together. -/
def P : (K (F := F)).Pay (nD := nD) (Val := Elt F) (Name := ℕ) (U := UU) where
  st := fun q d c => match q with
    | 0 => bigSep Finset.univ fun i : Fin 16 => go Tb Ix Ob d (blkOf (Fin.cast nCore_zero c) i)
  dn := fun q d c => match q with
    | 0 => bigSep Finset.univ fun i : Fin 16 => td Tb Ix d (blkOf (Fin.cast nCore_zero c) i)
  go := fun q d c i => match q with
    | 0 => go Tb Ix Ob d (blkOf (Fin.cast nCore_zero c) (Fin.cast nSub_zero i))
  td := fun q d c i => match q with
    | 0 => td Tb Ix d (blkOf (Fin.cast nCore_zero c) (Fin.cast nSub_zero i))
  x := fun _ _ => iprop(emp)

instance P_storable : (P (F := F) Tb Ix Ob).IsStorable where
  st q d c := match q with
    | 0 => (inferInstance : BI.Storable (upEmb : UEmb _ 𝕄) (bigSep Finset.univ fun i : Fin 16 => go Tb Ix Ob d (blkOf (Fin.cast nCore_zero c) i)))
  dn q d c := match q with
    | 0 => (inferInstance : BI.Storable (upEmb : UEmb _ 𝕄) (bigSep Finset.univ fun i : Fin 16 => td Tb Ix d (blkOf (Fin.cast nCore_zero c) i)))
  go q d c i := match q with
    | 0 => (inferInstance : BI.Storable (upEmb : UEmb _ 𝕄) (go Tb Ix Ob d (blkOf (Fin.cast nCore_zero c) (Fin.cast nSub_zero i))))
  td q d c i := match q with
    | 0 => (inferInstance : BI.Storable (upEmb : UEmb _ 𝕄) (td Tb Ix d (blkOf (Fin.cast nCore_zero c) (Fin.cast nSub_zero i))))

/-- What the run asks of the list: every entry names one of the 1024 rows. -/
def InRange : Prop := ∀ (d : Dev nD) (j : S256.Idx), (Ix d j).toNat < 1024

/-! ## The task -/

section Tile

variable (d : Dev nD) (L : grid2.Coords)

abbrev cV (L : grid2.Coords) : Fin τ.nSC := (L 0).castLE hcore2
abbrev jV (L : grid2.Coords) : Fin τ.nSub := (L 1).castLE hsub2
theorem bound_zero : grid2.bound 0 = 2 := rfl
theorem bound_one : grid2.bound 1 = 16 := rfl
abbrev bL (L : grid2.Coords) : Fin 32 := blkOf (Fin.cast bound_zero (L 0)) (Fin.cast bound_one (L 1))

abbrev irectK (L : grid2.Coords) : Rect S256 := Rect.unit (s := S256) (k2_off1 L) S8.size (k2_off1_inb L)
abbrev orectK (L : grid2.Coords) : Rect S256x128 := Rect.unit (s := S256x128) (k2_off2 L) S8x128.size (k2_off2_inb L)
/-- The tile's block of the list, its block of the result and the whole table, as the task addresses them. -/
abbrev iBlkK (L : grid2.Coords) : Memref sig .scVector .hbm S8 .i32 := (iV).slice (irectK L) (fun _ => rfl)
abbrev oBlkK (L : grid2.Coords) : Memref sig .scVector .hbm S8x128 .f32 := (oV).slice (orectK L) (fun _ => rfl)
abbrev tAllK : Memref sig .scVector .hbm S1024x128 .f32 := (tV).slice (Rect.unit (s := S1024x128) ![0, 0] S1024x128.size inb_S1024x128_S1024x128_0_0) (fun _ => rfl)

omit [FloatOps F] in
theorem irectK_eq : irectK L = iblk (bL L) := by
  have hv : (bL L).val = 2 * (L 1).val + (L 0).val := rfl
  generalize bL L = b at hv ⊢
  unfold irectK iblk Rect.part Rect.block
  congr 1 <;> funext a
  · rw [k2_off1_eq]
    match a with
    | 0 => simp [Shape.partIx, Shape.partSize]; omega
  · match a with
    | 0 => simp [Shape.partSize]
omit [FloatOps F] in
theorem orectK_eq : orectK L = oblk (bL L) := by
  have hv : (bL L).val = 2 * (L 1).val + (L 0).val := rfl
  generalize bL L = b at hv ⊢
  unfold orectK oblk Rect.part Rect.block
  congr 1 <;> funext a
  · rw [k2_off2_eq]
    match a with
    | 0 => simp [Shape.partIx, Shape.partSize]; omega
    | 1 => simp [Shape.partIx, Shape.partSize]
  · match a with
    | 0 => simp [Shape.partSize]
    | 1 => simp [Shape.partSize]

theorem set_iBlkK : (iBlkK L).view.set = iBlkSet (bL L) := by
  show ((iV).view.slice (irectK L)).set = _
  exact irectK_eq L ▸ rfl
theorem set_oBlkK : (oBlkK L).view.set = oBlkSet (bL L) := by
  show ((oV).view.slice (orectK L)).set = _
  exact orectK_eq L ▸ rfl

omit [FloatOps F] in
theorem pts_iBlkK (f : Buf (Elt F) (iLoc d)) :
    ((iBlkK L).view.loc (V d (cV L) (jV L)) ↦[(iBlkK L).view.set]{fullShare} f : sProp 𝕄) = iLoc d ↦[iBlkSet (bL L)]{fullShare} f := by
  rw [set_iBlkK]
omit [FloatOps F] in
theorem pts_oBlkK (f : Buf (Elt F) (oLoc d)) :
    ((oBlkK L).view.loc (V d (cV L) (jV L)) ↦[(oBlkK L).view.set]{fullShare} f : sProp 𝕄) = oLoc d ↦[oBlkSet (bL L)]{fullShare} f := by
  rw [set_oBlkK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc2_scratch0)) :
    ((sV).view.loc (V d (cV L) (jV L)) ↦{fullShare} f : sProp 𝕄) = (V d (cV L) (jV L)).loc cc2_scratch0 ↦{fullShare} f := rfl
omit [FloatOps F] in
theorem pts_rV (f : Buf (Elt F) ((V d (cV L) (jV L)).loc cc2_scratch1)) :
    ((rV).view.loc (V d (cV L) (jV L)) ↦{fullShare} f : sProp 𝕄) = (V d (cV L) (jV L)).loc cc2_scratch1 ↦{fullShare} f := rfl

/-- The tile's three transfer semaphores: the list's fetch, the row stream, the write-out. -/
abbrev cellA (d : Dev nD) (c : Fin τ.nSC) (i : Fin τ.nSub) : GSem nD τ sig := (V d c i, .dma cc2_scoped0.sem)
abbrev cellB (d : Dev nD) (c : Fin τ.nSC) (i : Fin τ.nSub) : GSem nD τ sig := (V d c i, .dma cc2_scratch2.sem)
abbrev cellC (d : Dev nD) (c : Fin τ.nSC) (i : Fin τ.nSub) : GSem nD τ sig := (V d c i, .dma cc2_scoped1.sem)

omit [FloatOps F] in
theorem ownSems0_V :
    (ownSems0 (V d (cV L) (jV L)) : sProp 𝕄)
      = iprop(semVal (cellA d (cV L) (jV L)) 0 ∗ semVal (cellB d (cV L) (jV L)) 0 ∗ semVal (cellC d (cV L) (jV L)) 0
          ∗ bigSep ((((ownCells (V d (cV L) (jV L))).erase (cellA d (cV L) (jV L))).erase (cellB d (cV L) (jV L))).erase (cellC d (cV L) (jV L))) fun g => semVal g 0) := by
  unfold SparseCore.Cfg.ownSems0
  rw [SparseCore.bigSep_erase' ((mem_ownCells (g := cellA d (cV L) (jV L))).mpr ⟨rfl, by
      show (SemLoc.dma cc2_scoped0.sem : SemLoc sig).isScoped .scVector = true; decide⟩),
    SparseCore.bigSep_erase' (Finset.mem_erase.mpr ⟨by simp [cellA, cellB]; decide, (mem_ownCells (g := cellB d (cV L) (jV L))).mpr ⟨rfl, by
      show (SemLoc.dma cc2_scratch2.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d (cV L) (jV L))).mpr ⟨rfl, by show (SemLoc.dma cc2_scoped1.sem : SemLoc sig).isScoped .scVector = true; decide⟩⟩⟩)]

omit [FloatOps F] in
/-- The tile's own buffers are its two scratch buffers, at some contents, and the rest. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

/-- The numbers the stream reads name rows of the table: they are the tile's block of the list. -/
theorem offs_lt (hI : InRange Ix) (fs : Buf (Elt F) ((V d (cV L) (jV L)).loc cc2_scratch0)) (pay : S8.Idx → Elt F .i32)
    (hpay : pay = (iBlkK L).view.read (Elt F) (Ix d)) :
    ∀ x, ((sV).view.read (Elt F) (View.write (Elt F) (sV).view fs pay Finset.univ) x).toNat < S1024x128.size gathers_S1024x128_S8x128.axis := by
  subst hpay; intro x
  rw [View.write_whole_univ]
  simp only [Memref.view_whole, View.read_whole]
  exact hI d _

theorem tAllK_emb (z : S1024x128.Idx) (a : Fin 2) : (tAllK.view.emb z a).val = (z a).val := by
  show ((Rect.unit (s := S1024x128) ![0, 0] S1024x128.size inb_S1024x128_S1024x128_0_0).emb z a).val = _
  rw [Rect.emb_apply]
  match a with
  | ⟨0, _⟩ => simp [Rect.unit]
  | ⟨1, _⟩ => simp [Rect.unit]
theorem oBlkK_emb (y : S8x128.Idx) (a : Fin 2) : ((oBlkK L).view.emb y a).val = ![8 * (bL L).val, 0] a + (y a).val := by
  show ((orectK L).emb y a).val = _
  rw [Rect.emb_apply]
  have hv : (bL L).val = 2 * (L 1).val + (L 0).val := rfl
  rw [hv]
  match a with
  | ⟨0, _⟩ => simp [Rect.unit, k2_off2_eq]; omega
  | ⟨1, _⟩ => simp [Rect.unit, k2_off2_eq]
theorem iBlkK_emb (y : S8.Idx) : ((iBlkK L).view.emb y 0).val = 8 * (bL L).val + (y 0).val := by
  show ((irectK L).emb y 0).val = _
  rw [Rect.emb_apply]
  have hv : (bL L).val = 2 * (L 1).val + (L 0).val := rfl
  rw [hv]
  simp [Rect.unit, k2_off1_eq]; omega

/-- What the tile's write-out leaves in its block of the result: the rows the list names there. -/
theorem wrote (hI : InRange Ix) (fs : Buf (Elt F) ((V d (cV L) (jV L)).loc cc2_scratch0)) (fr : Buf (Elt F) ((V d (cV L) (jV L)).loc cc2_scratch1))
    (fo : Buf (Elt F) (oLoc d)) (hn) (w : S8x128.Idx → Elt F .f32)
    (hw : w = (rV).view.read (Elt F) (View.write (Elt F) (rV).view fr
          (SparseCore.gatherPayload gathers_S1024x128_S8x128 (tAllK.view.read (Elt F) (Tb d))
            (SparseCore.rows ((sV).view.read (Elt F) (View.write (Elt F) (sV).view fs ((iBlkK L).view.read (Elt F) (Ix d)) Finset.univ)) hn
              (offs_lt Ix d L hI fs _ rfl))) Finset.univ)) :
    ∀ x ∈ (oBlkK L).view.set, (oBlkK L).view.writes (Elt F) fo [⟨Rect.whole S8x128, w⟩] x = rowsOf (Tb d) (Ix d) x := by
  intro x hx
  obtain ⟨y, -, rfl⟩ := Finset.mem_map.mp hx
  refine (cast_eq _ _).symm.trans ((congrFun (View.read_writes_whole (oBlkK L).view fo w) y).trans ?_)
  rw [hw, View.read_write_univ]
  unfold SparseCore.gatherPayload rowsOf
  show Tb d _ = Tb d _
  congr 1
  funext a
  apply Fin.ext
  rw [tAllK_emb]
  match a with
  | ⟨0, _⟩ =>
    show (gathers_S1024x128_S8x128.idx _ y gathers_S1024x128_S8x128.axis).val = _ % 1024
    rw [Shape.Gathers.idx_axis, Nat.mod_eq_of_lt (hI d _)]
    unfold SparseCore.rows
    simp only [View.write_whole_univ, Memref.view_whole, View.read_whole]
    show (Ix d _).toNat = (Ix d _).toNat
    congr 2
    funext b
    obtain rfl : b = (0 : Fin 1) := Subsingleton.elim (α := Fin 1) _ _
    apply Fin.ext
    refine (iBlkK_emb L _).trans ?_
    show _ = ((oBlkK L).view.emb y 0).val
    rw [oBlkK_emb, ← Shape.rowMajor_val_one]
    refine congrArg (8 * (bL L).val + ·) ?_
    show (S8.rowMajor (S8.rowMajor.symm _)).val = (y 0).val
    rw [Equiv.apply_symm_apply]
    rfl
  | ⟨1, _⟩ =>
    show (gathers_S1024x128_S8x128.idx _ y 1).val = ((oBlkK L).view.emb y 1).val
    rw [Shape.Gathers.idx_of_ne _ _ _ _ (by decide), oBlkK_emb]
    simp

set_option maxHeartbeats 4000000 in
/-- One tile's task: the fetch of its numbers and its wait, the row stream and its wait, the write-out and its wait;
    the tile's block of the result is left at the rows its numbers name. -/
theorem tile_body (hF : (K (F := F)).Facts) (hI : InRange Ix) (O : CellTallies nD τ sig (HIx 1)) (W : Waits sig (HIx 1)) (hO : ∀ g, O g none = 0) :
    iprop(levAts (K (F := F)).L (K (F := F)).lev ∗ emp ∗ go Tb Ix Ob d (bL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_gk L tV (Memref.isWhole_whole _) iV (Memref.isWhole_whole _) oV (Memref.isWhole_whole _)
            sV (Memref.isWhole_whole _) rV (Memref.isWhole_whole _) cc2_scratch2 cc2_scoped0 cc2_scoped1)
          fun _ => iprop(td Tb Ix d (bL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_gk_eq_skeleton]; unfold cc2_gk_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iBlkK (F := F) d L _).symm) $$ Hi
  ihave Ho' := (Entails.of_eq (pts_oBlkK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  -- the row stream: a share of the table, the row buffer and the list's buffer go in, its wait gives them back
  ihave Hts := (pointsTo_split_subset (q := tq (bL L)) (f := Tb d) (S := Finset.univ) (Finset.subset_univ (tAllK).view.set)).1 $$ Ht'
  icases Hts with ⟨Hts, Htr⟩
  have hrs : (rV).view.set = Finset.univ := View.set_whole _
  have hss : (sV).view.set = Finset.univ := View.set_whole _
  ihave Hr2 := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs2 := (Entails.of_eq (show ((sV).view.loc (V d (cV L) (jV L)) ↦{fullShare} View.write (Elt F) (sV).view fs (tile_body.sl.dma0 Ix d L) Finset.univ : sProp 𝕄)
      = (sV).view.loc (V d (cV L) (jV L)) ↦[(sV).view.set]{fullShare} View.write (Elt F) (sV).view fs (tile_body.sl.dma0 Ix d L) Finset.univ
      by rw [hss])) $$ Hs'
  have hN : ∀ h : S1024x128.Gathers 0 S8x128, ∑ j, ((rV).slice (S8x128.rowRect h.axis' j) (S8x128.stride_rowRect h.axis' j)).view.dmaCredit
      = (rV).view.dmaCredit := by decide
  iapply (SparseCore.wp_indirectGatherLocal countersEmb 𝒱₀ (V d (cV L) (jV L)) none (hg := gathers_S1024x128_S8x128) (default : HIx 1)
      (rV).view.dmaCredit (hN _) (by decide) (offs_lt Ix d L hI fs _ rfl)) $$ [Hts Hr2 Hs2 HsemB]
  · isplitl [Hts]; · iexact Hts
    isplitl [Hr2]; · iexact Hr2
    isplitl [Hs2]; · iexact Hs2
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc2_scratch2.sem)) $$ Hmw
  iintro ⟨⟨Hr2, Hts, Hs2⟩, HsemB, HO⟩
  ihave Ht' := (pointsTo_split_subset (q := tq (bL L)) (f := Tb d) (S := Finset.univ) (Finset.subset_univ (tAllK).view.set)).2 $$ [Hts Htr]; · isplitl [Hts] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr2
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs2
  sl_exec
  sl_step
  isplitl [Hi' Ht' Ho']
  · isplitl [Hi']; · iapply (Entails.of_eq (pts_iBlkK (F := F) d L _)); iexact Hi'
    isplitl [Ht']; · iexact Ht'
    iapply (Entails.of_eq (pts_oBlkK (F := F) d L _))
    iapply (Entails.of_eq (pointsTo_congr (wrote Tb Ix d L hI fs fr (Ob d) rfl (tile_body.sl.dma0_1 Tb Ix d L hI fs fr) rfl)))
    iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The launch's obligation for the tiles -/

/-- The grid point of a SparseCore and a tile. -/
def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_gk (coordsV c s)
          tV (Memref.isWhole_whole _) iV (Memref.isWhole_whole _) oV (Memref.isWhole_whole _)
          sV (Memref.isWhole_whole _) rV (Memref.isWhole_whole _) cc2_scratch2 cc2_scoped0 cc2_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of both SparseCores runs its task. -/
theorem tileObl (hF : (K (F := F)).Facts) (hI : InRange Ix) : (K (F := F)).TileObl (D (F := F)) 𝒱 (P Tb Ix Ob) v₀ 0 := by
  intro d c i O W hO _ _
  simp only [show (P Tb Ix Ob).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body Tb Ix Ob d (coordsV ⟨_, hci.1⟩ ⟨_, hci.2⟩) hF hI O W hO).trans (wp_mono frame _ _ fun _ => obl_post)

end Tile

/-- A SparseCore's loans are its tiles' loans, its returns theirs. -/
theorem vecSplit : (K (F := F)).VecSplit' (P Tb Ix Ob) 0 := by
  intro d c
  show (bigSep Finset.univ fun i : Fin 16 => go Tb Ix Ob d (blkOf (Fin.cast nCore_zero c) i)) ⊢ |={Set.univ}=> iprop(
      (bigSep Finset.univ fun i : Fin 16 => go Tb Ix Ob d (blkOf (Fin.cast nCore_zero c) i))
      ∗ ((bigSep Finset.univ fun i : Fin 16 => td Tb Ix d (blkOf (Fin.cast nCore_zero c) i))
          -∗ bigSep Finset.univ fun i : Fin 16 => td Tb Ix d (blkOf (Fin.cast nCore_zero c) i)))
  iintro H; imodintro
  isplitl [H]; · iexact H
  iintro H; iexact H

/-! ## The arrays dealt to the 32 blocks and joined again -/

/-- The 2 × 16 tiles are the 32 blocks. -/
def tiles : Fin 2 × Fin 16 ≃ Fin 32 where
  toFun p := blkOf p.1 p.2
  invFun b := (⟨b.val % 2, by omega⟩, ⟨b.val / 2, by omega⟩)
  left_inv p := by ext <;> simp <;> omega
  right_inv b := by ext; simp; omega

theorem iBlkSet_eq (b : Fin 32) : iBlkSet b = (iblk b).set := by
  show ((View.whole (main_v5_scv : Ref sig .scVector)).slice (iblk b)).set = _
  rw [View.set_slice]; exact Finset.map_refl
theorem oBlkSet_eq (b : Fin 32) : oBlkSet b = (oblk b).set := by
  show ((View.whole (main_v10_scv : Ref sig .scVector)).slice (oblk b)).set = _
  rw [View.set_slice]; exact Finset.map_refl
omit [FloatOps F] in
/-- The list whole is its 32 blocks; -/
theorem list_blocks (d : Dev nD) (f : Buf (Elt F) (iLoc d)) :
    (iLoc d ↦{fullShare} f : sProp 𝕄) = bigSep Finset.univ fun b : Fin 32 => iLoc d ↦[iBlkSet b]{fullShare} f := by
  rw [← pointsTo_biUnion Finset.univ (ℓ := iLoc d) iBlkSet (fun i _ j _ h => by rw [iBlkSet_eq, iBlkSet_eq]; exact Rect.part_disjoint idiv h),
    (Finset.biUnion_congr rfl fun i _ => iBlkSet_eq i).trans (Rect.biUnion_part idiv)]
omit [FloatOps F] in
/-- the result whole is its 32 blocks; -/
theorem result_blocks (d : Dev nD) (f : Buf (Elt F) (oLoc d)) :
    (oLoc d ↦{fullShare} f : sProp 𝕄) = bigSep Finset.univ fun b : Fin 32 => oLoc d ↦[oBlkSet b]{fullShare} f := by
  rw [← pointsTo_biUnion Finset.univ (ℓ := oLoc d) oBlkSet (fun i _ j _ h => by rw [oBlkSet_eq, oBlkSet_eq]; exact Rect.part_disjoint odiv h),
    (Finset.biUnion_congr rfl fun i _ => oBlkSet_eq i).trans (Rect.biUnion_part odiv)]
omit [FloatOps F] in
/-- the table whole is its 32 shares. -/
theorem table_shares (d : Dev nD) (f : Buf (Elt F) (tLoc d)) :
    (tLoc d ↦{fullShare} f : sProp 𝕄) = bigSep Finset.univ fun b : Fin 32 => tLoc d ↦{tq b} f :=
  ShareLeaves.pointsTo_leaves Finset.univ f 5 fullShare

/-- The three arrays whole are what the call's two SparseCores are handed; -/
theorem st_eq (d : Dev nD) :
    (bigSep Finset.univ fun c : Fin ((K (F := F)).nCore 0) => (P Tb Ix Ob).st 0 d c)
      = iprop((iLoc d ↦{fullShare} Ix d) ∗ (tLoc d ↦{fullShare} Tb d) ∗ oLoc d ↦{fullShare} Ob d) := by
  rw [list_blocks, table_shares, result_blocks, ← bigSep_sep', ← bigSep_sep',
    BI.bigSep_univ_equiv tiles, BI.bigSep_univ_prod]
  rfl
/-- and, the result at the rows named, what they hand back. -/
theorem dn_eq (d : Dev nD) :
    (bigSep Finset.univ fun c : Fin ((K (F := F)).nCore 0) => (P Tb Ix Ob).dn 0 d c)
      = iprop((iLoc d ↦{fullShare} Ix d) ∗ (tLoc d ↦{fullShare} Tb d) ∗ oLoc d ↦{fullShare} rowsOf (Tb d) (Ix d)) := by
  rw [list_blocks, table_shares, result_blocks, ← bigSep_sep', ← bigSep_sep',
    BI.bigSep_univ_equiv tiles, BI.bigSep_univ_prod]
  rfl

end Cert.Proof.Whole

end
-- ==== Proof.WholeRun.lean ====
/-
  THE RUN OF THE WHOLE KERNEL at any float instance. @main's host operations, its two TensorCore calls and its SparseCore
  call follow one another; each array's contents are followed through them. If every word of the list handed to the
  SparseCore call names a row of the table, the program terminates, each unscoped array ends at `final`, and every
  semaphore counter reads zero.
-/
module

public import proofs.«01_k».proof.Proof.WholeRegions
public import proofs.«01_k».proof.Proof.WholeTile
public import Idealize.ShloMosaic.Lib.Pipeline.Frame

@[expose] public section

set_option maxRecDepth 16384

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation ucRefs arrRefs unscopedBufs_held sub_ucRefs)
open Idealize.ShloMosaic.StableHlo

variable {F : FTy → Type} [FloatOps F]

local notation "𝕄" => MT nD τ sig (HIx 1) (Elt F) ℕ UU ℕ

/-! ## The two TensorCore calls in @main -/

abbrev pinned : Fin 2 → Pipeline.Cfg sig Λ₀ := Pipeline.pin (pcfgs (F := F)) adm
theorem pinned_inj : Function.Injective (Pipeline.cellOf (nD := nD) (τ := τ) (pinned (F := F))) := cellOf_inj

/-- The ghost state of call `p`'s pipeline on device `d`. -/
abbrev ghostOf (p : Fin 2) (d : Dev nD) : sProp 𝕄 := iprop(Pipeline.cellsGhost (pinned (F := F)) EP p d ∗ Pipeline.toksInit (pinned (F := F)) EP p d)

/-- A continuation from `P` is one from `P` after nothing. -/
theorem after_call {Λ : Labels} (defs : Defs nD τ sig (Elt F) Λ) (𝒱' : Variants) (thr : Thread nD τ) (P W : sProp 𝕄) :
    (iprop(P -∗ W) : sProp 𝕄) ⊢ iprop(P -∗ wp frame (wpE defs 𝒱' thr none) Set.univ (.ret ⟨⟩ : Prog (TpuEff nD τ sig (Elt F) Λ thr.2) PUnit) fun _ => W) := by
  iintro Hk HP
  rw [wp_ret]
  imodintro
  iapply Hk; iexact HP

set_option backward.isDefEq.respectTransparency.types false in
/-- A TensorCore call in @main, by its region. -/
theorem region_step [∀ e, Nonempty (Elt F e)] (A0 A1 : Dev nD → Valuation τ sig (Elt F)) {p : Fin 2}
    (R : Pipeline.RegionSeg (pcfgs (F := F)) adm (pdats A0 A1) (none : HIx 1) (defs₀ (F := F)) 𝒱₀ (K (F := F)).L (K (F := F)).lev p) (d : Dev nD)
    {α : Type} (k : PUnit → Prog (TpuEff nD τ sig (Elt F) (SparseCore.Sig (ΛP (F := F)) 1) .tc) α) (Q : α → sProp 𝕄) :
    iprop((iprop(boundary (d.tc : Thread nD τ) ∗ R.post d) -∗ wp frame (wpE ((K (F := F)).defs (D (F := F))) 𝒱 (T d) none) Set.univ (k ⟨⟩) Q)
        ∗ boundary (d.tc : Thread nD τ) ∗ R.pre d ∗ levAts (K (F := F)).L (K (F := F)).lev ∗ ghostOf p d)
      ⊢ wp frame (wpE ((K (F := F)).defs (D (F := F))) 𝒱 (T d) none) Set.univ
          (Prog.lift (.customCall (SparseCore.inner (Pipeline.entry p)) ()) >>= k) Q := by
  rw [wp_bind]
  refine BI.Entails.trans ?_ ((K (F := F)).wp_liftProg (D (F := F)) 𝒱 (T d) Set.univ none (.op (.customCall (Pipeline.entry p) ()) .ret)
    (fun _ => wp frame (wpE ((K (F := F)).defs (D (F := F))) 𝒱 (T d) none) Set.univ (k ⟨⟩) Q))
  refine BI.Entails.trans ?_ (Pipeline.RegionSeg.wp (pcfgs (F := F)) adm (pdats A0 A1) (none : HIx 1) pinned_inj EP (defs₀ (F := F)) 𝒱₀
    (K (F := F)).L (K (F := F)).lev R d none (fun u hu => nomatch hu) .ret _)
  exact sep_mono (after_call (D (F := F)) 𝒱 (T d) _ _) .rfl

/-! Each call among all the unscoped arrays: its own are taken out, changed as it says, and put back. -/

theorem arrs0_sub : arrRefs (τ := τ) spec0 ⊆ ucRefs τ sig := by decide
theorem arrs1_sub : arrRefs (τ := τ) spec1 ⊆ ucRefs τ sig := by decide
theorem copied_sub : copied ⊆ ucRefs τ sig \ arrRefs (τ := τ) spec1 := by decide

theorem rest0 (A : Valuation τ sig (Elt F)) (d : Dev nD) :
    (held (d.tc : Thread nD τ) (ucRefs τ sig \ arrRefs spec0) A : sProp 𝕄) = held (d.tc : Thread nD τ) (ucRefs τ sig \ arrRefs spec0) (left0 A d) :=
  held_congr _ fun b hb => (left0_rest A d b fun e => (Finset.mem_sdiff.mp hb).2 (by rw [e]; decide)).symm
theorem rest1_held (A : Valuation τ sig (Elt F)) (d : Dev nD) :
    (held (d.tc : Thread nD τ) (ucRefs τ sig \ arrRefs spec1) A : sProp 𝕄) = held (d.tc : Thread nD τ) (ucRefs τ sig \ arrRefs spec1) (left1 A d) :=
  held_congr _ fun b hb => (left1_rest A d b fun e => (Finset.mem_sdiff.mp hb).2 (by rw [e]; decide)).symm

/-- A step that takes `pre` to `post` also takes `H` to `H'`, beside `o`, if those come apart into `pre` and `post` and the same rest. -/
theorem around {bd H H' o l g W Z pre post r : sProp 𝕄} (hin : iprop(H ∗ o) ⊢ iprop(pre ∗ r)) (hout : iprop(post ∗ r) ⊢ iprop(H' ∗ o))
    (h : iprop((iprop(bd ∗ post) -∗ W) ∗ bd ∗ pre ∗ l ∗ g) ⊢ Z) : iprop((iprop(bd ∗ H' ∗ o) -∗ W) ∗ bd ∗ H ∗ o ∗ l ∗ g) ⊢ Z := by
  suffices h' : iprop((iprop(bd ∗ H' ∗ o) -∗ W) ∗ bd ∗ H ∗ o ∗ l ∗ g) ⊢ iprop((iprop(bd ∗ post) -∗ W) ∗ bd ∗ pre ∗ l ∗ g) from h'.trans h
  iintro ⟨Hk, Hb, HH, HO, HL, Hg⟩
  ihave Hp := hin $$ [HH HO]
  · isplitl [HH] <;> iassumption
  icases Hp with ⟨Hp, Hr⟩
  isplitl [Hk Hr]
  · iintro ⟨Hb, Hp⟩
    ihave HH := hout $$ [Hp Hr]
    · isplitl [Hp] <;> iassumption
    iapply Hk
    isplitl [Hb]; · iexact Hb
    iexact HH
  isplitl [Hb]; · iexact Hb
  isplitl [Hp]; · iexact Hp
  isplitl [HL]; · iexact HL
  iexact Hg

theorem open0 (A : Valuation τ sig (Elt F)) (d : Dev nD) : (iprop(held (d.tc : Thread nD τ) (ucRefs τ sig) A ∗ OW d) : sProp 𝕄)
    ⊢ iprop(iprop(held (d.tc : Thread nD τ) (arrRefs spec0) A ∗ OW d) ∗ held (d.tc : Thread nD τ) (ucRefs τ sig \ arrRefs spec0) A) := by
  rw [held_sub_split (d.tc : Thread nD τ) arrs0_sub A]
  iintro ⟨⟨Ha, Hr⟩, HO⟩
  isplitr [Hr]
  · isplitl [Ha]; · iexact Ha
    iexact HO
  iexact Hr
theorem close0 (A : Valuation τ sig (Elt F)) (d : Dev nD) :
    (iprop(iprop(held (d.tc : Thread nD τ) (arrRefs spec0) (left0 A d) ∗ OW d) ∗ held (d.tc : Thread nD τ) (ucRefs τ sig \ arrRefs spec0) A) : sProp 𝕄)
      ⊢ iprop(held (d.tc : Thread nD τ) (ucRefs τ sig) (left0 A d) ∗ OW d) := by
  rw [held_sub_split (d.tc : Thread nD τ) arrs0_sub (left0 A d), ← rest0]
  iintro ⟨⟨Ha, HO⟩, Hr⟩
  isplitr [HO]
  · isplitl [Ha]; · iexact Ha
    iexact Hr
  iexact HO
theorem open1 (A : Valuation τ sig (Elt F)) (d : Dev nD) : (iprop(held (d.tc : Thread nD τ) (ucRefs τ sig) A ∗ OW d) : sProp 𝕄)
    ⊢ iprop(iprop(held (d.tc : Thread nD τ) (arrRefs spec1) A ∗ held (d.tc : Thread nD τ) copied A ∗ OW d)
        ∗ held (d.tc : Thread nD τ) ((ucRefs τ sig \ arrRefs spec1) \ copied) A) := by
  rw [held_sub_split (d.tc : Thread nD τ) arrs1_sub A, held_sub_split (d.tc : Thread nD τ) copied_sub A]
  iintro ⟨⟨Ha, Hc, Hr⟩, HO⟩
  isplitr [Hr]
  · isplitl [Ha]; · iexact Ha
    isplitl [Hc]; · iexact Hc
    iexact HO
  iexact Hr
theorem close1 (A : Valuation τ sig (Elt F)) (d : Dev nD) :
    (iprop(iprop(held (d.tc : Thread nD τ) (arrRefs spec1) (left1 A d) ∗ held (d.tc : Thread nD τ) copied A ∗ OW d)
        ∗ held (d.tc : Thread nD τ) ((ucRefs τ sig \ arrRefs spec1) \ copied) A) : sProp 𝕄)
      ⊢ iprop(held (d.tc : Thread nD τ) (ucRefs τ sig) (left1 A d) ∗ OW d) := by
  rw [held_sub_split (d.tc : Thread nD τ) arrs1_sub (left1 A d), ← rest1_held, held_sub_split (d.tc : Thread nD τ) copied_sub A]
  iintro ⟨⟨Ha, Hc, HO⟩, Hr⟩
  isplitr [HO]
  · isplitl [Ha]; · iexact Ha
    isplitl [Hc]; · iexact Hc
    iexact Hr
  iexact HO

section Steps
variable [∀ e, Nonempty (Elt F e)] (A : Valuation τ sig (Elt F)) (d : Dev nD)
  {α : Type} (k : PUnit → Prog (TpuEff nD τ sig (Elt F) (SparseCore.Sig (ΛP (F := F)) 1) .tc) α)

theorem step_call0 (Q : α → sProp 𝕄) :
    iprop((iprop(boundary (d.tc : Thread nD τ) ∗ held (d.tc : Thread nD τ) (ucRefs τ sig) (left0 A d) ∗ OW d)
          -∗ wp frame (wpE ((K (F := F)).defs (D (F := F))) 𝒱 (T d) none) Set.univ (k ⟨⟩) Q)
        ∗ boundary (d.tc : Thread nD τ) ∗ held (d.tc : Thread nD τ) (ucRefs τ sig) A ∗ OW d ∗ levAts (K (F := F)).L (K (F := F)).lev ∗ ghostOf 0 d)
      ⊢ wp frame (wpE ((K (F := F)).defs (D (F := F))) 𝒱 (T d) none) Set.univ
          (Prog.lift (.customCall (SparseCore.inner (Pipeline.entry 0)) ()) >>= k) Q :=
  around (open0 A d) (close0 A d) (region_step (fun _ => A) (fun _ => A) (region0 (fun _ => A) (fun _ => A)) d k Q)

theorem step_call1 (Q : α → sProp 𝕄) :
    iprop((iprop(boundary (d.tc : Thread nD τ) ∗ held (d.tc : Thread nD τ) (ucRefs τ sig) (left1 A d) ∗ OW d)
          -∗ wp frame (wpE ((K (F := F)).defs (D (F := F))) 𝒱 (T d) none) Set.univ (k ⟨⟩) Q)
        ∗ boundary (d.tc : Thread nD τ) ∗ held (d.tc : Thread nD τ) (ucRefs τ sig) A ∗ OW d ∗ levAts (K (F := F)).L (K (F := F)).lev ∗ ghostOf 1 d)
      ⊢ wp frame (wpE ((K (F := F)).defs (D (F := F))) 𝒱 (T d) none) Set.univ
          (Prog.lift (.customCall (SparseCore.inner (Pipeline.entry 1)) ()) >>= k) Q :=
  around (open1 A d) (close1 A d) (region_step (fun _ => A) (fun _ => A) (region1 (fun _ => A) (fun _ => A)) d k Q)

end Steps

/-! ## The host operations around the calls -/

/-- The rows of `x` and the blocks of `W`; -/
def ops0 : List (HloOp τ sig (Elt F)) :=
  [StableHlo.reshape main_arg0 main_v0 (rfl : (.f32 : EltTy) = .f32) shapeCasts_S256x224x224_S256x50176,
   StableHlo.reshape main_arg7 main_v1 (rfl : (.f32 : EltTy) = .f32) shapeCasts_S1024x50176_S64x16x50176]
/-- the blocks of the ages; -/
def ops1 : List (HloOp τ sig (Elt F)) :=
  [StableHlo.reshape main_arg10 main_v3 (rfl : (.f32 : EltTy) = .f32) shapeCasts_S1x1024_S8x1x128]
/-- the list of columns, and the table: zeros with the transpose of `W_y2z` written over columns 0 to 100; -/
def ops2 : List (HloOp τ sig (Elt F)) :=
  [StableHlo.reshape main_v4 main_v5 (rfl : (.i32 : EltTy) = .i32) shapeCasts_S256x1_S256,
   StableHlo.nullary main_cst (constant S_ .f32 0x00000000#32),
   StableHlo.unary main_cst main_v6 (broadcastInDim S1024x128 ![] bcast_S_S1024x128 : (⟨S_, .f32⟩ : BufTy).Contents (Elt F) → (⟨S1024x128, .f32⟩ : BufTy).Contents (Elt F)),
   StableHlo.unary main_arg8 main_v7 ((transpose S1024x101 [1, 0] · transposes_S101x1024_S1024x101_1_0) : (⟨S101x1024, .f32⟩ : BufTy).Contents (Elt F) → (⟨S1024x101, .f32⟩ : BufTy).Contents (Elt F)),
   StableHlo.nullary main_c (constantI S_ 32 0#32),
   StableHlo.unary main_c main_v8 (broadcastInDim S1 ![] bcast_S_S1 : (⟨S_, .i32⟩ : BufTy).Contents (Elt F) → (⟨S1, .i32⟩ : BufTy).Contents (Elt F)),
   StableHlo.ternary main_v6 main_v8 main_v7 main_v9 ((fun x i u => Host.scatter scatter_S1024x128_S1_S1024x101_01_n_1_0 (fun _ b => b) x i u) : (⟨S1024x128, .f32⟩ : BufTy).Contents (Elt F) → (⟨S1, .i32⟩ : BufTy).Contents (Elt F) → (⟨S1024x101, .f32⟩ : BufTy).Contents (Elt F) → (⟨S1024x128, .f32⟩ : BufTy).Contents (Elt F))]
/-- the first 101 columns of the gathered rows. -/
def ops3 : List (HloOp τ sig (Elt F)) :=
  [StableHlo.unary main_v10 main_v11 ((extractStridedSlice S256x101 ![0, 0] · slices_S256x128_S256x101_0_0) : (⟨S256x128, .f32⟩ : BufTy).Contents (Elt F) → (⟨S256x101, .f32⟩ : BufTy).Contents (Elt F))]

theorem main_eq (d : Dev nD) : main (F := F) d = (seq ops0 >>= fun _ => Prog.lift (.customCall (SparseCore.inner (Pipeline.entry 0)) ()) >>= fun _ =>
    seq ops1 >>= fun _ => Prog.lift (.customCall (SparseCore.inner (Pipeline.entry 1)) ()) >>= fun _ =>
    seq ops2 >>= fun _ => sc.run d 0 >>= fun _ => seq ops3 >>= fun _ => pure ⟨⟩) := rfl

theorem ops0_sub : (ops0 (F := F)).Forall fun op => op.bufs ⊆ StableHlo.tcRefs τ sig := ⟨StableHlo.reshape_bufs_sub .., StableHlo.reshape_bufs_sub ..⟩
theorem ops0_fresh : (ops0 (F := F)).Forall fun op => op.fresh = ∅ := ⟨rfl, rfl⟩
theorem ops1_sub : (ops1 (F := F)).Forall fun op => op.bufs ⊆ StableHlo.tcRefs τ sig := StableHlo.reshape_bufs_sub ..
theorem ops1_fresh : (ops1 (F := F)).Forall fun op => op.fresh = ∅ := rfl
theorem ops2_sub : (ops2 (F := F)).Forall fun op => op.bufs ⊆ StableHlo.tcRefs τ sig :=
  ⟨StableHlo.reshape_bufs_sub .., StableHlo.nullary_bufs_sub .., StableHlo.unary_bufs_sub .., StableHlo.unary_bufs_sub .., StableHlo.nullary_bufs_sub .., StableHlo.unary_bufs_sub .., StableHlo.ternary_bufs_sub ..⟩
theorem ops2_fresh : (ops2 (F := F)).Forall fun op => op.fresh = ∅ := ⟨rfl, rfl, rfl, rfl, rfl, rfl, rfl⟩
theorem ops3_sub : (ops3 (F := F)).Forall fun op => op.bufs ⊆ StableHlo.tcRefs τ sig := StableHlo.unary_bufs_sub ..
theorem ops3_fresh : (ops3 (F := F)).Forall fun op => op.fresh = ∅ := rfl

/-- A straight line whose operations name TensorCore arrays only runs within the unscoped ones. -/
theorem within {ops : List (HloOp τ sig (Elt F))} (h : ops.Forall fun op => op.bufs ⊆ StableHlo.tcRefs τ sig) :
    ∀ op ∈ ops, op.bufs ⊆ ucRefs τ sig := fun op ho => sub_ucRefs op (List.forall_iff_forall_mem.mp h op ho)

variable (m : (ℓ : Loc nD τ sig) → Buf (Elt F) ℓ) (ρ : Dev nD → PrngReg)

/-- What device `d`'s arrays hold when the first call is reached, when it has ended, when the second is reached, when it has
    ended, when the SparseCore call is reached, when it has ended, and at the end. -/
def E0 (d : Dev nD) : Valuation τ sig (Elt F) := after ops0 fun b => m (d, b)
def L0 (d : Dev nD) : Valuation τ sig (Elt F) := left0 (E0 m d) d
def E1 (d : Dev nD) : Valuation τ sig (Elt F) := after ops1 (L0 m d)
def L1 (d : Dev nD) : Valuation τ sig (Elt F) := left1 (E1 m d) d
def E2 (d : Dev nD) : Valuation τ sig (Elt F) := after ops2 (L1 m d)

abbrev tbl (d : Dev nD) : Buf (Elt F) (tLoc d) := E2 m d (dv main_v9)
abbrev lst (d : Dev nD) : Buf (Elt F) (iLoc d) := E2 m d (dv main_v5)
abbrev old (d : Dev nD) : Buf (Elt F) (oLoc d) := E2 m d (dv main_v10)

def L2 (d : Dev nD) : Valuation τ sig (Elt F) := Function.update (E2 m d) (dv main_v10) (rowsOf (tbl m d) (lst m d))
def final (d : Dev nD) : Valuation τ sig (Elt F) := after ops3 (L2 m d)

/-- The SparseCore call's three arrays. -/
def callRefs : Finset (DevRef τ sig) := {(dv main_v5), (dv main_v9), (dv main_v10)}

theorem held_call (d : Dev nD) (W : Valuation τ sig (Elt F)) :
    (held (T d) callRefs W : sProp 𝕄)
      = iprop((iLoc d ↦{fullShare} W (dv main_v5)) ∗ (tLoc d ↦{fullShare} W (dv main_v9)) ∗ oLoc d ↦{fullShare} W (dv main_v10)) := by
  unfold held callRefs
  rw [SparseCore.bigSep_insert' (by decide), SparseCore.bigSep_insert' (by decide), bigSep_singleton]

theorem callRefs_sub : callRefs ⊆ ucRefs τ sig := by decide

theorem L2_rest (d : Dev nD) :
    (held (T d) (ucRefs τ sig \ callRefs) (E2 m d) : sProp 𝕄) = held (T d) (ucRefs τ sig \ callRefs) (L2 m d) :=
  held_congr _ fun b hb => (Function.update_of_ne (fun e => (Finset.mem_sdiff.mp hb).2 (by rw [e]; decide)) _ _).symm

theorem L2_list (d : Dev nD) : L2 m d (dv main_v5) = lst m d := Function.update_of_ne (by decide) _ _
theorem L2_table (d : Dev nD) : L2 m d (dv main_v9) = tbl m d := Function.update_of_ne (by decide) _ _
theorem L2_result (d : Dev nD) : L2 m d (dv main_v10) = rowsOf (tbl m d) (lst m d) := Function.update_self _ _ _

/-- What the SparseCore call is handed, and the rest; -/
theorem split_before (d : Dev nD) :
    (held (d.tc : Thread nD τ) (ucRefs τ sig) (after ops2 (L1 m d)) : sProp 𝕄)
      = iprop(((iLoc d ↦{fullShare} lst m d) ∗ (tLoc d ↦{fullShare} tbl m d) ∗ oLoc d ↦{fullShare} old m d)
          ∗ held (T d) (ucRefs τ sig \ callRefs) (E2 m d)) :=
  (held_sub_split (T d) callRefs_sub (E2 m d)).trans (by rw [held_call])
/-- what it hands back, and the rest. -/
theorem join_after (d : Dev nD) :
    (iprop(((iLoc d ↦{fullShare} lst m d) ∗ (tLoc d ↦{fullShare} tbl m d) ∗ oLoc d ↦{fullShare} rowsOf (tbl m d) (lst m d))
          ∗ held (T d) (ucRefs τ sig \ callRefs) (E2 m d)) : sProp 𝕄)
      = held (d.tc : Thread nD τ) (ucRefs τ sig) (L2 m d) := by
  refine Eq.trans ?_ (held_sub_split (T d) callRefs_sub (L2 m d)).symm
  rw [held_call, L2_list, L2_table, L2_result, L2_rest]

/-! ## The launch -/

abbrev PP : (K (F := F)).Pay (nD := nD) (Val := Elt F) (Name := ℕ) (U := UU) (N := 1) := P (tbl m) (lst m) (old m)

def u₀ : UU := (initOf (K (F := F)).hsCells (K (F := F)).hsToks,
  (initOf (Pipeline.cells (pinned (F := F)) pinned_inj) (Pipeline.launchToks (pinned (F := F)) pinned_inj), 1))

theorem emps {I : Type} (s : Finset I) : (bigSep s fun _ => iprop(emp)) = (iprop(emp) : sProp 𝕄) := bigSep_emp_const s

/-- What each device's TensorCore is given for its two calls. -/
abbrev GG (d : Dev nD) : sProp 𝕄 := iprop(ghostOf 0 d ∗ ghostOf 1 d)

theorem ghosts : (iprop((bigSep Finset.univ fun c : Dev nD => bigSep Finset.univ fun p => Pipeline.cellsGhost (pinned (F := F)) EP p c)
      ∗ (bigSep Finset.univ fun c : Dev nD => bigSep Finset.univ fun p => Pipeline.toksInit (pinned (F := F)) EP p c)) : sProp 𝕄)
    = bigSep Finset.univ GG := by
  rw [← bigSep_sep']
  refine bigSep_congr fun d _ => ?_
  rw [← bigSep_sep', bigSep_univ_eq_bigSepL [0, 1] (by decide) (by decide)]
  rfl

theorem hu₀ : (ownU (u₀ (F := F)) : sProp 𝕄)
    ⊢ |={Set.univ}=> iprop(BI.own (EH (initOf (K (F := F)).hsCells (K (F := F)).hsToks)) ∗ (bigSep Finset.univ GG)
        ∗ bigSep Finset.univ fun thr : Thread nD τ => bigSep Finset.univ fun q : Fin 1 => (PP m).x q thr) := by
  unfold u₀
  iintro Hu
  ihave H := (ownU_parts (F := F) _ _) $$ Hu
  icases H with ⟨HH, HP⟩
  imod (Pipeline.fund_ghost (pinned (F := F)) EP pinned_inj) $$ HP with HG
  ihave HG' := (Entails.of_eq ghosts) $$ HG
  imodintro
  isplitl [HH]; · iexact HH
  isplitl [HG']; · iexact HG'
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), emps]
  iempintro

abbrev FIN (d : Dev nD) : sProp 𝕄 := held (T d) (ucRefs τ sig) (final m d)

/-- What the TensorCore owes is taken out of its part of the SparseCore call, and put back. -/
theorem owes_out (d : Dev nD) : ((K (F := F)).tcSt EH d 0 : sProp 𝕄) ⊢ iprop(OW d ∗ (iprop(OW d) -∗ (K (F := F)).tcSt EH d 0)) := by
  unfold SparseCore.Cfg.tcSt OW
  iintro ⟨HO, Hr⟩
  isplitl [HO]; · iexact HO
  iintro HO
  isplitl [HO]; · iexact HO
  iexact Hr

theorem at_entry (d : Dev nD) : (unscopedBufs d (fun b => m ((SparseCore.T d : Thread nD τ).loc b)) : sProp 𝕄) = held (d.tc : Thread nD τ) (ucRefs τ sig) (fun b => m (d, b)) := by
  rw [← unscopedBufs_held d (fun b => m (d, b))]
theorem heldE0 (d : Dev nD) : (held (d.tc : Thread nD τ) (ucRefs τ sig) (after ops0 fun b => m (d, b)) : sProp 𝕄) = held (d.tc : Thread nD τ) (ucRefs τ sig) (E0 m d) := by unfold E0; rfl
theorem heldL0 (d : Dev nD) : (held (d.tc : Thread nD τ) (ucRefs τ sig) (left0 (E0 m d) d) : sProp 𝕄) = held (d.tc : Thread nD τ) (ucRefs τ sig) (L0 m d) := by unfold L0; rfl
theorem heldE1 (d : Dev nD) : (held (d.tc : Thread nD τ) (ucRefs τ sig) (after ops1 (L0 m d)) : sProp 𝕄) = held (d.tc : Thread nD τ) (ucRefs τ sig) (E1 m d) := by unfold E1; rfl
theorem heldL1 (d : Dev nD) : (held (d.tc : Thread nD τ) (ucRefs τ sig) (left1 (E1 m d) d) : sProp 𝕄) = held (d.tc : Thread nD τ) (ucRefs τ sig) (L1 m d) := by unfold L1; rfl

set_option backward.isDefEq.respectTransparency.types false in
/-- @main on device `d`: every unscoped array ends at `final`. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ GG d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, at_entry]
  iintro ⟨#Hctx, Hst, ⟨Hb, Hheld, Hts, -⟩, HG0, HG1⟩
  ihave #HL := ((K (F := F)).ctx_levAts (EH := EH) (P := PP m) κ) $$ Hctx
  ihave Hst' := (owes_out d) $$ Hst
  icases Hst' with ⟨HO, Hst⟩
  iapply (StableHlo.wp_seq 𝒱 none Set.univ d (ucRefs τ sig) _ ops0 (within ops0_sub) (List.forall_iff_forall_mem.mp ops0_fresh) (fun b => m (d, b))) $$ [Hb Hheld]
  · isplitl [Hb] <;> iassumption
  iintro ⟨Hb, Hheld⟩
  ihave Hheld := (Entails.of_eq (heldE0 m d)) $$ Hheld
  iapply (step_call0 (E0 m d) d _ _)
  isplitr [Hb Hheld HO HG0]
  swap
  · isplitl [Hb]; · iexact Hb
    isplitl [Hheld]; · iexact Hheld
    isplitl [HO]; · iexact HO
    isplitr; · iexact HL
    iexact HG0
  iintro ⟨Hb, Hheld, HO⟩
  ihave Hheld := (Entails.of_eq (heldL0 m d)) $$ Hheld
  iapply (StableHlo.wp_seq 𝒱 none Set.univ d (ucRefs τ sig) _ ops1 (within ops1_sub) (List.forall_iff_forall_mem.mp ops1_fresh) (L0 m d)) $$ [Hb Hheld]
  · isplitl [Hb]; · iexact Hb
    iexact Hheld
  iintro ⟨Hb, Hheld⟩
  ihave Hheld := (Entails.of_eq (heldE1 m d)) $$ Hheld
  iapply (step_call1 (E1 m d) d _ _)
  isplitr [Hb Hheld HO HG1]
  swap
  · isplitl [Hb]; · iexact Hb
    isplitl [Hheld]; · iexact Hheld
    isplitl [HO]; · iexact HO
    isplitr; · iexact HL
    iexact HG1
  iintro ⟨Hb, Hheld, HO⟩
  ihave Hheld := (Entails.of_eq (heldL1 m d)) $$ Hheld
  iapply (StableHlo.wp_seq 𝒱 none Set.univ d (ucRefs τ sig) _ ops2 (within ops2_sub) (List.forall_iff_forall_mem.mp ops2_fresh) (L1 m d)) $$ [Hb Hheld]
  · isplitl [Hb]; · iexact Hb
    iexact Hheld
  iintro ⟨Hb, Hheld⟩
  ihave Hh := (Entails.of_eq (split_before m d)) $$ Hheld
  icases Hh with ⟨Hc, Hrest⟩
  ihave Hst := Hst $$ HO
  rw [wp_bind]
  iapply ((K (F := F)).wp_run (D (F := F)) 𝒱 (EH := EH) (P := PP m) κ d 0) $$ [Hst Hc Hrest Hb Hts]
  isplitr; · iexact Hctx
  isplitl [Hst]; · iexact Hst
  isplitl [Hc]
  · rw [st_eq]; iexact Hc
  iintro ⟨Hst, Hdn⟩
  ihave Hdn' := (Entails.of_eq (dn_eq (tbl m) (lst m) (old m) d)) $$ Hdn
  ihave Hheld := (Entails.of_eq (join_after m d)) $$ [Hdn' Hrest]
  · isplitl [Hdn'] <;> iassumption
  iapply (StableHlo.wp_seq 𝒱 none Set.univ d (ucRefs τ sig) _ ops3 (within ops3_sub) (List.forall_iff_forall_mem.mp ops3_fresh) (L2 m d)) $$ [Hb Hheld]
  · isplitl [Hb] <;> iassumption
  iintro ⟨Hb, Hheld⟩
  rw [wp_pure]
  imodintro
  isplitl [Hst]; · iexact Hst
  isplitl [Hheld]; · iexact Hheld
  isplitl [Hb] <;> iassumption

def fq (d : Dev nD) (s' : Phys nD τ sig (Elt F)) : Prop := ∀ b ∈ ucRefs τ sig, s'.mem.mem (d, b) = final m d b

theorem hfin (d : Dev nD) (s' : Phys nD τ sig (Elt F)) : iprop(FIN m d ∗ SI s') ⊢ (⌜fq m d s'⌝ : sProp 𝕄) := by
  iintro ⟨H, HSI⟩
  iapply (SI_pointsTo_bufs_agree (st := s') (c := d) (qs := fun _ => fullShare) (F := final m d) (ucRefs τ sig)) $$ [H HSI]
  isplitl [HSI]; · iexact HSI
  unfold FIN held; iexact H

/-- Every weakly fair run of the kernel from contents whose list of columns names rows only: it ends, with every unscoped
    array at `final` and every semaphore counter at zero. -/
theorem run_main [∀ e, Nonempty (Elt F e)] (hI : InRange (lst m)) :
    θ_run (Cert.KernelIdeal.defs (F := F)) (Cert.KernelIdeal.threads (F := F)) ⟨m, fun _ => 0, ρ⟩
      fun r => (∀ d : Dev nD, ∀ b ∈ ucRefs τ sig, r.2.mem (d, b) = final m d b) ∧ r.2.sem = fun _ => 0 :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tbl m) (lst m) (old m) facts hI)
    (fun q _ => match q with | 0 => SparseCore.Cfg.VecSplit.of_plain (vecSplit (tbl m) (lst m) (old m)))
    m ρ main GG (FIN m) (u₀ (F := F)) (sep_elim_left.trans (hu₀ m)) (hmain m ρ) (fq m) (hfin m) _ (fun _ h hz => ⟨h, hz⟩)

end Cert.Proof.Whole

end
-- ==== Proof.WholeArrays.lean ====
/-
  THE ARRAYS BETWEEN THE CALLS, over the reals: the first call leaves `x`'s rows over their clipped lengths; the second call's
  groups hold `W`'s rows likewise, and its products are the scores; so it leaves, for every row of `x`, the first column with the
  greatest score, which is one of the 1024. The list and the table of the SparseCore call follow.
-/
module

public import proofs.«01_k».proof.Proof.WholeScores
public import proofs.«01_k».proof.Proof.WholeRun

@[expose] public section

set_option maxRecDepth 16384

noncomputable section

namespace Cert.Proof.Whole

open Cert.KernelIdeal Cert.KernelIdeal.Gen
open Idealize.ShloMosaic Idealize.ShloMosaic.TcCoe
open Idealize.ShloMosaic.Pipeline (Dat Window)
open Idealize.ShloMosaic.StableHlo
open Cert.Proof.Winner
open scoped BigOperators

/-! ## Where the windows' blocks lie -/

theorem at0_0 : ∀ t : Fin grid0.N, win0_0.index t 0 = t.val ∧ win0_0.index t 1 = 0 := by decide +kernel
theorem at0_1 : ∀ t : Fin grid0.N, win0_1.index t 0 = t.val ∧ win0_1.index t 1 = 0 := by decide +kernel
theorem at1_0 : ∀ t : Fin grid1.N, win1_0.index t 0 = t.val / 8 ∧ win1_0.index t 1 = 0 ∧ win1_0.index t 2 = 0 := by decide +kernel
theorem at1_1 : ∀ t : Fin grid1.N, win1_1.index t 0 = 0 ∧ win1_1.index t 1 = 0 := by decide +kernel

theorem size0 : win0_1.size 0 = 32 ∧ win0_1.size 1 = 50176 ∧ (∀ t : Fin grid0.N, win0_1.xsize (grid0.coords t) 0 = 32 ∧ win0_1.xsize (grid0.coords t) 1 = 50176) := by decide +kernel
theorem size1 : win1_1.size 0 = 256 ∧ win1_1.size 1 = 1 ∧ (∀ t : Fin grid1.N, win1_1.xsize (grid1.coords t) 0 = 256 ∧ win1_1.xsize (grid1.coords t) 1 = 1) := by decide +kernel

/-- Element `(r, k)` of the first call's block at point `t`, in the array. -/
theorem emb0_0 (t : Fin grid0.N) (r : Fin 32) (k : Fin 50176) (h : 32 * t.val + r.val < 256) :
    (win0_0.rect t).emb (ValueIdx.ix2 r k) = ValueIdx.ix2 (⟨32 * t.val + r.val, h⟩ : Fin 256) k := by
  funext a; apply Fin.ext
  match a with
  | ⟨0, _⟩ => refine (win0_0.rect_emb_val t _ 0).trans ?_; rw [(at0_0 t).1]; show t.val * 32 + r.val = 32 * t.val + r.val; omega
  | ⟨1, _⟩ => refine (win0_0.rect_emb_val t _ 1).trans ?_; rw [(at0_0 t).2]; show 0 * 50176 + k.val = k.val; omega
theorem emb0_1 (t : Fin grid0.N) (r : Fin 32) (k : Fin 50176) (h : 32 * t.val + r.val < 256) :
    (win0_1.rect t).emb (ValueIdx.ix2 r k) = ValueIdx.ix2 (⟨32 * t.val + r.val, h⟩ : Fin 256) k := by
  funext a; apply Fin.ext
  match a with
  | ⟨0, _⟩ => refine (win0_1.rect_emb_val t _ 0).trans ?_; rw [(at0_1 t).1]; show t.val * 32 + r.val = 32 * t.val + r.val; omega
  | ⟨1, _⟩ => refine (win0_1.rect_emb_val t _ 1).trans ?_; rw [(at0_1 t).2]; show 0 * 50176 + k.val = k.val; omega
/-- Element `(0, 0, k)` of the block of ages at point `t`. -/
theorem emb1_0 (t : Fin grid1.N) (k : Fin 128) (h : t.val / 8 < 8) :
    (win1_0.rect t).emb (ValueIdx.ix3 (0 : Fin 1) (0 : Fin 1) k) = ValueIdx.ix3 (⟨t.val / 8, h⟩ : Fin 8) (0 : Fin 1) k := by
  funext a; apply Fin.ext
  match a with
  | ⟨0, _⟩ => refine (win1_0.rect_emb_val t _ 0).trans ?_; rw [(at1_0 t).1]; show t.val / 8 * 1 + 0 = t.val / 8; omega
  | ⟨1, _⟩ => refine (win1_0.rect_emb_val t _ 1).trans ?_; rw [(at1_0 t).2.1]; show 0 * 1 + 0 = 0; omega
  | ⟨2, _⟩ => refine (win1_0.rect_emb_val t _ 2).trans ?_; rw [(at1_0 t).2.2]; show 0 * 128 + k.val = k.val; omega
/-- The block of columns is the whole array. -/
theorem emb1_1 (t : Fin grid1.N) (y : S256x1.Idx) : (win1_1.rect t).emb y = y := by
  funext a; apply Fin.ext
  match a with
  | ⟨0, _⟩ => refine (win1_1.rect_emb_val t _ 0).trans ?_; rw [(at1_1 t).1]; show 0 * 256 + (y 0).val = (y 0).val; omega
  | ⟨1, _⟩ => refine (win1_1.rect_emb_val t _ 1).trans ?_; rw [(at1_1 t).2]; show 0 * 1 + (y 1).val = (y 1).val; omega

/-- The first call's result blocks tile its array, and the last point's block of columns is the whole array. -/
theorem cover0 (i : S256x50176.Idx) : ∃ t : Fin cfg0.N, (cfg0.win 1).flush t = true ∧ i ∈ ((cfg0.win 1).blk t).view.set := by
  have h0 : (i 0).val < 256 := (i 0).isLt
  have h1 : (i 1).val < 50176 := (i 1).isLt
  have ht : (i 0).val / 32 < grid0.N := by rw [show grid0.N = 8 by decide]; omega
  refine ⟨⟨(i 0).val / 32, ht⟩, flush0_1 _, ?_⟩
  show i ∈ ((View.whole main_v2).slice (win0_1.rect ⟨(i 0).val / 32, ht⟩)).set
  rw [View.set_slice_whole, Rect.mem_set_unit]
  intro a
  obtain ⟨s0, s1, sx⟩ := size0
  match a with
  | ⟨0, _⟩ =>
    show win0_1.index ⟨(i 0).val / 32, ht⟩ 0 * win0_1.size 0 ≤ (i 0).val ∧ (i 0).val < win0_1.index ⟨(i 0).val / 32, ht⟩ 0 * win0_1.size 0 + win0_1.xsize (grid0.coords ⟨(i 0).val / 32, ht⟩) 0
    rw [(at0_1 _).1, s0, (sx _).1]; dsimp only; omega
  | ⟨1, _⟩ =>
    show win0_1.index ⟨(i 0).val / 32, ht⟩ 1 * win0_1.size 1 ≤ (i 1).val ∧ (i 1).val < win0_1.index ⟨(i 0).val / 32, ht⟩ 1 * win0_1.size 1 + win0_1.xsize (grid0.coords ⟨(i 0).val / 32, ht⟩) 1
    rw [(at0_1 _).2, (sx _).2]; omega
theorem cover1 (i : S256x1.Idx) : ∃ t : Fin cfg1.N, (cfg1.win 1).flush t = true ∧ i ∈ ((cfg1.win 1).blk t).view.set := by
  have h0 : (i 0).val < 256 := (i 0).isLt
  have h1 : (i 1).val < 1 := (i 1).isLt
  have ht : 63 < grid1.N := by decide
  refine ⟨⟨63, ht⟩, (flush1_1 ⟨63, ht⟩).mpr rfl, ?_⟩
  show i ∈ ((View.whole main_v4).slice (win1_1.rect ⟨63, ht⟩)).set
  rw [View.set_slice_whole, Rect.mem_set_unit]
  intro a
  obtain ⟨s0, s1, sx⟩ := size1
  match a with
  | ⟨0, _⟩ =>
    show win1_1.index ⟨63, ht⟩ 0 * win1_1.size 0 ≤ (i 0).val ∧ (i 0).val < win1_1.index ⟨63, ht⟩ 0 * win1_1.size 0 + win1_1.xsize (grid1.coords ⟨63, ht⟩) 0
    rw [(at1_1 _).1, (sx _).1]; omega
  | ⟨1, _⟩ =>
    show win1_1.index ⟨63, ht⟩ 1 * win1_1.size 1 ≤ (i 1).val ∧ (i 1).val < win1_1.index ⟨63, ht⟩ 1 * win1_1.size 1 + win1_1.xsize (grid1.coords ⟨63, ht⟩) 1
    rw [(at1_1 _).2, (sx _).2]; omega

/-! ## The two calls' results -/

/-! What a result window writes back is what it holds, and an array read through its block is the array at the block's place. -/
theorem cut0 (t : Fin cfg0.N) (X : S32x50176.Idx → Elt Ideal .bf16) (y : S32x50176.Idx) : (cfg0.win 1).cut (cfg0.grid.coords t) X y = X y := rfl
theorem cut1 (t : Fin cfg1.N) (X : S256x1.Idx → Elt Ideal .i32) (y : S256x1.Idx) : (cfg1.win 1).cut (cfg1.grid.coords t) X y = X y := rfl
theorem read0 (t : Fin cfg0.N) (G : S256x50176.Idx → Elt Ideal .bf16) (y : S32x50176.Idx) :
    ((cfg0.win 1).blk t).view.read (Elt Ideal) G y = G ((win0_1.rect t).emb y) := rfl
theorem read1 (t : Fin cfg1.N) (G : S256x1.Idx → Elt Ideal .i32) (y : S256x1.Idx) :
    ((cfg1.win 1).blk t).view.read (Elt Ideal) G y = G ((win1_1.rect t).emb y) := rfl

section Results
variable (A : Valuation τ sig (Elt Ideal)) (c : Dev nD)

/-- `x`'s rows, as the first call finds them. -/
def xIn (b : Fin 256) (k : Fin 50176) : EReal := (A (dv main_v0) : FVec Ideal S256x50176 .f32) (ValueIdx.ix2 b k)

/-- The first call's result: each row over its clipped length. -/
theorem left0_rows : left0 A c (dv main_v2) = (fun i => unit (xIn A (i 0)) (i 1) : FVec Ideal S256x50176 .bf16) := by
  rw [left0_self]
  refine (dat0 A c).arrAt_eq_of_cover 1 _ (fun t _ => ?_) cover0
  show (cfg0.win 1).cut (grid0.coords t) ((dat0 A c).after 1 t) = _
  rw [after0_out]
  unfold rows0
  refine funext fun (y : S32x50176.Idx) => ?_
  obtain ⟨r, k, rfl⟩ : ∃ (r : Fin 32) (k : Fin 50176), y = ValueIdx.ix2 r k := ⟨y 0, y 1, ValueIdx.eq_ix2 y⟩
  have ht : 32 * t.val + r.val < 256 := by
    have : t.val < 8 := t.isLt
    omega
  refine (cut0 t _ _).trans ((pay1_rows (blk0 A 0 t) r k).trans (Eq.trans ?_ (read0 t _ _).symm))
  rw [emb0_1 t r k ht]
  refine congrArg (unit · k) (funext fun j => ?_)
  show (A (dv main_v0) : FVec Ideal S256x50176 .f32) ((win0_0.rect t).emb (ValueIdx.ix2 r j)) = _
  rw [emb0_0 t r j ht]
  rfl

/-- The second call's result: the columns its search ends at. -/
theorem left1_columns : left1 A c (dv main_v4) = columnsAt A c := by
  rw [left1_self]
  refine (dat1 A c).arrAt_eq_of_cover 1 _ (fun t _ => ?_) cover1
  show (cfg1.win 1).cut (grid1.coords t) ((dat1 A c).after 1 t) = _
  rw [after1_out]
  refine funext fun (y : S256x1.Idx) => ?_
  refine (cut1 t _ _).trans (Eq.trans ?_ (read1 t _ _).symm)
  rw [emb1_1]

/-- A block of `W`'s rows, read. -/
theorem wBlk_read (XW : Buf (Elt Ideal) (wM.view.loc (c : Thread nD τ))) (b : Fin 64) (r : Fin 16) (k : Fin 50176) :
    (wBlk b).view.read (Elt Ideal) XW (ValueIdx.ix2 r k) = (XW : FVec Ideal S64x16x50176 .f32) (ValueIdx.ix3 b r k) := by
  show shapeCast S16x50176 (fun y : S1x16x50176.Idx => (XW : FVec Ideal S64x16x50176 .f32) ((Rect.unit (s := S64x16x50176) (blkOff b) S1x16x50176.size (blkOff_inb b)).emb y))
    shapeCasts_S1x16x50176_S16x50176 (ValueIdx.ix2 r k) = _
  refine (shapeCast_apply _ _ _ (ValueIdx.ix3 (0 : Fin 1) r k) ?_).trans ?_
  · rw [Shape.rowMajor_val_three, Shape.rowMajor_val_two]
    show (0 * 16 + r.val) * 50176 + k.val = r.val * 50176 + k.val
    omega
  · refine congrArg XW (funext fun a => Fin.ext ?_)
    match a with
    | ⟨0, _⟩ => show b.val + 1 * 0 = b.val; omega
    | ⟨1, _⟩ => show 0 + 1 * r.val = r.val; omega
    | ⟨2, _⟩ => show 0 + 1 * k.val = k.val; omega

end Results

end Cert.Proof.Whole

end
-- ==== Proof.WholeWinners.lean ====
/-
  WHAT THE WHOLE KERNEL ENDS WITH, over the reals, in terms of its arguments: the list handed to the SparseCore call holds for
  every row of `x` the first column with the greatest score, which is one of the 1024; the table is the transpose of `W_y2z`
  over columns 0 to 100; and entry `(b, z)` of the result is `W_y2z (z, i b)`.
-/
module

public import proofs.«01_k».proof.Proof.WholeArrays
public import proofs.«01_k».proof.Proof.GatherValue

@[expose] public section

set_option maxRecDepth 16384

noncomputable section

namespace Cert.Proof.Whole

open Cert.KernelIdeal Cert.KernelIdeal.Gen
open Idealize.ShloMosaic Idealize.ShloMosaic.TcCoe
open Idealize.ShloMosaic.StableHlo
open Idealize.ShloMosaic.Pipeline (ucRefs)
open Idealize.SL.Sem
open Cert.Proof.Winner
open scoped BigOperators

/-! ## The scores of the arguments -/

section Scores
variable (X : FVec Ideal S256x224x224 .f32) (W : FVec Ideal S1024x50176 .f32) (G : FVec Ideal S1x1024 .f32)

/-- Row `b` of `x`; row `c` of `W`; the age of column `c`. -/
def xRow (b : Fin 256) (k : Fin 50176) : EReal := shapeCast S256x50176 X shapeCasts_S256x224x224_S256x50176 (ValueIdx.ix2 b k)
def wRow (c : Fin 1024) (k : Fin 50176) : EReal := W (ValueIdx.ix2 c k)
def ageOf (c : Fin 1024) : EReal := G (ValueIdx.ix2 (0 : Fin 1) c)

/-- The scores of row `b`, along the columns. -/
def rowScore (b : Fin 256) (n : ℕ) : EReal := if h : n < 1024 then score (xRow X) (wRow W) (ageOf G) b ⟨n, h⟩ else ⊥

theorem rowScore_of_lt (b : Fin 256) (n : ℕ) (h : n < 1024) : rowScore X W G b n = score (xRow X) (wRow W) (ageOf G) b ⟨n, h⟩ := dif_pos h

/-- A sum of products times a factor, where the rows are over their clipped lengths and the age is the column's, is the score. -/
theorem score_of {B C K : Nat} (x : Fin B → Fin K → EReal) (w : Fin C → Fin K → EReal) (age : Fin C → EReal) (b : Fin B) (c : Fin C)
    (f g : Fin K → EReal) (a : EReal) (hf : ∀ k, f k = unit (x b) k) (hg : ∀ k, g k = unit (w c) k) (ha : a = age c) :
    (∑ k, f k * g k) * act a = score x w age b c := by
  unfold score
  rw [ha, Finset.sum_congr rfl fun k _ => by rw [hf, hg]]

/-- A list of columns is the winners' when every word names the first column with its row's greatest score. -/
def Winners (I : IVec S256 32) : Prop := ∀ b : Fin 256, ∃ c, FirstMax (rowScore X W G b) 1024 c ∧ I (ValueIdx.ix1 b) = BitVec.ofNat 32 c

variable {X W G}

theorem Winners.lt {I : IVec S256 32} (h : Winners X W G I) (j : S256.Idx) : (I j).toNat < 1024 := by
  obtain ⟨b, rfl⟩ : ∃ b : Fin 256, j = ValueIdx.ix1 b := ⟨j 0, by funext a; fin_cases a; rfl⟩
  obtain ⟨c, hc, e⟩ := h b
  have := hc.1
  rw [e, BitVec.toNat_ofNat, Nat.mod_eq_of_lt (by omega)]
  exact this

theorem Winners.unique {I J : IVec S256 32} (h : Winners X W G I) (h' : Winners X W G J) : I = J := by
  funext j
  obtain ⟨b, rfl⟩ : ∃ b : Fin 256, j = ValueIdx.ix1 b := ⟨j 0, by funext a; fin_cases a; rfl⟩
  obtain ⟨c, hc, e⟩ := h b
  obtain ⟨c', hc', e'⟩ := h' b
  rw [e, e', hc.unique hc']

end Scores

/-! ## The arrays before and after each call -/

variable (m : (ℓ : Loc nD τ sig) → Buf (Elt Ideal) ℓ) (ρ : Dev nD → PrngReg) (d : Dev nD)

theorem E0_rows : E0 m d (dv main_v0) = shapeCast S256x50176 (m (d, dv main_arg0)) shapeCasts_S256x224x224_S256x50176 := by
  unfold E0 ops0; after_results <;> rfl
theorem E0_weights : E0 m d (dv main_v1) = shapeCast S64x16x50176 (m (d, dv main_arg7)) shapeCasts_S1024x50176_S64x16x50176 := by
  unfold E0 ops0; after_results <;> rfl
theorem E1_weights : E1 m d (dv main_v1) = shapeCast S64x16x50176 (m (d, dv main_arg7)) shapeCasts_S1024x50176_S64x16x50176 := by
  unfold E1 ops1
  rw [show after _ (L0 m d) (dv main_v1) = L0 m d (dv main_v1) by after_results <;> rfl]
  unfold L0
  rw [left0_rest _ _ _ (by decide), E0_weights]
theorem E1_rows : E1 m d (dv main_v2) = (fun i => unit (xRow (m (d, dv main_arg0)) (i 0)) (i 1) : FVec Ideal S256x50176 .bf16) := by
  unfold E1 ops1
  rw [show after _ (L0 m d) (dv main_v2) = L0 m d (dv main_v2) by after_results <;> rfl]
  unfold L0
  rw [left0_rows]
  funext i
  unfold xIn xRow
  rw [E0_rows]
theorem E1_ages : E1 m d (dv main_v3) = shapeCast S8x1x128 (m (d, dv main_arg10)) shapeCasts_S1x1024_S8x1x128 := by
  unfold E1 ops1
  rw [show after _ (L0 m d) (dv main_v3) = shapeCast S8x1x128 (L0 m d (dv main_arg10)) shapeCasts_S1x1024_S8x1x128 by after_results <;> rfl]
  unfold L0
  rw [left0_rest _ _ _ (by decide), show E0 m d (dv main_arg10) = m (d, dv main_arg10) by unfold E0 ops0; after_results <;> rfl]

theorem lst_eq : lst m d = shapeCast S256 (columnsAt (E1 m d) d) shapeCasts_S256x1_S256 := by
  show E2 m d (dv main_v5) = _
  unfold E2 ops2
  rw [show after _ (L1 m d) (dv main_v5) = shapeCast S256 (L1 m d (dv main_v4)) shapeCasts_S256x1_S256 by after_results <;> rfl]
  unfold L1
  rw [left1_columns]

/-- What @main and its calls write. -/
def written : List (Ref sig .tc) :=
  [main_v0, main_v1, main_v2, main_v3, main_v4, main_v5, main_cst, main_v6, main_v7, main_c, main_v8, main_v9, main_v10, main_v11]

/-- The second call's end finds what nothing before it writes as it was launched. -/
theorem L1_kept (r : Ref sig .tc) (h0 : r ∉ [main_v0, main_v1]) (h1 : r ∉ [main_v3]) (h2 : dv r ≠ dv main_v2) (h4 : dv r ≠ dv main_v4) :
    L1 m d (dv r) = m (d, dv r) := by
  unfold L1
  rw [left1_rest _ _ _ h4]
  unfold E1
  rw [after_of_writes_sub ops1 _ (forall_writes_sub_of_map (W := [main_v3]) rfl) h1]
  unfold L0
  rw [left0_rest _ _ _ h2]
  unfold E0
  rw [after_of_writes_sub ops0 _ (forall_writes_sub_of_map (W := [main_v0, main_v1]) rfl) h0]

/-- So does the end of @main. -/
theorem final_kept (r : Ref sig .tc) (h : r ∉ written) : final m d (dv r) = m (d, dv r) := by
  have ne : ∀ b ∈ written, dv r ≠ dv b := fun b hb e => h (Proc.devRef_injective _ e ▸ hb)
  unfold final
  rw [after_of_writes_sub ops3 _ (forall_writes_sub_of_map (W := [main_v11]) rfl) fun hr => h (by revert hr; simp +contextual [written])]
  unfold L2
  rw [Function.update_of_ne (ne _ (by simp [written]))]
  unfold E2
  rw [after_of_writes_sub ops2 _ (forall_writes_sub_of_map (W := [main_v5, main_cst, main_v6, main_v7, main_c, main_v8, main_v9]) rfl) fun hr => h (by
    simp only [List.mem_cons, List.not_mem_nil, or_false] at hr; simp only [written, List.mem_cons]; tauto)]
  refine L1_kept m d r (fun hr => h ?_) (fun hr => h ?_) (ne _ (by simp [written])) (ne _ (by simp [written]))
  · simp only [List.mem_cons, List.not_mem_nil, or_false] at hr; simp only [written, List.mem_cons]; tauto
  · simp only [List.mem_cons, List.not_mem_nil, or_false] at hr; simp only [written, List.mem_cons]; tauto

theorem tbl_eq : tbl m d = Host.scatter scatter_S1024x128_S1_S1024x101_01_n_1_0 (fun _ b => b)
    (broadcastInDim S1024x128 ![] bcast_S_S1024x128 (constant (F := Ideal) S_ .f32 0x00000000#32)) (broadcastInDim S1 ![] bcast_S_S1 (constantI S_ 32 0#32))
    (transpose S1024x101 [1, 0] (m (d, dv main_arg8)) transposes_S101x1024_S1024x101_1_0) := by
  have h : L1 m d (dv main_arg8) = m (d, dv main_arg8) :=
    L1_kept m d main_arg8 (by decide) (by decide) (by decide) (by decide)
  rw [← h]
  show E2 m d (dv main_v9) = _
  unfold E2 ops2
  after_results <;> rfl

theorem final_result : final m d (dv main_v11)
    = extractStridedSlice S256x101 ![0, 0] (rowsOf (tbl m d) (lst m d)) slices_S256x128_S256x101_0_0 := by
  unfold final ops3
  rw [show after _ (L2 m d) (dv main_v11) = extractStridedSlice S256x101 ![0, 0] (L2 m d (dv main_v10)) slices_S256x128_S256x101_0_0 by
    after_results <;> rfl, L2_result]

/-! ## The list -/

/-- A group's rows are `W`'s rows `128 g` to `128 g + 127`, each over its clipped length; -/
theorem groupRows_apply (g : ℕ) (hg : g < 8) (c : Fin 128) (k : Fin 50176) (h : 128 * g + c.val < 1024) :
    groupRows d (wAt (E1 m d) d) g (ValueIdx.ix2 c k) = unit (wRow (m (d, dv main_arg7)) ⟨128 * g + c.val, h⟩) k := by
  unfold groupRows rowsNorm
  refine (wnorm_rows _ (⟨c.val % 16, Nat.mod_lt _ (by decide)⟩ : Fin 16) k).trans (congrArg (unit · k) (funext fun j => ?_))
  rw [wBlk_read]
  unfold wRow
  refine (congrFun (E1_weights m d) _).trans (shapeCast_apply _ _ _ _ ?_)
  refine (Shape.rowMajor_val_two (d := ![1024, 50176]) _).trans (Eq.trans ?_ (Shape.rowMajor_val_three (d := ![64, 16, 50176]) _).symm)
  have e : (Ring.bk 64 (8 * g + c.val / 16)).val = 8 * g + c.val / 16 := Ring.bk_val (by omega)
  show (128 * g + c.val) * 50176 + j.val = ((Ring.bk 64 (8 * g + c.val / 16)).val * 16 + c.val % 16) * 50176 + j.val
  rw [e]
  omega

/-- its ages are the ages of those columns. -/
theorem age_apply (g : ℕ) (hg : g < 8) (c : Fin 128) (h : 128 * g + c.val < 1024) :
    ageAt (E1 m d) (endPt g) (ValueIdx.ix3 (0 : Fin 1) (0 : Fin 1) c) = ageOf (m (d, dv main_arg10)) ⟨128 * g + c.val, h⟩ := by
  have hp : (endPt g).val = 8 * g + 7 := Nat.mod_eq_of_lt (by omega)
  have h8 : (endPt g).val / 8 < 8 := by rw [hp]; omega
  refine Eq.trans (b := (E1 m d (dv main_v3) : FVec Ideal S8x1x128 .f32) ((win1_0.rect (endPt g)).emb (ValueIdx.ix3 (0 : Fin 1) (0 : Fin 1) c))) rfl ?_
  rw [emb1_0 _ c h8, E1_ages]
  unfold ageOf
  refine shapeCast_apply _ _ _ _ ?_
  refine (Shape.rowMajor_val_two (d := ![1, 1024]) _).trans (Eq.trans ?_ (Shape.rowMajor_val_three (d := ![8, 1, 128]) _).symm)
  show 0 * 1024 + (128 * g + c.val) = ((endPt g).val / 8 * 1 + 0) * 128 + c.val
  rw [hp]
  omega

/-- The rows the groups are multiplied with are `x`'s, each over its clipped length. -/
theorem xVal_eq (X : Buf (Elt Ideal) (xM.view.loc (d : Thread nD τ))) : xVal d X = X := rfl
theorem x_apply (b : Fin 256) (k : Fin 50176) : xVal d (xAt (E1 m d) d) (ValueIdx.ix2 b k) = unit (xRow (m (d, dv main_arg0)) b) k := by
  rw [xVal_eq]
  exact congrFun (E1_rows m d) (ValueIdx.ix2 b k)

/-- So a group's products are its columns' scores; -/
theorem group_products (b : Fin 256) (g : ℕ) (hg : g < 8) (c : Fin 128) :
    k1_pay1 (F := Ideal) (xVal d (xAt (E1 m d) d)) (groupRows d (wAt (E1 m d) d) g) (ageAt (E1 m d) (endPt g)) (ValueIdx.ix2 b c)
      = rowScore (m (d, dv main_arg0)) (m (d, dv main_arg7)) (m (d, dv main_arg10)) b (128 * g + c.val) := by
  have h : 128 * g + c.val < 1024 := by omega
  rw [products_apply, rowScore_of_lt _ _ _ _ _ h]
  exact score_of _ _ _ _ _ _ _ _ (x_apply m d b) (fun k => groupRows_apply m d g hg c k h) (age_apply m d g hg c h)

/-- and the list holds the winners. -/
theorem lst_winners : Winners (m (d, dv main_arg0)) (m (d, dv main_arg7)) (m (d, dv main_arg10)) (lst m d) := fun b => by
  obtain ⟨c, hc, -, hi⟩ := run_at d (wAt (E1 m d) d) (xVal d (xAt (E1 m d) d)) (ageAt (E1 m d)) b _ (fun g hg c => group_products m d b g hg c) 7 (by decide)
  refine ⟨c, hc, ?_⟩
  rw [lst_eq]
  refine (shapeCast_apply _ _ _ (ValueIdx.ix2 b (0 : Fin 1)) ?_).trans hi
  rw [Shape.rowMajor_val_two, Shape.rowMajor_val_one]
  show b.val * 1 + 0 = b.val
  omega

/-! ## The result -/

/-- The kernel's result. -/
theorem kernel_value : final m d (dv main_v11) = Gather.picked (m (d, dv main_arg8)) (lst m d) := by
  rw [final_result, tbl_eq]
  funext j
  obtain ⟨b, z, rfl⟩ : ∃ (b : Fin 256) (z : Fin 101), j = ValueIdx.ix2 b z := ⟨j 0, j 1, ValueIdx.eq_ix2 j⟩
  have hz : z.val < 128 := by omega
  refine Eq.trans (b := Host.scatter scatter_S1024x128_S1_S1024x101_01_n_1_0 (fun _ b => b)
    (broadcastInDim S1024x128 ![] bcast_S_S1024x128 (constant (F := Ideal) S_ .f32 0x00000000#32)) (broadcastInDim S1 ![] bcast_S_S1 (constantI S_ 32 0#32))
    (transpose S1024x101 [1, 0] (m (d, dv main_arg8)) transposes_S101x1024_S1024x101_1_0)
    (ValueIdx.ix2 (⟨(lst m d (ValueIdx.ix1 b)).toNat % 1024, Nat.mod_lt _ (by decide)⟩ : Fin 1024) (⟨z.val, hz⟩ : Fin 128))) ?_ ?_
  · unfold extractStridedSlice rowsOf
    congr 1
    funext a
    fin_cases a
    · apply Fin.ext
      simp [ValueIdx.ix2, ix2]
      congr 3
    · apply Fin.ext
      simp [ValueIdx.ix2, ix2]
  · refine (Table.table_apply _ _ _ (fun _ => rfl) _ _ z hz).trans ?_
    exact ValueIdx.transpose_ix2_apply _ _ _ _

/-- Every weakly fair run of the kernel ends, with the result at the columns of `W_y2z` the list names, everything that nothing
    writes as it was, and every semaphore counter at zero. -/
theorem run_values : θ_run (Cert.KernelIdeal.defs (F := Ideal)) (Cert.KernelIdeal.threads (F := Ideal)) ⟨m, fun _ => 0, ρ⟩
    fun r => (∀ d : Dev nD, r.2.mem (d, dv main_v11) = Gather.picked (m (d, dv main_arg8)) (lst m d)
      ∧ ∀ b : Ref sig .tc, b ∉ written → dv b ∈ ucRefs τ sig → r.2.mem (d, dv b) = m (d, dv b)) ∧ r.2.sem = fun _ => 0 :=
  (θ_run Cert.KernelIdeal.defs _ _).mono
    (fun _ h => ⟨fun d => ⟨(h.1 d _ (by decide)).trans (kernel_value m d), fun b hb hu => (h.1 d _ hu).trans (final_kept m d b hb)⟩, h.2⟩)
    (run_main m ρ fun d j => (lst_winners m d).lt j)

end Cert.Proof.Whole

end
-- ==== Proof.ReferenceColumns.lean ====
/-
  THE REFERENCE'S LIST OF COLUMNS, over the reals: the negated scores are sorted along each row, and the first place of a stable
  sort is the first column with the greatest score. So the reference's list is the winners' list, and its result is `W_y2z` at
  those columns.
-/
module

public import proofs.«01_k».proof.Proof.WholeWinners
public import proofs.«01_k».proof.Proof.Gen.ReferenceIdeal
public import proofs.«01_k».proof.Proof.Gen.ReferenceIdeal.Run

@[expose] public section

set_option maxRecDepth 16384

noncomputable section

namespace Cert.Proof.Reference

open Cert.ReferenceIdeal Cert.ReferenceIdeal.Gen
open Idealize.ShloMosaic Idealize.ShloMosaic.TcCoe
open Idealize.ShloMosaic.StableHlo
open Cert.Proof.Winner Cert.Proof.Whole
open scoped BigOperators

/-- The sort's comparison of two pairs: no value here is unlike itself, so it compares the first components. -/
theorem comparator_eq (l r : EReal × BitVec 32) : comparator_f32_i32_d1 (F := Ideal) l r = Ideal.cmp .olt l.1 r.1 := by
  have z : Ideal.ofBits .f32 0x00000000#32 = 0 := Ideal.ofBits_zero_f32
  have key : ∀ v w : EReal, Scalar.select (Ideal.cmp .une v v) w (Scalar.select (Ideal.cmp .oeq v (Ideal.ofBits .f32 0x00000000#32)) (Ideal.ofBits .f32 0x00000000#32) v) = v := fun v w => by
    rw [z]
    by_cases h : v = 0 <;> simp [Ideal.cmp, Scalar.select, h]
  unfold comparator_f32_i32_d1
  show Ideal.cmp .olt (Scalar.select (Ideal.cmp .une l.1 l.1) _ (Scalar.select (Ideal.cmp .oeq l.1 (Ideal.ofBits .f32 0x00000000#32)) (Ideal.ofBits .f32 0x00000000#32) l.1))
    (Scalar.select (Ideal.cmp .une r.1 r.1) _ (Scalar.select (Ideal.cmp .oeq r.1 (Ideal.ofBits .f32 0x00000000#32)) (Ideal.ofBits .f32 0x00000000#32) r.1)) = _
  rw [key, key]

theorem along_row {R n : Nat} (b : Fin R) (z k : Fin n) : Shape.Idx.along (s := ⟨2, ![R, n]⟩) (ValueIdx.ix2 b z) 1 k = ValueIdx.ix2 b k := by
  unfold Shape.Idx.along
  funext a
  fin_cases a <;> rfl

/-- The second operand of a sort along the rows, read at `(b, z)`. -/
theorem sort_second {R n : Nat} {α β : Type} (cmp : α × β → α × β → BitVec 1) (x : (⟨2, ![R, n]⟩ : Shape).Idx → α) (y : (⟨2, ![R, n]⟩ : Shape).Idx → β) (b : Fin R) (z : Fin n) :
    (Host.sort2 ⟨2, ![R, n]⟩ 1 cmp x y).2 (ValueIdx.ix2 b z)
      = y (ValueIdx.ix2 b (sortedFrom (fun k k' => cmp (x (ValueIdx.ix2 b k), y (ValueIdx.ix2 b k)) (x (ValueIdx.ix2 b k'), y (ValueIdx.ix2 b k')) == 1#1) z)) := by
  unfold Host.sort2
  rw [dif_pos (show 1 < (⟨2, ![R, n]⟩ : Shape).rank from Nat.lt_succ_self 1)]
  refine (congrArg y (along_row b z _)).trans (congrArg (fun B : Fin n → Fin n → Bool => y (ValueIdx.ix2 b (sortedFrom B z))) (funext fun k => funext fun k' => ?_))
  exact congrArg₂ (fun i j => cmp (x i, y i) (x j, y j) == 1#1) (along_row b z k) (along_row b z k')

/-- Where a row holds the negated scores, the first place of its sort holds the first column with the greatest score. -/
theorem sorted_first (S : FVec Ideal S256x1024 .f32) (b : Fin 256) (s : ℕ → EReal) (hS : ∀ k : Fin 1024, S (ValueIdx.ix2 b k) = - s k.val) :
    ∃ c, FirstMax s 1024 c ∧ (Host.sort2 S256x1024 1 comparator_f32_i32_d1 S (iotaInDim S256x1024 32 1)).2 (ValueIdx.ix2 b (0 : Fin 1024)) = BitVec.ofNat 32 c := by
  refine ⟨_, sortedFrom_zero s (fun k k' => comparator_f32_i32_d1 (F := Ideal) (S (ValueIdx.ix2 b k), iotaInDim S256x1024 32 1 (ValueIdx.ix2 b k)) (S (ValueIdx.ix2 b k'), iotaInDim S256x1024 32 1 (ValueIdx.ix2 b k')) == 1#1)
    (fun k k' => ?_) (0 : Fin 1024) rfl, ?_⟩
  · rw [comparator_eq, hS, hS]
    by_cases h : - s k.val < - s k'.val <;> simp [Ideal.cmp, h]
  · exact sort_second comparator_f32_i32_d1 S (iotaInDim S256x1024 32 1) b (0 : Fin 1024)

/-! ## The scores -/

section Scores
variable (X : FVec Ideal S256x224x224 .f32) (W : FVec Ideal S1024x50176 .f32) (G : FVec Ideal S1x1024 .f32)

/-- `x` and `W`, each row over its clipped length, and the factors of the ages, as the reference writes them. -/
def xUnit : FVec Ideal S256x50176 .f32 :=
  Host.divf (shapeCast S256x50176 X shapeCasts_S256x224x224_S256x50176) (broadcastInDim S256x50176 ![0, 1] bcast_S256x1_S256x50176_0_1 (maximumf (Host.sqrt (broadcastInDim S256x1 ![0] bcast_S256_S256x1_0
    (Host.reduceAdd (mulf (shapeCast S256x50176 X shapeCasts_S256x224x224_S256x50176) (shapeCast S256x50176 X shapeCasts_S256x224x224_S256x50176)) (constant S_ .f32 0x00000000#32) reducesTo_S256x50176_S256_d1 h_S_)))
    (broadcastInDim S256x1 ![] bcast_S_S256x1 (constant S_ .f32 0x2B8CBCCC#32))))
def wUnit : FVec Ideal S1024x50176 .f32 :=
  Host.divf W (broadcastInDim S1024x50176 ![0, 1] bcast_S1024x1_S1024x50176_0_1 (maximumf (Host.sqrt (broadcastInDim S1024x1 ![0] bcast_S1024_S1024x1_0
    (Host.reduceAdd (mulf W W) (constant S_ .f32 0x00000000#32) reducesTo_S1024x50176_S1024_d1 h_S_))) (broadcastInDim S1024x1 ![] bcast_S_S1024x1 (constant S_ .f32 0x2B8CBCCC#32))))
def factors : FVec Ideal S256x1024 .f32 :=
  broadcastInDim S256x1024 ![0, 1] bcast_S1x1024_S256x1024_0_1 (uitofp .f32 (cmpf .oge G (broadcastInDim S1x1024 ![] bcast_S_S1x1024 (constant S_ .f32 0x3F800000#32))))
/-- The negated scores, and the list. -/
def negScores : FVec Ideal S256x1024 .f32 :=
  Host.negf (mulf (Host.dotGeneral dot_S256x50176_S50176x1024_S256x1024_1_0_0_1_n_n none (xUnit X) (transpose S50176x1024 [1, 0] (wUnit W) transposes_S1024x50176_S50176x1024_1_0)) (factors G))
def columnList : IVec S256 32 :=
  shapeCast S256 (extractStridedSlice S256x1 ![0, 0] (Host.sort2 S256x1024 1 comparator_f32_i32_d1 (negScores X W G) (iotaInDim S256x1024 32 1)).2 slices_S256x1024_S256x1_0_0) shapeCasts_S256x1_S256

theorem xUnit_apply (b : Fin 256) (k : Fin 50176) : xUnit X (ValueIdx.ix2 b k) = unit (xRow X b) k :=
  host_rows (R := 256) (K := 50176) _ reducesTo_S256x50176_S256_d1 (by decide) h_S_ bcast_S256_S256x1_0 bcast_S_S256x1 bcast_S256x1_S256x50176_0_1 b k
theorem wUnit_apply (c : Fin 1024) (k : Fin 50176) : wUnit W (ValueIdx.ix2 c k) = unit (wRow W c) k :=
  host_rows (R := 1024) (K := 50176) W reducesTo_S1024x50176_S1024_d1 (by decide) h_S_ bcast_S1024_S1024x1_0 bcast_S_S1024x1 bcast_S1024x1_S1024x50176_0_1 c k

theorem factors_apply (b : Fin 256) (c : Fin 1024) : factors G (ValueIdx.ix2 b c) = act (ageOf G c) := by
  unfold factors
  rw [broadcastInDim_apply (t := S256x1024) ![0, 1] bcast_S1x1024_S256x1024_0_1 _ (ValueIdx.ix2 b c) (ValueIdx.ix2 (0 : Fin 1) c) (fun a => by fin_cases a <;> rfl)]
  show ((((Ideal.cmp .oge (G (ValueIdx.ix2 (0 : Fin 1) c)) (Ideal.ofBits .f32 0x3F800000#32)).toNat : ℕ) : ℝ) : EReal) = _
  rw [Ideal.ofBits_one_f32]
  rfl

/-- A negated product, read at an index. -/
theorem neg_mul_at {t : Shape} (x y : FVec Ideal t .f32) (i : t.Idx) : Host.negf (mulf x y) i = - (x i * y i) := rfl

theorem negScores_apply (b : Fin 256) (c : Fin 1024) : negScores X W G (ValueIdx.ix2 b c) = - rowScore X W G b c.val := by
  unfold negScores
  rw [neg_mul_at, factors_apply, rowScore_of_lt _ _ _ _ _ c.isLt]
  refine congrArg Neg.neg (Eq.trans (congrArg (· * act (ageOf G c)) ((StackMember.dotGeneral_plain_apply (m := 256) (k := 50176) (n := 1024) none (xUnit X)
    (transpose S50176x1024 [1, 0] (wUnit W) transposes_S1024x50176_S50176x1024_1_0) b c)))
    (score_of (xRow X) (wRow W) (ageOf G) b c _ _ _ (xUnit_apply X b) (fun k => (ValueIdx.transpose_ix2_apply _ _ _ _).trans (wUnit_apply W c k)) rfl))

/-- The list is the winners'. -/
theorem columnList_winners : Winners X W G (columnList X W G) := fun b => by
  obtain ⟨c, hc, e⟩ := sorted_first (negScores X W G) b (rowScore X W G b) (negScores_apply X W G b)
  refine ⟨c, hc, Eq.trans ?_ e⟩
  unfold columnList
  refine (shapeCast_apply _ _ _ (ValueIdx.ix2 b (0 : Fin 1)) ?_).trans ?_
  · rw [Shape.rowMajor_val_two, Shape.rowMajor_val_one]
    show b.val * 1 + 0 = b.val
    omega
  · unfold extractStridedSlice
    refine congrArg _ (funext fun a => Fin.ext ?_)
    fin_cases a
    · show 0 + b.val = b.val; omega
    · rfl

end Scores

/-! ## The result -/

variable (m : (ℓ : Loc nD τ sig) → Buf (Elt Ideal) ℓ) (c : Dev nD)

abbrev listOf : IVec S256 32 :=
  columnList (m ((c.tc : Thread nD τ).loc main_arg0)) (m ((c.tc : Thread nD τ).loc main_arg7)) (m ((c.tc : Thread nD τ).loc main_arg10))

/-- The reference's result. -/
theorem result_value : Value.res_main_v40 m c = Gather.picked (m ((c.tc : Thread nD τ).loc main_arg8)) (listOf m c) := by
  refine Eq.trans ?_ (Gather.reference_value (m ((c.tc : Thread nD τ).loc main_arg8)) (listOf m c) (columnList_winners _ _ _).lt)
  unfold Value.res_main_v40 listOf columnList negScores xUnit wUnit factors
  rfl

end Cert.Proof.Reference

end
-- ==== Proof.WholeValue.lean ====
/-
  THE CLAIMS ABOUT THE WHOLE KERNEL, over the reals: it and the reference each terminate with their arguments unchanged and
  every semaphore counter at zero, and from the same arguments they end with the same result.
-/
module

public import proofs.«01_k».proof.Proof.ReferenceColumns

@[expose] public section

noncomputable section

namespace Cert.Proof.Whole

open Idealize.ShloMosaic Idealize.SL.Sem
open Cert.KernelIdeal (nD τ sig)
open Idealize.ShloMosaic.Pipeline (ucRefs)

open Cert.KernelIdeal in
/-- The eleven arguments are among what nothing writes. -/
theorem kept_all {m M : (ℓ : Loc nD τ sig) → Buf (Elt Ideal) ℓ} {d : Dev nD}
    (h : ∀ b : Ref sig .tc, b ∉ written → dv b ∈ ucRefs τ sig → M (d, dv b) = m (d, dv b)) :
    M (d, dv main_arg0) = m (d, dv main_arg0) ∧ M (d, dv main_arg1) = m (d, dv main_arg1) ∧ M (d, dv main_arg2) = m (d, dv main_arg2)
    ∧ M (d, dv main_arg3) = m (d, dv main_arg3) ∧ M (d, dv main_arg4) = m (d, dv main_arg4) ∧ M (d, dv main_arg5) = m (d, dv main_arg5)
    ∧ M (d, dv main_arg6) = m (d, dv main_arg6) ∧ M (d, dv main_arg7) = m (d, dv main_arg7) ∧ M (d, dv main_arg8) = m (d, dv main_arg8)
    ∧ M (d, dv main_arg9) = m (d, dv main_arg9) ∧ M (d, dv main_arg10) = m (d, dv main_arg10) := by
  refine ⟨?_, ?_, ?_, ?_, ?_, ?_, ?_, ?_, ?_, ?_, ?_⟩ <;> exact h _ (by decide) (by decide)

/-- `Cert.quiescent_KernelIdeal`. -/
theorem frame_kernel : Cert.quiescent_KernelIdeal := fun m ρ _ =>
  (θ_run Cert.KernelIdeal.defs _ _).mono (fun _ h => ⟨fun d => kept_all (h.1 d).2, h.2⟩) (run_values m ρ)

/-- `Cert.quiescent_ReferenceIdeal`: a straight line of host operations that declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.algebraic_KernelIdeal_ReferenceIdeal`: both end at the columns of `W_y2z` with the greatest scores. -/
theorem algebraic_whole : Cert.algebraic_KernelIdeal_ReferenceIdeal := fun m ρ m' ρ' _ hargs =>
  ⟨fun d => Gather.picked (m (d, dv Cert.KernelIdeal.main_arg8)) (lst m d),
    (θ_run Cert.KernelIdeal.defs _ _).mono (fun _ h d => ⟨(h.1 d).1, kept_all (h.1 d).2⟩) (run_values m ρ),
    (θ_run Cert.ReferenceIdeal.defs _ _).mono (fun _ h d => ⟨(h d).1.trans ((Reference.result_value m' d).trans (by
        obtain ⟨h0, -, -, -, -, -, -, h7, h8, -, h10⟩ := hargs d
        unfold Reference.listOf
        rw [h0, h7, h8, h10]
        exact congrArg (Gather.picked _) ((Reference.columnList_winners _ _ _).unique (lst_winners m d)))), (h d).2⟩)
      (Cert.ReferenceIdeal.Value.run (F := Ideal) m' ρ')⟩

end Cert.Proof.Whole

end
-- ==== Proof.lean ====
module

public import proofs.«01_k».proof.Defs
public import proofs.«01_k».proof.Proof.GatherValue
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.WholeValue

@[expose] public section

noncomputable section

namespace Cert.Proof

theorem claim : Cert.Claim :=
  ⟨Cert.Gather.Gen.facts, Cert.GatherIdeal.Gen.facts, Cert.ColumnsIdeal.Gen.facts, Cert.KernelIdeal.Gen.facts, Cert.ReferenceIdeal.Gen.facts,
    Cert.Pre_winners_in_range.Gen.facts,
    Gather.frame_gather, Gather.frame_gatherIdeal, Gather.frame_columns, Gather.frame_columns_pre, Whole.frame_kernel, Whole.frame_reference,
    trivial, Gather.algebraic_gather, Whole.algebraic_whole⟩

end Cert.Proof

end
